-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151_0) = v0 c
          ∧ r.2.mem ((c.tc : Thread Cert.ReferenceIdeal.nD Cert.ReferenceIdeal.τ).loc Cert.ReferenceIdeal.main_v151_1) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x2048 : Shape := ⟨3, ![5, 384, 2048]⟩
abbrev S2048 : Shape := ⟨1, ![2048]⟩
abbrev S512x1536 : Shape := ⟨2, ![512, 1536]⟩
abbrev S1 : Shape := ⟨1, ![1]⟩
abbrev S1920x2048 : Shape := ⟨2, ![1920, 2048]⟩
abbrev S8x256 : Shape := ⟨2, ![8, 256]⟩
abbrev S1920x1536 : Shape := ⟨2, ![1920, 1536]⟩
abbrev S5x384 : Shape := ⟨2, ![5, 384]⟩
abbrev S384x2048 : Shape := ⟨2, ![384, 2048]⟩
abbrev S384x1536 : Shape := ⟨2, ![384, 1536]⟩
abbrev S8x3x256x256 : Shape := ⟨4, ![8, 3, 256, 256]⟩
abbrev S2048x1024 : Shape := ⟨2, ![2048, 1024]⟩
abbrev S384x128 : Shape := ⟨2, ![384, 128]⟩
abbrev S256x256 : Shape := ⟨2, ![256, 256]⟩
abbrev S256x8 : Shape := ⟨2, ![256, 8]⟩
abbrev S256x1 : Shape := ⟨2, ![256, 1]⟩
abbrev S1x1x256x256 : Shape := ⟨4, ![1, 1, 256, 256]⟩
abbrev S512x256 : Shape := ⟨2, ![512, 256]⟩
abbrev S128x256 : Shape := ⟨2, ![128, 256]⟩
abbrev S128x1536 : Shape := ⟨2, ![128, 1536]⟩
abbrev S1x128x1536 : Shape := ⟨3, ![1, 128, 1536]⟩
abbrev S1x1x1 : Shape := ⟨3, ![1, 1, 1]⟩
abbrev S192x256 : Shape := ⟨2, ![192, 256]⟩
abbrev S16x128 : Shape := ⟨2, ![16, 128]⟩
abbrev S16 : Shape := ⟨1, ![16]⟩
abbrev S16x1 : Shape := ⟨2, ![16, 1]⟩
abbrev S32x1 : Shape := ⟨2, ![32, 1]⟩
abbrev S32x128 : Shape := ⟨2, ![32, 128]⟩
abbrev S192x2048 : Shape := ⟨2, ![192, 2048]⟩
abbrev S192x1 : Shape := ⟨2, ![192, 1]⟩
abbrev S2048x256 : Shape := ⟨2, ![2048, 256]⟩
abbrev S128x128 : Shape := ⟨2, ![128, 128]⟩
abbrev S5x128 : Shape := ⟨2, ![5, 128]⟩
abbrev S128 : Shape := ⟨1, ![128]⟩
abbrev S1x128 : Shape := ⟨2, ![1, 128]⟩
abbrev S384x512 : Shape := ⟨2, ![384, 512]⟩
abbrev S384x256 : Shape := ⟨2, ![384, 256]⟩
abbrev S384x1 : Shape := ⟨2, ![384, 1]⟩

abbrev nBuf : Space → Nat
  | .hbm => 9
  | .vmem => 14
  | .smem => 2
  | _ => 0

abbrev bufTy : (tb : Table) → Fin (tcTables nBuf tb) → BufTy
  | .hbm, ⟨0, _⟩ => ⟨S5x384x2048, .bf16⟩
  | .hbm, ⟨1, _⟩ => ⟨S2048, .f32⟩
  | .hbm, ⟨2, _⟩ => ⟨S512x1536, .i8⟩
  | .hbm, ⟨3, _⟩ => ⟨S1, .f32⟩
  | .hbm, ⟨4, _⟩ => ⟨S1920x2048, .bf16⟩
  | .hbm, ⟨5, _⟩ => ⟨S8x256, .f32⟩
  | .hbm, ⟨6, _⟩ => ⟨S1920x1536, .bf16⟩
  | .hbm, ⟨7, _⟩ => ⟨S1920x2048, .i8⟩
  | .hbm, ⟨8, _⟩ => ⟨S5x384, .f32⟩
  | .local _ .vmem, ⟨0, _⟩ => ⟨S384x2048, .bf16⟩
  | .local _ .vmem, ⟨1, _⟩ => ⟨S384x2048, .bf16⟩
  | .local _ .vmem, ⟨2, _⟩ => ⟨S8x256, .f32⟩
  | .local _ .vmem, ⟨3, _⟩ => ⟨S512x1536, .i8⟩
  | .local _ .vmem, ⟨4, _⟩ => ⟨S384x1536, .bf16⟩
  | .local _ .vmem, ⟨5, _⟩ => ⟨S384x1536, .bf16⟩
  | .local _ .vmem, ⟨6, _⟩ => ⟨S384x2048, .i8⟩
  | .local _ .vmem, ⟨7, _⟩ => ⟨S384x2048, .i8⟩
  | .local _ .vmem, ⟨8, _⟩ => ⟨S5x384, .f32⟩
  | .local _ .vmem, ⟨9, _⟩ => ⟨S8x3x256x256, .bf16⟩
  | .local _ .vmem, ⟨10, _⟩ => ⟨S2048x1024, .bf16⟩
  | .local _ .vmem, ⟨11, _⟩ => ⟨S384x2048, .f32⟩
  | .local _ .vmem, ⟨12, _⟩ => ⟨S384x2048, .bf16⟩
  | .local _ .vmem, ⟨13, _⟩ => ⟨S384x128, .f32⟩
  | .local _ .smem, ⟨0, _⟩ => ⟨S1, .f32⟩
  | .local _ .smem, ⟨1, _⟩ => ⟨S1, .i32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg3_0 : Ref sig .tc := ⟨.smem, 0, rfl⟩
abbrev cc0_scratch5 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S5x384x2048 : Shape := ⟨3, ![5, 384, 2048]⟩
abbrev S2048 : Shape := ⟨1, ![2048]⟩
abbrev S512x1536 : Shape := ⟨2, ![512, 1536]⟩
abbrev S1 : Shape := ⟨1, ![1]⟩
abbrev S_ : Shape := ⟨0, ![]⟩
abbrev S5x384 : Shape := ⟨2, ![5, 384]⟩
abbrev S5x384x1 : Shape := ⟨3, ![5, 384, 1]⟩
abbrev S1x1x2048 : Shape := ⟨3, ![1, 1, 2048]⟩
abbrev S5x384x1x2x1024 : Shape := ⟨5, ![5, 384, 1, 2, 1024]⟩
abbrev S5x384x1x1x1024 : Shape := ⟨5, ![5, 384, 1, 1, 1024]⟩
abbrev S5x384x1x1024 : Shape := ⟨4, ![5, 384, 1, 1024]⟩
abbrev S5x384x2x2x512 : Shape := ⟨5, ![5, 384, 2, 2, 512]⟩
abbrev S5x384x2x1x512 : Shape := ⟨5, ![5, 384, 2, 1, 512]⟩
abbrev S5x384x2x512 : Shape := ⟨4, ![5, 384, 2, 512]⟩
abbrev S5x384x4x2x256 : Shape := ⟨5, ![5, 384, 4, 2, 256]⟩
abbrev S5x384x4x1x256 : Shape := ⟨5, ![5, 384, 4, 1, 256]⟩
abbrev S5x384x4x256 : Shape := ⟨4, ![5, 384, 4, 256]⟩
abbrev S5x384x8x2x128 : Shape := ⟨5, ![5, 384, 8, 2, 128]⟩
abbrev S5x384x8x1x128 : Shape := ⟨5, ![5, 384, 8, 1, 128]⟩
abbrev S5x384x8x128 : Shape := ⟨4, ![5, 384, 8, 128]⟩
abbrev S5x384x16x2x64 : Shape := ⟨5, ![5, 384, 16, 2, 64]⟩
abbrev S5x384x16x1x64 : Shape := ⟨5, ![5, 384, 16, 1, 64]⟩
abbrev S5x384x16x64 : Shape := ⟨4, ![5, 384, 16, 64]⟩
abbrev S5x384x32x2x32 : Shape := ⟨5, ![5, 384, 32, 2, 32]⟩
abbrev S5x384x32x1x32 : Shape := ⟨5, ![5, 384, 32, 1, 32]⟩
abbrev S5x384x32x32 : Shape := ⟨4, ![5, 384, 32, 32]⟩
abbrev S5x384x64x2x16 : Shape := ⟨5, ![5, 384, 64, 2, 16]⟩
abbrev S5x384x64x1x16 : Shape := ⟨5, ![5, 384, 64, 1, 16]⟩
abbrev S5x384x64x16 : Shape := ⟨4, ![5, 384, 64, 16]⟩
abbrev S5x384x128x2x8 : Shape := ⟨5, ![5, 384, 128, 2, 8]⟩
abbrev S5x384x128x1x8 : Shape := ⟨5, ![5, 384, 128, 1, 8]⟩
abbrev S5x384x128x8 : Shape := ⟨4, ![5, 384, 128, 8]⟩
abbrev S5x384x256x2x4 : Shape := ⟨5, ![5, 384, 256, 2, 4]⟩
abbrev S5x384x256x1x4 : Shape := ⟨5, ![5, 384, 256, 1, 4]⟩
abbrev S5x384x256x4 : Shape := ⟨4, ![5, 384, 256, 4]⟩
abbrev S5x384x512x2x2 : Shape := ⟨5, ![5, 384, 512, 2, 2]⟩
abbrev S5x384x512x1x2 : Shape := ⟨5, ![5, 384, 512, 1, 2]⟩
abbrev S5x384x512x2 : Shape := ⟨4, ![5, 384, 512, 2]⟩
abbrev S5x384x1024x2x1 : Shape := ⟨5, ![5, 384, 1024, 2, 1]⟩
abbrev S5x384x1024x1x1 : Shape := ⟨5, ![5, 384, 1024, 1, 1]⟩
abbrev S5x384x1024x1 : Shape := ⟨4, ![5, 384, 1024, 1]⟩
abbrev S1920x2048 : Shape := ⟨2, ![1920, 2048]⟩
abbrev S1920x1 : Shape := ⟨2, ![1920, 1]⟩
abbrev S1920x1536 : Shape := ⟨2, ![1920, 1536]⟩
abbrev S1920x512 : Shape := ⟨2, ![1920, 512]⟩

abbrev nBuf : Space → Nat
  | .hbm => 173
  | .vmem => 5
  | .smem => 1
  | _ => 0

abbrev hbmTy0_0 (i : Nat) : BufTy := match i % 128 with
  | 0 => ⟨S5x384x2048, .bf16⟩
  | 1 => ⟨S2048, .f32⟩
  | 2 => ⟨S512x1536, .i8⟩
  | 3 => ⟨S1, .f32⟩
  | 4 => ⟨S5x384x2048, .f32⟩
  | 5 => ⟨S5x384x2048, .f32⟩
  | 6 => ⟨S_, .f32⟩
  | 7 => ⟨S5x384, .f32⟩
  | 8 => ⟨S5x384x1, .f32⟩
  | 9 => ⟨S_, .f32⟩
  | 10 => ⟨S5x384x1, .f32⟩
  | 11 => ⟨S5x384x1, .f32⟩
  | 12 => ⟨S_, .f32⟩
  | 13 => ⟨S5x384x1, .f32⟩
  | 14 => ⟨S5x384x1, .f32⟩
  | 15 => ⟨S5x384x1, .f32⟩
  | 16 => ⟨S5x384x2048, .f32⟩
  | 17 => ⟨S5x384x2048, .f32⟩
  | 18 => ⟨S1x1x2048, .f32⟩
  | 19 => ⟨S5x384x2048, .f32⟩
  | 20 => ⟨S5x384x2048, .f32⟩
  | 21 => ⟨S5x384x1x2x1024, .f32⟩
  | 22 => ⟨S5x384x1x1x1024, .f32⟩
  | 23 => ⟨S5x384x1x1024, .f32⟩
  | 24 => ⟨S5x384x1x1x1024, .f32⟩
  | 25 => ⟨S5x384x1x1024, .f32⟩
  | 26 => ⟨S5x384x1x1024, .f32⟩
  | 27 => ⟨S5x384x1x1024, .f32⟩
  | 28 => ⟨S5x384x1x1x1024, .f32⟩
  | 29 => ⟨S5x384x1x1x1024, .f32⟩
  | 30 => ⟨S5x384x1x2x1024, .f32⟩
  | 31 => ⟨S5x384x2048, .f32⟩
  | 32 => ⟨S5x384x2x2x512, .f32⟩
  | 33 => ⟨S5x384x2x1x512, .f32⟩
  | 34 => ⟨S5x384x2x512, .f32⟩
  | 35 => ⟨S5x384x2x1x512, .f32⟩
  | 36 => ⟨S5x384x2x512, .f32⟩
  | 37 => ⟨S5x384x2x512, .f32⟩
  | 38 => ⟨S5x384x2x512, .f32⟩
  | 39 => ⟨S5x384x2x1x512, .f32⟩
  | 40 => ⟨S5x384x2x1x512, .f32⟩
  | 41 => ⟨S5x384x2x2x512, .f32⟩
  | 42 => ⟨S5x384x2048, .f32⟩
  | 43 => ⟨S5x384x4x2x256, .f32⟩
  | 44 => ⟨S5x384x4x1x256, .f32⟩
  | 45 => ⟨S5x384x4x256, .f32⟩
  | 46 => ⟨S5x384x4x1x256, .f32⟩
  | 47 => ⟨S5x384x4x256, .f32⟩
  | 48 => ⟨S5x384x4x256, .f32⟩
  | 49 => ⟨S5x384x4x256, .f32⟩
  | 50 => ⟨S5x384x4x1x256, .f32⟩
  | 51 => ⟨S5x384x4x1x256, .f32⟩
  | 52 => ⟨S5x384x4x2x256, .f32⟩
  | 53 => ⟨S5x384x2048, .f32⟩
  | 54 => ⟨S5x384x8x2x128, .f32⟩
  | 55 => ⟨S5x384x8x1x128, .f32⟩
  | 56 => ⟨S5x384x8x128, .f32⟩
  | 57 => ⟨S5x384x8x1x128, .f32⟩
  | 58 => ⟨S5x384x8x128, .f32⟩
  | 59 => ⟨S5x384x8x128, .f32⟩
  | 60 => ⟨S5x384x8x128, .f32⟩
  | 61 => ⟨S5x384x8x1x128, .f32⟩
  | 62 => ⟨S5x384x8x1x128, .f32⟩
  | 63 => ⟨S5x384x8x2x128, .f32⟩
  | 64 => ⟨S5x384x2048, .f32⟩
  | 65 => ⟨S5x384x16x2x64, .f32⟩
  | 66 => ⟨S5x384x16x1x64, .f32⟩
  | 67 => ⟨S5x384x16x64, .f32⟩
  | 68 => ⟨S5x384x16x1x64, .f32⟩
  | 69 => ⟨S5x384x16x64, .f32⟩
  | 70 => ⟨S5x384x16x64, .f32⟩
  | 71 => ⟨S5x384x16x64, .f32⟩
  | 72 => ⟨S5x384x16x1x64, .f32⟩
  | 73 => ⟨S5x384x16x1x64, .f32⟩
  | 74 => ⟨S5x384x16x2x64, .f32⟩
  | 75 => ⟨S5x384x2048, .f32⟩
  | 76 => ⟨S5x384x32x2x32, .f32⟩
  | 77 => ⟨S5x384x32x1x32, .f32⟩
  | 78 => ⟨S5x384x32x32, .f32⟩
  | 79 => ⟨S5x384x32x1x32, .f32⟩
  | 80 => ⟨S5x384x32x32, .f32⟩
  | 81 => ⟨S5x384x32x32, .f32⟩
  | 82 => ⟨S5x384x32x32, .f32⟩
  | 83 => ⟨S5x384x32x1x32, .f32⟩
  | 84 => ⟨S5x384x32x1x32, .f32⟩
  | 85 => ⟨S5x384x32x2x32, .f32⟩
  | 86 => ⟨S5x384x2048, .f32⟩
  | 87 => ⟨S5x384x64x2x16, .f32⟩
  | 88 => ⟨S5x384x64x1x16, .f32⟩
  | 89 => ⟨S5x384x64x16, .f32⟩
  | 90 => ⟨S5x384x64x1x16, .f32⟩
  | 91 => ⟨S5x384x64x16, .f32⟩
  | 92 => ⟨S5x384x64x16, .f32⟩
  | 93 => ⟨S5x384x64x16, .f32⟩
  | 94 => ⟨S5x384x64x1x16, .f32⟩
  | 95 => ⟨S5x384x64x1x16, .f32⟩
  | 96 => ⟨S5x384x64x2x16, .f32⟩
  | 97 => ⟨S5x384x2048, .f32⟩
  | 98 => ⟨S5x384x128x2x8, .f32⟩
  | 99 => ⟨S5x384x128x1x8, .f32⟩
  | 100 => ⟨S5x384x128x8, .f32⟩
  | 101 => ⟨S5x384x128x1x8, .f32⟩
  | 102 => ⟨S5x384x128x8, .f32⟩
  | 103 => ⟨S5x384x128x8, .f32⟩
  | 104 => ⟨S5x384x128x8, .f32⟩
  | 105 => ⟨S5x384x128x1x8, .f32⟩
  | 106 => ⟨S5x384x128x1x8, .f32⟩
  | 107 => ⟨S5x384x128x2x8, .f32⟩
  | 108 => ⟨S5x384x2048, .f32⟩
  | 109 => ⟨S5x384x256x2x4, .f32⟩
  | 110 => ⟨S5x384x256x1x4, .f32⟩
  | 111 => ⟨S5x384x256x4, .f32⟩
  | 112 => ⟨S5x384x256x1x4, .f32⟩
  | 113 => ⟨S5x384x256x4, .f32⟩
  | 114 => ⟨S5x384x256x4, .f32⟩
  | 115 => ⟨S5x384x256x4, .f32⟩
  | 116 => ⟨S5x384x256x1x4, .f32⟩
  | 117 => ⟨S5x384x256x1x4, .f32⟩
  | 118 => ⟨S5x384x256x2x4, .f32⟩
  | 119 => ⟨S5x384x2048, .f32⟩
  | 120 => ⟨S5x384x512x2x2, .f32⟩
  | 121 => ⟨S5x384x512x1x2, .f32⟩
  | 122 => ⟨S5x384x512x2, .f32⟩
  | 123 => ⟨S5x384x512x1x2, .f32⟩
  | 124 => ⟨S5x384x512x2, .f32⟩
  | 125 => ⟨S5x384x512x2, .f32⟩
  | 126 => ⟨S5x384x512x2, .f32⟩
  | 127 => ⟨S5x384x512x1x2, .f32⟩
  | _ => ⟨S5x384x2048, .bf16⟩

abbrev hbmTy0_1 (i : Nat) : BufTy := match i % 128 with
  | 0 => ⟨S5x384x512x1x2, .f32⟩
  | 1 => ⟨S5x384x512x2x2, .f32⟩
  | 2 => ⟨S5x384x2048, .f32⟩
  | 3 => ⟨S5x384x1024x2x1, .f32⟩
  | 4 => ⟨S5x384x1024x1x1, .f32⟩
  | 5 => ⟨S5x384x1024x1, .f32⟩
  | 6 => ⟨S5x384x1024x1x1, .f32⟩
  | 7 => ⟨S5x384x1024x1, .f32⟩
  | 8 => ⟨S5x384x1024x1, .f32⟩
  | 9 => ⟨S5x384x1024x1, .f32⟩
  | 10 => ⟨S5x384x1024x1x1, .f32⟩
  | 11 => ⟨S5x384x1024x1x1, .f32⟩
  | 12 => ⟨S5x384x1024x2x1, .f32⟩
  | 13 => ⟨S5x384x2048, .f32⟩
  | 14 => ⟨S_, .f32⟩
  | 15 => ⟨S5x384x2048, .f32⟩
  | 16 => ⟨S5x384x2048, .f32⟩
  | 17 => ⟨S5x384x2048, .f32⟩
  | 18 => ⟨S_, .f32⟩
  | 19 => ⟨S5x384, .f32⟩
  | 20 => ⟨S_, .f32⟩
  | 21 => ⟨S5x384, .f32⟩
  | 22 => ⟨S5x384, .i1⟩
  | 23 => ⟨S_, .f32⟩
  | 24 => ⟨S5x384, .f32⟩
  | 25 => ⟨S5x384, .f32⟩
  | 26 => ⟨S_, .f32⟩
  | 27 => ⟨S5x384, .f32⟩
  | 28 => ⟨S5x384, .f32⟩
  | 29 => ⟨S5x384x1, .f32⟩
  | 30 => ⟨S5x384x2048, .f32⟩
  | 31 => ⟨S5x384x2048, .f32⟩
  | 32 => ⟨S5x384x2048, .f32⟩
  | 33 => ⟨S_, .f32⟩
  | 34 => ⟨S_, .f32⟩
  | 35 => ⟨S_, .f32⟩
  | 36 => ⟨S5x384x2048, .f32⟩
  | 37 => ⟨S5x384x2048, .f32⟩
  | 38 => ⟨S_, .f32⟩
  | 39 => ⟨S5x384x2048, .f32⟩
  | 40 => ⟨S5x384x2048, .f32⟩
  | 41 => ⟨S1920x2048, .f32⟩
  | 42 => ⟨S1920x1, .f32⟩
  | 43 => ⟨S1920x1536, .bf16⟩
  | 44 => ⟨S1920x2048, .i8⟩
  | _ => ⟨S5x384x2048, .bf16⟩

abbrev hbmTy (i : Nat) : BufTy := match i / 128 with
  | 0 => hbmTy0_0 i
  | 1 => hbmTy0_1 i
  | _ => ⟨S5x384x2048, .bf16⟩

abbrev bufTy : (tb : Table) → Fin (tcTables nBuf tb) → BufTy
  | .hbm, ⟨i, _⟩ => hbmTy i
  | .local _ .vmem, ⟨0, _⟩ => ⟨S1920x2048, .f32⟩
  | .local _ .vmem, ⟨1, _⟩ => ⟨S1920x1, .f32⟩
  | .local _ .vmem, ⟨2, _⟩ => ⟨S512x1536, .i8⟩
  | .local _ .vmem, ⟨3, _⟩ => ⟨S1920x1536, .bf16⟩
  | .local _ .vmem, ⟨4, _⟩ => ⟨S1920x2048, .i8⟩
  | .local _ .smem, ⟨0, _⟩ => ⟨S1, .f32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_cst_2 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_cst_3 : Ref sig .tc := ⟨.hbm, 146, rfl⟩
abbrev main_v138 : Ref sig .tc := ⟨.hbm, 147, rfl⟩
abbrev main_cst_4 : Ref sig .tc := ⟨.hbm, 148, rfl⟩
abbrev main_v139 : Ref sig .tc := ⟨.hbm, 149, rfl⟩
abbrev main_v140 : Ref sig .tc := ⟨.hbm, 150, rfl⟩
abbrev main_cst_5 : Ref sig .tc := ⟨.hbm, 151, rfl⟩
abbrev main_v141 : Ref sig .tc := ⟨.hbm, 152, rfl⟩
abbrev main_v142 : Ref sig .tc := ⟨.hbm, 153, rfl⟩
abbrev main_cst_6 : Ref sig .tc := ⟨.hbm, 154, rfl⟩
abbrev main_call0_v0 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_cst_7 : Ref sig .tc := ⟨.hbm, 161, rfl⟩
abbrev main_cst_8 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151_0 : Ref sig .tc := ⟨.hbm, 171, rfl⟩
abbrev main_v151_1 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.AtBits.Logic.lean ====
/- The logic the kernel's body is run in: what the body's thirteen buffers hold is a record `St`, a program's weakest
   precondition over it is `WP`, and a load or a store moves the record along. -/
module

public import proofs.«01_k».proof.Proof.Gen.Kernel.Frame
public import Idealize.ShloMosaic.Lib.VecWindow

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's thirteen memrefs. -/
structure Args where
  a1 : Memref sig .tc .vmem S384x2048 .bf16
  h1 : a1.IsWhole
  a2 : Memref sig .tc .vmem S8x256 .f32
  h2 : a2.IsWhole
  a3 : Memref sig .tc .vmem S512x1536 .i8
  h3 : a3.IsWhole
  a4 : Memref sig .tc .smem S1 .f32
  h4 : a4.IsWhole
  a5 : Memref sig .tc .vmem S384x1536 .bf16
  h5 : a5.IsWhole
  a6 : Memref sig .tc .vmem S384x2048 .i8
  h6 : a6.IsWhole
  a7 : Memref sig .tc .vmem S5x384 .f32
  h7 : a7.IsWhole
  a8 : Memref sig .tc .vmem S8x3x256x256 .bf16
  h8 : a8.IsWhole
  a9 : Memref sig .tc .vmem S2048x1024 .bf16
  h9 : a9.IsWhole
  a10 : Memref sig .tc .vmem S384x2048 .f32
  h10 : a10.IsWhole
  a11 : Memref sig .tc .vmem S384x2048 .bf16
  h11 : a11.IsWhole
  a12 : Memref sig .tc .vmem S384x128 .f32
  h12 : a12.IsWhole
  a13 : Memref sig .tc .smem S1 .i32
  h13 : a13.IsWhole

/-- What the thirteen memrefs read. -/
@[ext] structure St (F : FTy → Type) where
  x : S384x2048.Idx → Elt F .bf16
  gain : S8x256.Idx → Elt F .f32
  w : S512x1536.Idx → Elt F .i8
  ws : S1.Idx → Elt F .f32
  y : S384x1536.Idx → Elt F .bf16
  codes : S384x2048.Idx → Elt F .i8
  scales : S5x384.Idx → Elt F .f32
  had : S8x3x256x256.Idx → Elt F .bf16
  wp : S2048x1024.Idx → Elt F .bf16
  u : S384x2048.Idx → Elt F .f32
  cb : S384x2048.Idx → Elt F .bf16
  rs : S384x128.Idx → Elt F .f32
  flag : S1.Idx → Elt F .i32

/-- Core `d` owns the thirteen memrefs, reading `s`. -/
def Own (A : Args) (d : Dev nD) (s : St F) : sProp 𝕄 :=
  iprop(owns (d : Thread nD τ) A.a1 fullShare s.x ∗ owns (d : Thread nD τ) A.a2 fullShare s.gain ∗ owns (d : Thread nD τ) A.a3 fullShare s.w ∗ owns (d : Thread nD τ) A.a4 fullShare s.ws ∗ owns (d : Thread nD τ) A.a5 fullShare s.y ∗ owns (d : Thread nD τ) A.a6 fullShare s.codes ∗ owns (d : Thread nD τ) A.a7 fullShare s.scales ∗ owns (d : Thread nD τ) A.a8 fullShare s.had ∗ owns (d : Thread nD τ) A.a9 fullShare s.wp ∗ owns (d : Thread nD τ) A.a10 fullShare s.u ∗ owns (d : Thread nD τ) A.a11 fullShare s.cb ∗ owns (d : Thread nD τ) A.a12 fullShare s.rs ∗ owns (d : Thread nD τ) A.a13 fullShare s.flag)

/-- Run from `s`, the program ends in a state of `Q`. -/
def WP (A : Args) (𝒱 : Variants) (d : Dev nD) (p : Prog (TpuEff nD τ sig (Elt F) Λ₀ .tc) PUnit) (s : St F) (Q : St F → Prop) : Prop :=
  Own A d s ⊢ wp frame (wpE defs₀ 𝒱 (d : Thread nD τ) none) Set.univ p (fun _ => iprop(∃ s', ⌜Q s'⌝ ∗ Own A d s'))

variable {A : Args} {𝒱 : Variants} {d : Dev nD} {Q : St F → Prop} {s : St F}

theorem WP.ret (h : Q s) : WP A 𝒱 d (.ret ⟨⟩) s Q := by
  unfold WP
  rw [wp_ret]
  iintro H
  imodintro
  iexists s
  isplitr
  · ipureintro; exact h
  · iexact H

/-- A load through a memref the state holds reads the window of what it holds. -/
theorem WP.load_of {cs : CoreSpace} {sh : Shape} {e : EltTy} {M : Memref sig .tc cs sh e} {X : sh.Idx → Elt F e}
    {off size : Fin sh.rank → ℕ} {inb : ∀ a, off a + size a ≤ sh.size a} {hl : M.view.LoadsAt (Rect.unit off size inb).toLoadRect}
    {k : ((Rect.unit off size inb).shape.Idx → Elt F e) → Prog (TpuEff nD τ sig (Elt F) Λ₀ .tc) PUnit}
    (hf : Own A d s ⊢ iprop(owns (d : Thread nD τ) M fullShare X ∗ (owns (d : Thread nD τ) M fullShare X -∗ Own A d s)))
    (h : WP A 𝒱 d (k (VecWindow.window X off size inb)) s Q) :
    WP A 𝒱 d (.op (.load M (Rect.unit off size inb).toLoadRect hl) k) s Q := by
  unfold WP at *
  refine hf.trans ?_
  iintro ⟨H, Hc⟩
  ihave H := (show owns (d : Thread nD τ) M fullShare X ⊢ iprop(∃ g, ⌜M.view.read (Elt F) g = X⌝ ∗ M.view.loc (d : Thread nD τ) ↦[M.view.set]{fullShare} g) from .rfl) $$ H
  icases H with ⟨%g, %hg, H⟩
  iapply (wp_load 𝒱 (d : Thread nD τ) none Set.univ (m := M) (View.setOn_subset_set _ _)) $$ H
  iintro H
  rw [View.readAt_unit M.view g inb rfl inb, hg]
  iapply h
  iapply Hc
  rw [← hg]
  iapply (owns_intro (d : Thread nD τ) M fullShare g)
  iexact H

/-- A store through a memref the state holds puts the value at the rectangle. -/
theorem WP.store_of {cs : CoreSpace} {sh : Shape} {e : EltTy} {M : Memref sig .tc cs sh e} {X : sh.Idx → Elt F e} {s' : St F}
    {off size : Fin sh.rank → ℕ} {inb : ∀ a, off a + size a ≤ sh.size a} {w : (Rect.unit off size inb).shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) PUnit}
    (hf : Own A d s ⊢ iprop(owns (d : Thread nD τ) M fullShare X ∗ (owns (d : Thread nD τ) M fullShare (VecWindow.put X off size w) -∗ Own A d s')))
    (h : WP A 𝒱 d (k ⟨⟩) s' Q) :
    WP A 𝒱 d (.op (.store M (Rect.unit off size inb) w Finset.univ hx hm) k) s Q := by
  unfold WP at *
  refine hf.trans ?_
  iintro ⟨H, Hc⟩
  ihave H := (show owns (d : Thread nD τ) M fullShare X ⊢ iprop(∃ g, ⌜M.view.read (Elt F) g = X⌝ ∗ M.view.loc (d : Thread nD τ) ↦[M.view.set]{fullShare} g) from .rfl) $$ H
  icases H with ⟨%g, %hg, H⟩
  iapply (wp_store 𝒱 (d : Thread nD τ) none Set.univ (m := M) (r := Rect.unit off size inb) (w := w) (Mk := Finset.univ) (S := M.view.set) (f := g) (Memref.setOn_access_subset _ _ _)) $$ H
  iintro H
  iapply h
  iapply Hc
  have hr : M.view.read (Elt F) (M.view.writes (Elt F) g [⟨Rect.unit off size inb, w⟩]) = VecWindow.put X off size w := by
    rw [View.read_writes_cons_put M.view g inb w [] rfl, View.writes_nil, hg]
  rw [← hr]
  iapply (owns_intro (d : Thread nD τ) M fullShare _)
  iexact H

theorem own_x (v : S384x2048.Idx → Elt F .bf16) : Own A d s ⊢ iprop(owns (d : Thread nD τ) A.a1 fullShare s.x ∗ (owns (d : Thread nD τ) A.a1 fullShare v -∗ Own A d { s with x := v })) := by
  unfold Own
  iintro ⟨H0, H1, H2, H3, H4, H5, H6, H7, H8, H9, H10, H11, H12⟩
  isplitl [H0]
  · iexact H0
  · iintro H0
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_x {off size : Fin S384x2048.rank → ℕ} {inb : ∀ a, off a + size a ≤ S384x2048.size a} {hl : A.a1.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.x off size inb)) s Q) :
    WP A 𝒱 d (.op (.load A.a1 (Rect.unit off size inb).toLoadRect hl) k) s Q :=
  WP.load_of (own_x s.x) h

theorem WP.store_x {off size : Fin S384x2048.rank → ℕ} {inb : ∀ a, off a + size a ≤ S384x2048.size a} {w : (Rect.unit off size inb).shape.Idx → Elt F .bf16}
    {hx : (A.a1.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with x := VecWindow.put s.x off size w } Q) :
    WP A 𝒱 d (.op (.store A.a1 (Rect.unit off size inb) w Finset.univ hx hm) k) s Q :=
  WP.store_of (own_x _) h

theorem own_gain (v : S8x256.Idx → Elt F .f32) : Own A d s ⊢ iprop(owns (d : Thread nD τ) A.a2 fullShare s.gain ∗ (owns (d : Thread nD τ) A.a2 fullShare v -∗ Own A d { s with gain := v })) := by
  unfold Own
  iintro ⟨H0, H1, H2, H3, H4, H5, H6, H7, H8, H9, H10, H11, H12⟩
  isplitl [H1]
  · iexact H1
  · iintro H1
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_gain {off size : Fin S8x256.rank → ℕ} {inb : ∀ a, off a + size a ≤ S8x256.size a} {hl : A.a2.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.gain off size inb)) s Q) :
    WP A 𝒱 d (.op (.load A.a2 (Rect.unit off size inb).toLoadRect hl) k) s Q :=
  WP.load_of (own_gain s.gain) h

theorem WP.store_gain {off size : Fin S8x256.rank → ℕ} {inb : ∀ a, off a + size a ≤ S8x256.size a} {w : (Rect.unit off size inb).shape.Idx → Elt F .f32}
    {hx : (A.a2.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with gain := VecWindow.put s.gain off size w } Q) :
    WP A 𝒱 d (.op (.store A.a2 (Rect.unit off size inb) w Finset.univ hx hm) k) s Q :=
  WP.store_of (own_gain _) h

theorem own_w (v : S512x1536.Idx → Elt F .i8) : Own A d s ⊢ iprop(owns (d : Thread nD τ) A.a3 fullShare s.w ∗ (owns (d : Thread nD τ) A.a3 fullShare v -∗ Own A d { s with w := v })) := by
  unfold Own
  iintro ⟨H0, H1, H2, H3, H4, H5, H6, H7, H8, H9, H10, H11, H12⟩
  isplitl [H2]
  · iexact H2
  · iintro H2
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_w {off size : Fin S512x1536.rank → ℕ} {inb : ∀ a, off a + size a ≤ S512x1536.size a} {hl : A.a3.view.LoadsAt (Rect.unit off size inb).toLoadRect}
    {k : ((Rect.unit off size inb).shape.Idx → Elt F .i8) → Prog (TpuEff nD τ sig (Elt F) Λ₀ .tc) PUnit}
    (h : WP A 𝒱 d (k (VecWindow.window s.w off size inb)) s Q) :
    WP A 𝒱 d (.op (.load A.a3 (Rect.unit off size inb).toLoadRect hl) k) s Q :=
  WP.load_of (own_w s.w) h

theorem WP.store_w {off size : Fin S512x1536.rank → ℕ} {inb : ∀ a, off a + size a ≤ S512x1536.size a} {w : (Rect.unit off size inb).shape.Idx → Elt F .i8}
    {hx : (A.a3.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with w := VecWindow.put s.w off size w } Q) :
    WP A 𝒱 d (.op (.store A.a3 (Rect.unit off size inb) w Finset.univ hx hm) k) s Q :=
  WP.store_of (own_w _) h

theorem own_ws (v : S1.Idx → Elt F .f32) : Own A d s ⊢ iprop(owns (d : Thread nD τ) A.a4 fullShare s.ws ∗ (owns (d : Thread nD τ) A.a4 fullShare v -∗ Own A d { s with ws := v })) := by
  unfold Own
  iintro ⟨H0, H1, H2, H3, H4, H5, H6, H7, H8, H9, H10, H11, H12⟩
  isplitl [H3]
  · iexact H3
  · iintro H3
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_ws {off size : Fin S1.rank → ℕ} {inb : ∀ a, off a + size a ≤ S1.size a} {hl : A.a4.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.ws off size inb)) s Q) :
    WP A 𝒱 d (.op (.load A.a4 (Rect.unit off size inb).toLoadRect hl) k) s Q :=
  WP.load_of (own_ws s.ws) h

theorem WP.store_ws {off size : Fin S1.rank → ℕ} {inb : ∀ a, off a + size a ≤ S1.size a} {w : (Rect.unit off size inb).shape.Idx → Elt F .f32}
    {hx : (A.a4.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with ws := VecWindow.put s.ws off size w } Q) :
    WP A 𝒱 d (.op (.store A.a4 (Rect.unit off size inb) w Finset.univ hx hm) k) s Q :=
  WP.store_of (own_ws _) h

theorem own_y (v : S384x1536.Idx → Elt F .bf16) : Own A d s ⊢ iprop(owns (d : Thread nD τ) A.a5 fullShare s.y ∗ (owns (d : Thread nD τ) A.a5 fullShare v -∗ Own A d { s with y := v })) := by
  unfold Own
  iintro ⟨H0, H1, H2, H3, H4, H5, H6, H7, H8, H9, H10, H11, H12⟩
  isplitl [H4]
  · iexact H4
  · iintro H4
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_y {off size : Fin S384x1536.rank → ℕ} {inb : ∀ a, off a + size a ≤ S384x1536.size a} {hl : A.a5.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.y off size inb)) s Q) :
    WP A 𝒱 d (.op (.load A.a5 (Rect.unit off size inb).toLoadRect hl) k) s Q :=
  WP.load_of (own_y s.y) h

theorem WP.store_y {off size : Fin S384x1536.rank → ℕ} {inb : ∀ a, off a + size a ≤ S384x1536.size a} {w : (Rect.unit off size inb).shape.Idx → Elt F .bf16}
    {hx : (A.a5.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with y := VecWindow.put s.y off size w } Q) :
    WP A 𝒱 d (.op (.store A.a5 (Rect.unit off size inb) w Finset.univ hx hm) k) s Q :=
  WP.store_of (own_y _) h

theorem own_codes (v : S384x2048.Idx → Elt F .i8) : Own A d s ⊢ iprop(owns (d : Thread nD τ) A.a6 fullShare s.codes ∗ (owns (d : Thread nD τ) A.a6 fullShare v -∗ Own A d { s with codes := v })) := by
  unfold Own
  iintro ⟨H0, H1, H2, H3, H4, H5, H6, H7, H8, H9, H10, H11, H12⟩
  isplitl [H5]
  · iexact H5
  · iintro H5
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_codes {off size : Fin S384x2048.rank → ℕ} {inb : ∀ a, off a + size a ≤ S384x2048.size a} {hl : A.a6.view.LoadsAt (Rect.unit off size inb).toLoadRect}
    {k : ((Rect.unit off size inb).shape.Idx → Elt F .i8) → Prog (TpuEff nD τ sig (Elt F) Λ₀ .tc) PUnit}
    (h : WP A 𝒱 d (k (VecWindow.window s.codes off size inb)) s Q) :
    WP A 𝒱 d (.op (.load A.a6 (Rect.unit off size inb).toLoadRect hl) k) s Q :=
  WP.load_of (own_codes s.codes) h

theorem WP.store_codes {off size : Fin S384x2048.rank → ℕ} {inb : ∀ a, off a + size a ≤ S384x2048.size a} {w : (Rect.unit off size inb).shape.Idx → Elt F .i8}
    {hx : (A.a6.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with codes := VecWindow.put s.codes off size w } Q) :
    WP A 𝒱 d (.op (.store A.a6 (Rect.unit off size inb) w Finset.univ hx hm) k) s Q :=
  WP.store_of (own_codes _) h

theorem own_scales (v : S5x384.Idx → Elt F .f32) : Own A d s ⊢ iprop(owns (d : Thread nD τ) A.a7 fullShare s.scales ∗ (owns (d : Thread nD τ) A.a7 fullShare v -∗ Own A d { s with scales := v })) := by
  unfold Own
  iintro ⟨H0, H1, H2, H3, H4, H5, H6, H7, H8, H9, H10, H11, H12⟩
  isplitl [H6]
  · iexact H6
  · iintro H6
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_scales {off size : Fin S5x384.rank → ℕ} {inb : ∀ a, off a + size a ≤ S5x384.size a} {hl : A.a7.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.scales off size inb)) s Q) :
    WP A 𝒱 d (.op (.load A.a7 (Rect.unit off size inb).toLoadRect hl) k) s Q :=
  WP.load_of (own_scales s.scales) h

theorem WP.store_scales {off size : Fin S5x384.rank → ℕ} {inb : ∀ a, off a + size a ≤ S5x384.size a} {w : (Rect.unit off size inb).shape.Idx → Elt F .f32}
    {hx : (A.a7.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with scales := VecWindow.put s.scales off size w } Q) :
    WP A 𝒱 d (.op (.store A.a7 (Rect.unit off size inb) w Finset.univ hx hm) k) s Q :=
  WP.store_of (own_scales _) h

theorem own_had (v : S8x3x256x256.Idx → Elt F .bf16) : Own A d s ⊢ iprop(owns (d : Thread nD τ) A.a8 fullShare s.had ∗ (owns (d : Thread nD τ) A.a8 fullShare v -∗ Own A d { s with had := v })) := by
  unfold Own
  iintro ⟨H0, H1, H2, H3, H4, H5, H6, H7, H8, H9, H10, H11, H12⟩
  isplitl [H7]
  · iexact H7
  · iintro H7
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_had {off size : Fin S8x3x256x256.rank → ℕ} {inb : ∀ a, off a + size a ≤ S8x3x256x256.size a} {hl : A.a8.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.had off size inb)) s Q) :
    WP A 𝒱 d (.op (.load A.a8 (Rect.unit off size inb).toLoadRect hl) k) s Q :=
  WP.load_of (own_had s.had) h

theorem WP.store_had {off size : Fin S8x3x256x256.rank → ℕ} {inb : ∀ a, off a + size a ≤ S8x3x256x256.size a} {w : (Rect.unit off size inb).shape.Idx → Elt F .bf16}
    {hx : (A.a8.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with had := VecWindow.put s.had off size w } Q) :
    WP A 𝒱 d (.op (.store A.a8 (Rect.unit off size inb) w Finset.univ hx hm) k) s Q :=
  WP.store_of (own_had _) h

theorem own_wp (v : S2048x1024.Idx → Elt F .bf16) : Own A d s ⊢ iprop(owns (d : Thread nD τ) A.a9 fullShare s.wp ∗ (owns (d : Thread nD τ) A.a9 fullShare v -∗ Own A d { s with wp := v })) := by
  unfold Own
  iintro ⟨H0, H1, H2, H3, H4, H5, H6, H7, H8, H9, H10, H11, H12⟩
  isplitl [H8]
  · iexact H8
  · iintro H8
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_wp {off size : Fin S2048x1024.rank → ℕ} {inb : ∀ a, off a + size a ≤ S2048x1024.size a} {hl : A.a9.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.wp off size inb)) s Q) :
    WP A 𝒱 d (.op (.load A.a9 (Rect.unit off size inb).toLoadRect hl) k) s Q :=
  WP.load_of (own_wp s.wp) h

theorem WP.store_wp {off size : Fin S2048x1024.rank → ℕ} {inb : ∀ a, off a + size a ≤ S2048x1024.size a} {w : (Rect.unit off size inb).shape.Idx → Elt F .bf16}
    {hx : (A.a9.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with wp := VecWindow.put s.wp off size w } Q) :
    WP A 𝒱 d (.op (.store A.a9 (Rect.unit off size inb) w Finset.univ hx hm) k) s Q :=
  WP.store_of (own_wp _) h

theorem own_u (v : S384x2048.Idx → Elt F .f32) : Own A d s ⊢ iprop(owns (d : Thread nD τ) A.a10 fullShare s.u ∗ (owns (d : Thread nD τ) A.a10 fullShare v -∗ Own A d { s with u := v })) := by
  unfold Own
  iintro ⟨H0, H1, H2, H3, H4, H5, H6, H7, H8, H9, H10, H11, H12⟩
  isplitl [H9]
  · iexact H9
  · iintro H9
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_u {off size : Fin S384x2048.rank → ℕ} {inb : ∀ a, off a + size a ≤ S384x2048.size a} {hl : A.a10.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.u off size inb)) s Q) :
    WP A 𝒱 d (.op (.load A.a10 (Rect.unit off size inb).toLoadRect hl) k) s Q :=
  WP.load_of (own_u s.u) h

theorem WP.store_u {off size : Fin S384x2048.rank → ℕ} {inb : ∀ a, off a + size a ≤ S384x2048.size a} {w : (Rect.unit off size inb).shape.Idx → Elt F .f32}
    {hx : (A.a10.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with u := VecWindow.put s.u off size w } Q) :
    WP A 𝒱 d (.op (.store A.a10 (Rect.unit off size inb) w Finset.univ hx hm) k) s Q :=
  WP.store_of (own_u _) h

theorem own_cb (v : S384x2048.Idx → Elt F .bf16) : Own A d s ⊢ iprop(owns (d : Thread nD τ) A.a11 fullShare s.cb ∗ (owns (d : Thread nD τ) A.a11 fullShare v -∗ Own A d { s with cb := v })) := by
  unfold Own
  iintro ⟨H0, H1, H2, H3, H4, H5, H6, H7, H8, H9, H10, H11, H12⟩
  isplitl [H10]
  · iexact H10
  · iintro H10
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_cb {off size : Fin S384x2048.rank → ℕ} {inb : ∀ a, off a + size a ≤ S384x2048.size a} {hl : A.a11.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.cb off size inb)) s Q) :
    WP A 𝒱 d (.op (.load A.a11 (Rect.unit off size inb).toLoadRect hl) k) s Q :=
  WP.load_of (own_cb s.cb) h

theorem WP.store_cb {off size : Fin S384x2048.rank → ℕ} {inb : ∀ a, off a + size a ≤ S384x2048.size a} {w : (Rect.unit off size inb).shape.Idx → Elt F .bf16}
    {hx : (A.a11.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with cb := VecWindow.put s.cb off size w } Q) :
    WP A 𝒱 d (.op (.store A.a11 (Rect.unit off size inb) w Finset.univ hx hm) k) s Q :=
  WP.store_of (own_cb _) h

theorem own_rs (v : S384x128.Idx → Elt F .f32) : Own A d s ⊢ iprop(owns (d : Thread nD τ) A.a12 fullShare s.rs ∗ (owns (d : Thread nD τ) A.a12 fullShare v -∗ Own A d { s with rs := v })) := by
  unfold Own
  iintro ⟨H0, H1, H2, H3, H4, H5, H6, H7, H8, H9, H10, H11, H12⟩
  isplitl [H11]
  · iexact H11
  · iintro H11
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_rs {off size : Fin S384x128.rank → ℕ} {inb : ∀ a, off a + size a ≤ S384x128.size a} {hl : A.a12.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.rs off size inb)) s Q) :
    WP A 𝒱 d (.op (.load A.a12 (Rect.unit off size inb).toLoadRect hl) k) s Q :=
  WP.load_of (own_rs s.rs) h

theorem WP.store_rs {off size : Fin S384x128.rank → ℕ} {inb : ∀ a, off a + size a ≤ S384x128.size a} {w : (Rect.unit off size inb).shape.Idx → Elt F .f32}
    {hx : (A.a12.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with rs := VecWindow.put s.rs off size w } Q) :
    WP A 𝒱 d (.op (.store A.a12 (Rect.unit off size inb) w Finset.univ hx hm) k) s Q :=
  WP.store_of (own_rs _) h

theorem own_flag (v : S1.Idx → Elt F .i32) : Own A d s ⊢ iprop(owns (d : Thread nD τ) A.a13 fullShare s.flag ∗ (owns (d : Thread nD τ) A.a13 fullShare v -∗ Own A d { s with flag := v })) := by
  unfold Own
  iintro ⟨H0, H1, H2, H3, H4, H5, H6, H7, H8, H9, H10, H11, H12⟩
  isplitl [H12]
  · iexact H12
  · iintro H12
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_flag {off size : Fin S1.rank → ℕ} {inb : ∀ a, off a + size a ≤ S1.size a} {hl : A.a13.view.LoadsAt (Rect.unit off size inb).toLoadRect}
    {k : ((Rect.unit off size inb).shape.Idx → Elt F .i32) → Prog (TpuEff nD τ sig (Elt F) Λ₀ .tc) PUnit}
    (h : WP A 𝒱 d (k (VecWindow.window s.flag off size inb)) s Q) :
    WP A 𝒱 d (.op (.load A.a13 (Rect.unit off size inb).toLoadRect hl) k) s Q :=
  WP.load_of (own_flag s.flag) h

theorem WP.store_flag {off size : Fin S1.rank → ℕ} {inb : ∀ a, off a + size a ≤ S1.size a} {w : (Rect.unit off size inb).shape.Idx → Elt F .i32}
    {hx : (A.a13.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with flag := VecWindow.put s.flag off size w } Q) :
    WP A 𝒱 d (.op (.store A.a13 (Rect.unit off size inb) w Finset.univ hx hm) k) s Q :=
  WP.store_of (own_flag _) h

/-- The branch of a printed condition. -/
theorem WP.ite {c : Prop} [Decidable c] {p q : Prog (TpuEff nD τ sig (Elt F) Λ₀ .tc) PUnit}
    (hp : c → WP A 𝒱 d p s Q) (hq : ¬c → WP A 𝒱 d q s Q) : WP A 𝒱 d (if c then p else q) s Q := by
  split
  · exact hp ‹_›
  · exact hq ‹_›

end Cert.Kernel.Body

end
-- ==== Proof.AtBits.Blocks.lean ====
/- The kernel's body in blocks: each block is a piece of the body's text at general coordinates, with the program that
   follows as its continuation, and beside it what it does to the state (`…S`) and the rule that says so (`WP.…`). -/
module

public import proofs.«01_k».proof.Proof.AtBits.Logic

@[expose] public section

noncomputable section

namespace Cert.Kernel.Body

open Idealize.ShloMosaic Idealize.ShloMosaic.TcCoe Idealize.SL Idealize.SL.Sem
open Shapes1.Facts₀ Shapes2.Facts₀ K0.Facts₀ Facts

variable {F : FTy → Type} [FloatOps F]

/-- A program of the body. -/
abbrev P (F : FTy → Type) := Prog (TpuEff nD τ sig (Elt F) Λ₀ .tc) PUnit

/-- A load of a window, then `k`. -/
abbrev ld {sp : CoreSpace} {sh : Shape} {e : EltTy} (M : Memref sig .tc sp sh e) (off size : Fin sh.rank → ℕ) (inb : ∀ a, off a + size a ≤ sh.size a)
    (hl : M.view.LoadsAt (Rect.unit off size inb).toLoadRect) (k : ((Rect.unit off size inb).shape.Idx → Elt F e) → P F) : P F :=
  .op (.load M (Rect.unit off size inb).toLoadRect hl) k

/-- A store of a window, then `k`. -/
abbrev st {sp : CoreSpace} {sh : Shape} {e : EltTy} (M : Memref sig .tc sp sh e) (off size : Fin sh.rank → ℕ) (inb : ∀ a, off a + size a ≤ sh.size a)
    (w : (Rect.unit off size inb).shape.Idx → Elt F e) (hx : (M.access (Rect.unit off size inb)).Stores Finset.univ) (k : PUnit → P F) : P F :=
  .op (.store M (Rect.unit off size inb) w Finset.univ hx (.inl rfl)) k

theorem inb2 {R C a b r c : ℕ} (h₁ : r + a ≤ R) (h₂ : c + b ≤ C) : ∀ i, (![r, c] : Fin 2 → ℕ) i + (![a, b] : Fin 2 → ℕ) i ≤ (![R, C] : Fin 2 → ℕ) i := by
  intro i; fin_cases i <;> assumption

theorem inb4 {j t : ℕ} (h₁ : j < 8) (h₂ : t < 3) : ∀ i, (![j, t, 0, 0] : Fin 4 → ℕ) i + S1x1x256x256.size i ≤ S8x3x256x256.size i := by
  intro i; fin_cases i <;> simp <;> omega

/-- A loop carrying a value. -/
def loopK {σ : Type} {N : ℕ} (body : (i : ℕ) → i < N → σ → (σ → P F) → P F) : (n : ℕ) → n ≤ N → σ → (σ → P F) → P F
  | 0, _, a, k => k a
  | n + 1, h, a, k => loopK body n (Nat.le_of_succ_le h) a (fun a' => body n h a' k)

/-- A loop carrying nothing. -/
def loopU {N : ℕ} (body : (i : ℕ) → i < N → (PUnit → P F) → P F) : (n : ℕ) → n ≤ N → (PUnit → P F) → P F
  | 0, _, k => k ⟨⟩
  | n + 1, h, k => loopU body n (Nat.le_of_succ_le h) (fun _ => body n h k)

/-- A loop's fold. -/
def foldK {σ : Type} {N : ℕ} (f : (i : ℕ) → i < N → σ → σ) : (n : ℕ) → n ≤ N → σ → σ
  | 0, _, a => a
  | n + 1, h, a => f n h (foldK f n (Nat.le_of_succ_le h) a)

variable {A : Args} {𝒱 : Variants} {d : Dev nD} {Q : St F → Prop} {s : St F}

theorem WP.loopU {N : ℕ} {body : (i : ℕ) → i < N → (PUnit → P F) → P F} (f : (i : ℕ) → i < N → St F → St F)
    (hb : ∀ i hi k s, WP A 𝒱 d (k ⟨⟩) (f i hi s) Q → WP A 𝒱 d (body i hi k) s Q) :
    ∀ n hn k s, WP A 𝒱 d (k ⟨⟩) (foldK f n hn s) Q → WP A 𝒱 d (loopU body n hn k) s Q
  | 0, _, _, _, h => h
  | n + 1, hn, k, s, h => WP.loopU f hb n _ (fun _ => body n hn k) s (hb n hn k _ h)

theorem WP.loopK {σ : Type} {N : ℕ} {body : (i : ℕ) → i < N → σ → (σ → P F) → P F} (f : (i : ℕ) → i < N → σ × St F → σ × St F)
    (hb : ∀ i hi a k s, WP A 𝒱 d (k (f i hi (a, s)).1) (f i hi (a, s)).2 Q → WP A 𝒱 d (body i hi a k) s Q) :
    ∀ n hn a k s, WP A 𝒱 d (k (foldK f n hn (a, s)).1) (foldK f n hn (a, s)).2 Q → WP A 𝒱 d (loopK body n hn a k) s Q
  | 0, _, _, _, _, h => h
  | n + 1, hn, a, k, s, h => WP.loopK f hb n _ a (fun a' => body n hn a' k) s (hb n hn _ k _ h)

/-! ## One tile of the transform -/

/-- The tile's value: the rows times the three matrices, summed. -/
def hadTileV (x : Vec F S192x256 .bf16) (h0 h1 h2 : Vec F S1x1x256x256 .bf16) : FVec F S192x256 .f32 :=
  shapeCast S192x256 (addf (addf
    (matmul dot_S192x256_S256x256_S192x256_1_0_0_1_n_n none (shapeCast S192x256 x shapeCasts_S192x256_S192x256) (shapeCast S256x256 h0 shapeCasts_S1x1x256x256_S256x256) (constant S192x256 .f32 0x00000000#32))
    (matmul dot_S192x256_S256x256_S192x256_1_0_0_1_n_n none (shapeCast S192x256 x shapeCasts_S192x256_S192x256) (shapeCast S256x256 h1 shapeCasts_S1x1x256x256_S256x256) (constant S192x256 .f32 0x00000000#32)))
    (matmul dot_S192x256_S256x256_S192x256_1_0_0_1_n_n none (shapeCast S192x256 x shapeCasts_S192x256_S192x256) (shapeCast S256x256 h2 shapeCasts_S1x1x256x256_S256x256) (constant S192x256 .f32 0x00000000#32)))
    shapeCasts_S192x256_S192x256

/-- One tile: rows `r …`, columns `256 j …`. -/
def hadTile (A : Args) (r j : ℕ) (hr : r + 192 ≤ 384) (hj : j < 8) (k : PUnit → P F) : P F :=
  ld A.a1 ![r, 256 * j] S192x256.size (inb2 hr (by omega)) (View.loadsAt_vmem h_S192x256) fun x =>
  ld A.a8 ![j, 0, 0, 0] S1x1x256x256.size (inb4 hj (by omega)) (View.loadsAt_vmem h_S1x1x256x256) fun h0 =>
  ld A.a8 ![j, 1, 0, 0] S1x1x256x256.size (inb4 hj (by omega)) (View.loadsAt_vmem h_S1x1x256x256) fun h1 =>
  ld A.a8 ![j, 2, 0, 0] S1x1x256x256.size (inb4 hj (by omega)) (View.loadsAt_vmem h_S1x1x256x256) fun h2 =>
  ld A.a10 ![r, 256 * j] S192x256.size (inb2 hr (by omega)) (View.loadsAt_vmem h_S192x256) fun _ =>
  st A.a10 ![r, 256 * j] S192x256.size (inb2 hr (by omega)) (hadTileV x h0 h1 h2) (View.stores_vmem_bits_univ h_S192x256 rfl) k

def hadTileS (r j : ℕ) (hr : r + 192 ≤ 384) (hj : j < 8) (s : St F) : St F :=
  { s with u := VecWindow.put s.u ![r, 256 * j] S192x256.size (hadTileV
      (VecWindow.window s.x ![r, 256 * j] S192x256.size (inb2 hr (by omega)))
      (VecWindow.window s.had ![j, 0, 0, 0] S1x1x256x256.size (inb4 hj (by omega)))
      (VecWindow.window s.had ![j, 1, 0, 0] S1x1x256x256.size (inb4 hj (by omega)))
      (VecWindow.window s.had ![j, 2, 0, 0] S1x1x256x256.size (inb4 hj (by omega)))) }

theorem WP.hadTile {r j : ℕ} {hr : r + 192 ≤ 384} {hj : j < 8} {k : PUnit → P F} (h : WP A 𝒱 d (k ⟨⟩) (hadTileS r j hr hj s) Q) :
    WP A 𝒱 d (hadTile A r j hr hj k) s Q :=
  WP.load_x <| WP.load_had <| WP.load_had <| WP.load_had <| WP.load_u <| WP.store_u h

/-! ## Thirty-two rows: normalise, transform across tiles, quantise -/

/-- The squares of one column chunk. -/
def sqV (x : Vec F S16x128 .bf16) : FVec F S16x128 .f32 :=
  mulf (extf .f32 (shapeCast S16x128 x shapeCasts_S16x128_S16x128) bitsLt_bf16_f32) (extf .f32 (shapeCast S16x128 x shapeCasts_S16x128_S16x128) bitsLt_bf16_f32)

/-- The running sum of squares over sixteen column chunks. -/
def sqsum (A : Args) (r : ℕ) (hr : r + 16 ≤ 384) (k : FVec F S16x128 .f32 → P F) : P F :=
  ld A.a1 ![r, 0] S16x128.size (inb2 hr (by omega)) (View.loadsAt_vmem h_S16x128) fun x =>
  loopK (N := 15) (fun i hi a k => ld A.a1 ![r, 128 * (i + 1)] S16x128.size (inb2 hr (by omega)) (View.loadsAt_vmem h_S16x128) fun x => k (addf a (sqV x)))
    15 le_rfl (sqV x) k

def sqsumS (r : ℕ) (hr : r + 16 ≤ 384) (s : St F) : FVec F S16x128 .f32 :=
  foldK (N := 15) (fun i hi a => addf a (sqV (VecWindow.window s.x ![r, 128 * (i + 1)] S16x128.size (inb2 hr (by omega)))))
    15 le_rfl (sqV (VecWindow.window s.x ![r, 0] S16x128.size (inb2 hr (by omega))))

theorem foldK_pair {σ τ : Type} {N : ℕ} (f : (i : ℕ) → i < N → σ → σ) (s : τ) : ∀ n hn a,
    foldK (N := N) (fun i hi (p : σ × τ) => (f i hi p.1, p.2)) n hn (a, s) = (foldK f n hn a, s)
  | 0, _, _ => rfl
  | n + 1, hn, a => by simp only [foldK, foldK_pair f s n]

theorem foldK_pair' {σ τ : Type} {N : ℕ} (f : (i : ℕ) → i < N → τ → σ → σ) (s : τ) : ∀ n hn a,
    foldK (N := N) (fun i hi (p : σ × τ) => (f i hi p.2 p.1, p.2)) n hn (a, s) = (foldK (fun i hi => f i hi s) n hn a, s)
  | 0, _, _ => rfl
  | n + 1, hn, a => by simp only [foldK, foldK_pair' f s n]

theorem WP.sqsum {r : ℕ} {hr : r + 16 ≤ 384} {k : FVec F S16x128 .f32 → P F} (h : WP A 𝒱 d (k (sqsumS r hr s)) s Q) :
    WP A 𝒱 d (sqsum A r hr k) s Q := by
  refine WP.load_x <| WP.loopK (fun i hi p => (addf p.1 (sqV (VecWindow.window p.2.x ![r, 128 * (i + 1)] S16x128.size (inb2 hr (by omega)))), p.2))
    (fun i hi a k s h => WP.load_x h) _ _ _ _ _ ?_
  rw [foldK_pair' (fun i hi (s : St F) a => addf a (sqV (VecWindow.window s.x ![r, 128 * (i + 1)] S16x128.size (inb2 hr (by omega)))))]
  exact h

/-- The butterfly across eight tiles. -/
def bflyV (a : Fin 8 → FVec F S16x128 .f32) : Fin 8 → FVec F S16x128 .f32 :=
  let p0 := addf (a 0) (a 4); let m0 := subf (a 0) (a 4)
  let p1 := addf (a 1) (a 5); let m1 := subf (a 1) (a 5)
  let p2 := addf (a 2) (a 6); let m2 := subf (a 2) (a 6)
  let p3 := addf (a 3) (a 7); let m3 := subf (a 3) (a 7)
  let q0 := addf p0 p2; let q1 := subf p0 p2
  let q2 := addf p1 p3; let q3 := subf p1 p3
  let q4 := addf m0 m2; let q5 := subf m0 m2
  let q6 := addf m1 m3; let q7 := subf m1 m3
  ![addf q0 q2, subf q0 q2, addf q1 q3, subf q1 q3, addf q4 q6, subf q4 q6, addf q5 q7, subf q5 q7]

/-- Put the butterfly's result `v` into tile `j`, after a load of what is there. -/
def putU (A : Args) (r l j : ℕ) (hr : r + 16 ≤ 384) (hl : l + 128 ≤ 256) (hj : j < 8) (v : FVec F S16x128 .f32) (k : PUnit → P F) : P F :=
  ld A.a10 ![r, 256 * j + l] S16x128.size (inb2 hr (by omega)) (View.loadsAt_vmem h_S16x128) fun _ =>
  st A.a10 ![r, 256 * j + l] S16x128.size (inb2 hr (by omega)) (shapeCast S16x128 v shapeCasts_S16x128_S16x128) (View.stores_vmem_bits_univ h_S16x128 rfl) k

def putUS (r l j : ℕ) (v : FVec F S16x128 .f32) (s : St F) : St F :=
  { s with u := VecWindow.put s.u ![r, 256 * j + l] S16x128.size (shapeCast S16x128 v shapeCasts_S16x128_S16x128) }

theorem WP.putU {r l j : ℕ} {hr : r + 16 ≤ 384} {hl : l + 128 ≤ 256} {hj : j < 8} {v : FVec F S16x128 .f32} {k : PUnit → P F}
    (h : WP A 𝒱 d (k ⟨⟩) (putUS r l j v s) Q) : WP A 𝒱 d (putU A r l j hr hl hj v k) s Q :=
  WP.load_u <| WP.store_u h

/-- The eight loads of one lane half. -/
def ldU (A : Args) (r l : ℕ) (hr : r + 16 ≤ 384) (hl : l + 128 ≤ 256) (k : (Fin 8 → FVec F S16x128 .f32) → P F) : P F :=
  ld A.a10 ![r, 256 * 0 + l] S16x128.size (inb2 hr (by omega)) (View.loadsAt_vmem h_S16x128) fun a0 =>
  ld A.a10 ![r, 256 * 1 + l] S16x128.size (inb2 hr (by omega)) (View.loadsAt_vmem h_S16x128) fun a1 =>
  ld A.a10 ![r, 256 * 2 + l] S16x128.size (inb2 hr (by omega)) (View.loadsAt_vmem h_S16x128) fun a2 =>
  ld A.a10 ![r, 256 * 3 + l] S16x128.size (inb2 hr (by omega)) (View.loadsAt_vmem h_S16x128) fun a3 =>
  ld A.a10 ![r, 256 * 4 + l] S16x128.size (inb2 hr (by omega)) (View.loadsAt_vmem h_S16x128) fun a4 =>
  ld A.a10 ![r, 256 * 5 + l] S16x128.size (inb2 hr (by omega)) (View.loadsAt_vmem h_S16x128) fun a5 =>
  ld A.a10 ![r, 256 * 6 + l] S16x128.size (inb2 hr (by omega)) (View.loadsAt_vmem h_S16x128) fun a6 =>
  ld A.a10 ![r, 256 * 7 + l] S16x128.size (inb2 hr (by omega)) (View.loadsAt_vmem h_S16x128) fun a7 =>
  k ![a0, a1, a2, a3, a4, a5, a6, a7]

def ldUS (r l : ℕ) (hr : r + 16 ≤ 384) (hl : l + 128 ≤ 256) (s : St F) : Fin 8 → FVec F S16x128 .f32 :=
  ![VecWindow.window s.u ![r, 256 * 0 + l] S16x128.size (inb2 hr (by omega)), VecWindow.window s.u ![r, 256 * 1 + l] S16x128.size (inb2 hr (by omega)),
    VecWindow.window s.u ![r, 256 * 2 + l] S16x128.size (inb2 hr (by omega)), VecWindow.window s.u ![r, 256 * 3 + l] S16x128.size (inb2 hr (by omega)),
    VecWindow.window s.u ![r, 256 * 4 + l] S16x128.size (inb2 hr (by omega)), VecWindow.window s.u ![r, 256 * 5 + l] S16x128.size (inb2 hr (by omega)),
    VecWindow.window s.u ![r, 256 * 6 + l] S16x128.size (inb2 hr (by omega)), VecWindow.window s.u ![r, 256 * 7 + l] S16x128.size (inb2 hr (by omega))]

theorem WP.ldU {r l : ℕ} {hr : r + 16 ≤ 384} {hl : l + 128 ≤ 256} {k : (Fin 8 → FVec F S16x128 .f32) → P F}
    (h : WP A 𝒱 d (k (ldUS r l hr hl s)) s Q) : WP A 𝒱 d (ldU A r l hr hl k) s Q :=
  WP.load_u <| WP.load_u <| WP.load_u <| WP.load_u <| WP.load_u <| WP.load_u <| WP.load_u <| WP.load_u h

/-- The eight stores of one lane half. -/
def putAll (A : Args) (r l : ℕ) (hr : r + 16 ≤ 384) (hl : l + 128 ≤ 256) (v : Fin 8 → FVec F S16x128 .f32) (k : PUnit → P F) : P F :=
  loopU (N := 8) (fun j hj k => putU A r l j hr hl hj (v ⟨j, hj⟩) k) 8 le_rfl k

def putAllS (r l : ℕ) (v : Fin 8 → FVec F S16x128 .f32) (s : St F) : St F :=
  foldK (N := 8) (fun j hj s => putUS r l j (v ⟨j, hj⟩) s) 8 le_rfl s

theorem WP.putAll {r l : ℕ} {hr : r + 16 ≤ 384} {hl : l + 128 ≤ 256} {v : Fin 8 → FVec F S16x128 .f32} {k : PUnit → P F}
    (h : WP A 𝒱 d (k ⟨⟩) (putAllS r l v s) Q) : WP A 𝒱 d (putAll A r l hr hl v k) s Q :=
  WP.loopU (fun j hj s => putUS r l j (v ⟨j, hj⟩) s) (fun _ _ _ _ h => WP.putU h) _ _ _ _ h

/-- The largest magnitude of the two halves. -/
def amaxV (v w : Fin 8 → FVec F S16x128 .f32) : FVec F S16x128 .f32 :=
  let m := maximumf (maximumf (maximumf (maximumf (maximumf (maximumf (maximumf (absf (v 0)) (absf (v 1))) (absf (v 2))) (absf (v 3))) (absf (v 4))) (absf (v 5))) (absf (v 6))) (absf (v 7))
  maximumf (maximumf (maximumf (maximumf (maximumf (maximumf (maximumf (maximumf m (absf (w 0))) (absf (w 1))) (absf (w 2))) (absf (w 3))) (absf (w 4))) (absf (w 5))) (absf (w 6))) (absf (w 7))

/-- The row factor: `rsqrt (mean + ε)` times the transform's. -/
def rcV (q : FVec F S16x128 .f32) : FVec F S16x1 .f32 :=
  mulf (rsqrt (addf (mulf (shapeCast S16x1 (multiReduction .add [1] S16 q 0x00000000#32 reduces_S16x128_S16 (.inl rfl) rfl) shapeCasts_S16_S16x1)
    (broadcast S16x1 (Scalar.ofBits .f32 0x3A000000#32))) (broadcast S16x1 (Scalar.ofBits .f32 0x3727C5AC#32)))) (broadcast S16x1 (Scalar.ofBits .f32 0x3CB504F3#32))

/-- The row scale. -/
def scaleV (rc : FVec F S16x1 .f32) (m : FVec F S16x128 .f32) : FVec F S16x1 .f32 :=
  let a := mulf (shapeCast S16x1 (multiReduction .maximumf [1] S16 m 0xFF800000#32 reduces_S16x128_S16 (.inl rfl) rfl) shapeCasts_S16_S16x1) rc
  select (cmpf .oeq a (broadcast S16x1 (Scalar.ofBits .f32 0x00000000#32))) (broadcast S16x1 (Scalar.ofBits .f32 0x3F800000#32)) (divf a (broadcast S16x1 (Scalar.ofBits .f32 0x40E00000#32)))

/-- What is stored of a row's scale. -/
def scaleB (sc : FVec F S16x1 .f32) : FVec F S16x128 .f32 :=
  shapeCast S16x128 (broadcastTo S16x128 (shapeCast S16x1 sc shapeCasts_S16x1_S16x1) broadcasts_S16x1_S16x128) shapeCasts_S16x128_S16x128

/-- Sixteen rows: the factor and the scale are computed, the transform completed, and the scale stored; the quotient goes on. -/
def rows16 (A : Args) (r : ℕ) (hr : r + 16 ≤ 384) (k : FVec F S16x1 .f32 → P F) : P F :=
  sqsum A r hr fun q =>
  ldU A r 0 hr (by omega) fun a =>
  putAll A r 0 hr (by omega) (bflyV a) fun _ =>
  ldU A r 128 hr (by omega) fun b =>
  putAll A r 128 hr (by omega) (bflyV b) fun _ =>
  ld A.a12 ![r, 0] S16x128.size (inb2 hr (by omega)) (View.loadsAt_vmem h_S16x128) fun _ =>
  st A.a12 ![r, 0] S16x128.size (inb2 hr (by omega)) (scaleB (scaleV (rcV q) (amaxV (bflyV a) (bflyV b)))) (View.stores_vmem_bits_univ h_S16x128 rfl) fun _ =>
  k (divf (rcV q) (scaleV (rcV q) (amaxV (bflyV a) (bflyV b))))

def bfly0S (r : ℕ) (hr : r + 16 ≤ 384) (s : St F) : St F := putAllS r 0 (bflyV (ldUS r 0 hr (by omega) s)) s

def bfly1S (r : ℕ) (hr : r + 16 ≤ 384) (s : St F) : St F := putAllS r 128 (bflyV (ldUS r 128 hr (by omega) (bfly0S r hr s))) (bfly0S r hr s)

def scaleS (r : ℕ) (hr : r + 16 ≤ 384) (s : St F) : FVec F S16x1 .f32 :=
  scaleV (rcV (sqsumS r hr s)) (amaxV (bflyV (ldUS r 0 hr (by omega) s)) (bflyV (ldUS r 128 hr (by omega) (bfly0S r hr s))))

def invS (r : ℕ) (hr : r + 16 ≤ 384) (s : St F) : FVec F S16x1 .f32 := divf (rcV (sqsumS r hr s)) (scaleS r hr s)

def rows16S (r : ℕ) (hr : r + 16 ≤ 384) (s : St F) : St F :=
  { bfly1S r hr s with rs := VecWindow.put (bfly1S r hr s).rs ![r, 0] S16x128.size (scaleB (scaleS r hr s)) }

theorem WP.rows16 {r : ℕ} {hr : r + 16 ≤ 384} {k : FVec F S16x1 .f32 → P F} (h : WP A 𝒱 d (k (invS r hr s)) (rows16S r hr s) Q) :
    WP A 𝒱 d (rows16 A r hr k) s Q :=
  WP.sqsum <| WP.ldU <| WP.putAll <| WP.ldU <| WP.putAll <| WP.load_rs <| WP.store_rs h

/-- The codes of one column chunk. -/
def codesV (inv : FVec F S32x1 .f32) (v : Vec F S32x128 .f32) : IVec S32x128 8 :=
  fptosi 8 (minimumf (broadcast S32x128 (Scalar.ofBits .f32 0x40E00000#32)) (maximumf (broadcast S32x128 (Scalar.ofBits .f32 0xC0E00000#32))
    (roundeven (mulf v (broadcastTo S32x128 inv broadcasts_S32x1_S32x128)))))

def cbV (c : IVec S32x128 8) : FVec F S32x128 .bf16 := shapeCast S32x128 (sitofp .bf16 c) shapeCasts_S32x128_S32x128

theorem packed2 {R C a b r c p : ℕ} {inb} (h₁ : p ∣ r) (h₂ : p ∣ a) : (Rect.unit (s := ⟨2, ![R, C]⟩) ![r, c] (![a, b] : Fin 2 → ℕ) inb).PackedRows p :=
  Or.inr ⟨le_refl 2, rfl, Or.inl ⟨h₁, h₂⟩⟩

def codesChunk (A : Args) (r c : ℕ) (hr : r + 32 ≤ 384) (h32 : 32 ∣ r) (hc : c < 16) (inv : FVec F S32x1 .f32) (k : PUnit → P F) : P F :=
  ld A.a10 ![r, 128 * c] S32x128.size (inb2 hr (by omega)) (View.loadsAt_vmem h_S32x128) fun v =>
  ld A.a6 ![r, 128 * c] S32x128.size (inb2 hr (by omega)) (View.loadsAt_vmem h_S32x128) fun _ =>
  st A.a6 ![r, 128 * c] S32x128.size (inb2 hr (by omega)) (codesV inv v)
    (View.stores_vmem h_S32x128 (A.h6.storeExact_slice rfl _ (packed2 (Dvd.dvd.trans (by decide) h32) (by decide))) (fun _ => rfl)) fun _ =>
  ld A.a11 ![r, 128 * c] S32x128.size (inb2 hr (by omega)) (View.loadsAt_vmem h_S32x128) fun _ =>
  st A.a11 ![r, 128 * c] S32x128.size (inb2 hr (by omega)) (cbV (codesV inv v))
    (View.stores_vmem h_S32x128 (A.h11.storeExact_slice rfl _ (packed2 (Dvd.dvd.trans (by decide) h32) (by decide))) (fun _ => rfl)) k

def codesChunkS (r c : ℕ) (hr : r + 32 ≤ 384) (hc : c < 16) (inv : FVec F S32x1 .f32) (s : St F) : St F :=
  { s with
    codes := VecWindow.put s.codes ![r, 128 * c] S32x128.size (codesV inv (VecWindow.window s.u ![r, 128 * c] S32x128.size (inb2 hr (by omega))))
    cb := VecWindow.put s.cb ![r, 128 * c] S32x128.size (cbV (codesV inv (VecWindow.window s.u ![r, 128 * c] S32x128.size (inb2 hr (by omega))))) }

theorem WP.codesChunk {r c : ℕ} {hr : r + 32 ≤ 384} {h32 : 32 ∣ r} {hc : c < 16} {inv : FVec F S32x1 .f32} {k : PUnit → P F}
    (h : WP A 𝒱 d (k ⟨⟩) (codesChunkS r c hr hc inv s) Q) : WP A 𝒱 d (codesChunk A r c hr h32 hc inv k) s Q :=
  WP.load_u <| WP.load_codes <| WP.store_codes <| WP.load_cb <| WP.store_cb h

def codesAllS (r : ℕ) (hr : r + 32 ≤ 384) (inv : FVec F S32x1 .f32) (s : St F) : St F :=
  foldK (N := 16) (fun c hc s => codesChunkS r c hr hc inv s) 16 le_rfl s

/-- The two quotients, one under the other. -/
def inv32 (a b : FVec F S16x1 .f32) : FVec F S32x1 .f32 := concatenate S32x1 0 [⟨S16x1, a⟩, ⟨S16x1, b⟩] concatenates_S16x1_S16x1_S32x1_d0

def rows32 (A : Args) (r : ℕ) (hr : r + 32 ≤ 384) (h32 : 32 ∣ r) (k : PUnit → P F) : P F :=
  rows16 A r (by omega) fun a =>
  rows16 A (r + 16) (by omega) fun b =>
  loopU (N := 16) (fun c hc k => codesChunk A r c hr h32 hc (inv32 a b) k) 16 le_rfl k

def rows32S (r : ℕ) (hr : r + 32 ≤ 384) (s : St F) : St F :=
  codesAllS r hr (inv32 (invS r (by omega) s) (invS (r + 16) (by omega) (rows16S r (by omega) s))) (rows16S (r + 16) (by omega) (rows16S r (by omega) s))

theorem WP.rows32 {r : ℕ} {hr : r + 32 ≤ 384} {h32 : 32 ∣ r} {k : PUnit → P F} (h : WP A 𝒱 d (k ⟨⟩) (rows32S r hr s) Q) :
    WP A 𝒱 d (rows32 A r hr h32 k) s Q :=
  WP.rows16 <| WP.rows16 <| WP.loopU (fun c hc s => codesChunkS r c hr hc _ s) (fun _ _ _ _ h => WP.codesChunk h) _ _ _ _ h

end Cert.Kernel.Body

end
-- ==== Proof.AtBits.Blocks2.lean ====
/- The rest of the body's blocks: the projection of 192 rows, the row scales' table, the plain projection taken when a
   packed field is not one of three values, and the first point's preparation. -/
module

public import proofs.«01_k».proof.Proof.AtBits.Blocks

@[expose] public section

noncomputable section

namespace Cert.Kernel.Body

open Idealize.ShloMosaic Idealize.ShloMosaic.TcCoe Idealize.SL Idealize.SL.Sem
open Shapes1.Facts₀ Shapes2.Facts₀ K0.Facts₀ Facts

variable {F : FTy → Type} [FloatOps F]
variable {A : Args} {𝒱 : Variants} {d : Dev nD} {Q : St F → Prop} {s : St F}

/-- Put a value into a window of the result, after a load of what is there. -/
def putY (A : Args) {n m : ℕ} (r c : ℕ) (hr : r + n ≤ 384) (hc : c + m ≤ 1536) (h0 : 0 < (⟨2, ![n, m]⟩ : Shape).numel) (h2 : 2 ∣ r) (hn : 2 ∣ n)
    (v : FVec F ⟨2, ![n, m]⟩ .bf16) (k : PUnit → P F) : P F :=
  ld A.a5 ![r, c] (![n, m] : Fin 2 → ℕ) (inb2 hr hc) (View.loadsAt_vmem h0) fun _ =>
  st A.a5 ![r, c] (![n, m] : Fin 2 → ℕ) (inb2 hr hc) v (View.stores_vmem h0 (A.h5.storeExact_slice rfl _ (packed2 h2 hn)) (fun _ => rfl)) k

def putYS {n m : ℕ} (r c : ℕ) (v : FVec F ⟨2, ![n, m]⟩ .bf16) (s : St F) : St F :=
  { s with y := VecWindow.put s.y ![r, c] (![n, m] : Fin 2 → ℕ) v }

theorem WP.putY {n m r c : ℕ} {hr : r + n ≤ 384} {hc : c + m ≤ 1536} {h0 : 0 < (⟨2, ![n, m]⟩ : Shape).numel} {h2 : 2 ∣ r} {hn : 2 ∣ n}
    {v : FVec F ⟨2, ![n, m]⟩ .bf16} {k : PUnit → P F} (h : WP A 𝒱 d (k ⟨⟩) (putYS r c v s) Q) : WP A 𝒱 d (putY A r c hr hc h0 h2 hn v k) s Q :=
  WP.load_y <| WP.store_y h

/-- The one word of a scalar buffer. -/
abbrev ldw {e : EltTy} (M : Memref sig .tc .smem S1 e) (hl : M.view.LoadsAt (Rect.unit (s := S1) ![0] S1.size inb_S1_S1_0).toLoadRect) (k : Elt F e → P F) : P F :=
  ld M ![0] S1.size inb_S1_S1_0 hl fun f => k (f (Shape.Idx.first (numel1_S1.symm ▸ Nat.one_pos)))

/-- The one element read of a scalar buffer. -/
abbrev word {e : EltTy} (x : S1.Idx → Elt F e) : Elt F e :=
  VecWindow.window x ![0] S1.size inb_S1_S1_0 (Shape.Idx.first (numel1_S1.symm ▸ Nat.one_pos))

/-! ## The projection of 192 rows -/

/-- The row factors of the projection: scale times the weight's. -/
def bcV (sc : Vec F S192x1 .f32) (ws : F .f32) : FVec F S192x1 .f32 := mulf sc (broadcast S192x1 ws)

def acV (b : FVec F S192x1 .f32) : FVec F S192x1 .f32 := mulf b (broadcast S192x1 (Scalar.ofBits .f32 0x43000000#32))

/-- The product of the codes with a packed table. -/
def tabV (c : Vec F S192x2048 .bf16) (w : Vec F S2048x256 .bf16) : FVec F S192x256 .f32 :=
  matmul dot_S192x2048_S2048x256_S192x256_1_0_0_1_n_n none c w (constant S192x256 .f32 0x00000000#32)

/-- The middle product, separated. -/
def midV (t1 t2 : FVec F S192x256 .f32) : FVec F S192x256 .f32 :=
  roundeven (subf t1 (mulf t2 (broadcast S192x256 (Scalar.ofBits .f32 0x38008081#32))))

def y0V (b : FVec F S192x1 .f32) (t1 t2 : FVec F S192x256 .f32) : FVec F S192x256 .bf16 :=
  truncf .bf16 (mulf (subf t1 (midV t1 t2)) (broadcastTo S192x256 (acV b) broadcasts_S192x1_S192x256)) bitsLt_bf16_f32

def y1V (b : FVec F S192x1 .f32) (t1 t2 : FVec F S192x256 .f32) : FVec F S192x256 .bf16 :=
  truncf .bf16 (mulf (midV t1 t2) (broadcastTo S192x256 b broadcasts_S192x1_S192x256)) bitsLt_bf16_f32

def y2V (b : FVec F S192x1 .f32) (t1 t2 : FVec F S192x256 .f32) : FVec F S192x256 .bf16 :=
  truncf .bf16 (mulf (subf t2 (mulf (subf t1 (midV t1 t2)) (broadcast S192x256 (Scalar.ofBits .f32 0x46FF0000#32)))) (broadcastTo S192x256 b broadcasts_S192x1_S192x256)) bitsLt_bf16_f32

/-- One column tile's three results. -/
def projTile (A : Args) (r c : ℕ) (hr : r + 192 ≤ 384) (hc : c < 2) (h2 : 2 ∣ r) (cb : Vec F S192x2048 .bf16) (b : FVec F S192x1 .f32) (k : PUnit → P F) : P F :=
  ld A.a9 ![0, 256 * c] S2048x256.size (inb2 (by decide) (by omega)) (View.loadsAt_vmem h_S2048x256) fun w1 =>
  ld A.a9 ![0, 512 + 256 * c] S2048x256.size (inb2 (by decide) (by omega)) (View.loadsAt_vmem h_S2048x256) fun w2 =>
  putY A (n := 192) (m := 256) r (256 * c) hr (by omega) h_S192x256 h2 (by decide) (y0V b (tabV cb w1) (tabV cb w2)) fun _ =>
  putY A (n := 192) (m := 256) r (512 + 256 * c) hr (by omega) h_S192x256 h2 (by decide) (y1V b (tabV cb w1) (tabV cb w2)) fun _ =>
  putY A (n := 192) (m := 256) r (1024 + 256 * c) hr (by omega) h_S192x256 h2 (by decide) (y2V b (tabV cb w1) (tabV cb w2)) k

def tab1S (r c : ℕ) (hc : c < 2) (cb : Vec F S192x2048 .bf16) (s : St F) : FVec F S192x256 .f32 :=
  tabV cb (VecWindow.window s.wp ![0, 256 * c] S2048x256.size (inb2 (by decide) (by omega)))

def tab2S (r c : ℕ) (hc : c < 2) (cb : Vec F S192x2048 .bf16) (s : St F) : FVec F S192x256 .f32 :=
  tabV cb (VecWindow.window s.wp ![0, 512 + 256 * c] S2048x256.size (inb2 (by decide) (by omega)))

def projTileS (r c : ℕ) (hc : c < 2) (cb : Vec F S192x2048 .bf16) (b : FVec F S192x1 .f32) (s : St F) : St F :=
  putYS (n := 192) (m := 256) r (1024 + 256 * c) (y2V b (tab1S r c hc cb s) (tab2S r c hc cb s))
    (putYS (n := 192) (m := 256) r (512 + 256 * c) (y1V b (tab1S r c hc cb s) (tab2S r c hc cb s))
      (putYS (n := 192) (m := 256) r (256 * c) (y0V b (tab1S r c hc cb s) (tab2S r c hc cb s)) s))

theorem WP.projTile {r c : ℕ} {hr : r + 192 ≤ 384} {hc : c < 2} {h2 : 2 ∣ r} {cb : Vec F S192x2048 .bf16} {b : FVec F S192x1 .f32} {k : PUnit → P F}
    (h : WP A 𝒱 d (k ⟨⟩) (projTileS r c hc cb b s) Q) : WP A 𝒱 d (projTile A r c hr hc h2 cb b k) s Q :=
  WP.load_wp <| WP.load_wp <| WP.putY <| WP.putY <| WP.putY h

def proj (A : Args) (r : ℕ) (hr : r + 192 ≤ 384) (h2 : 2 ∣ r) (hl : A.a4.view.LoadsAt (Rect.unit (s := S1) ![0] S1.size inb_S1_S1_0).toLoadRect) (k : PUnit → P F) : P F :=
  ld A.a11 ![r, 0] S192x2048.size (inb2 hr (by decide)) (View.loadsAt_vmem h_S192x2048) fun cb =>
  ld A.a12 ![r, 0] S192x1.size (inb2 hr (by decide)) (View.loadsAt_vmem h_S192x1) fun sc =>
  ldw A.a4 hl fun ws =>
  projTile A r 0 hr (by decide) h2 cb (bcV sc ws) fun _ =>
  projTile A r 1 hr (by decide) h2 cb (bcV sc ws) k

def projS (r : ℕ) (hr : r + 192 ≤ 384) (s : St F) : St F :=
  let cb := VecWindow.window s.cb ![r, 0] S192x2048.size (inb2 hr (by decide))
  let b := bcV (VecWindow.window s.rs ![r, 0] S192x1.size (inb2 hr (by decide))) (word s.ws)
  projTileS r 1 (by decide) cb b (projTileS r 0 (by decide) cb b s)

theorem WP.proj {r : ℕ} {hr : r + 192 ≤ 384} {h2 : 2 ∣ r} {hl} {k : PUnit → P F}
    (h : WP A 𝒱 d (k ⟨⟩) (projS r hr s) Q) : WP A 𝒱 d (proj A r hr h2 hl k) s Q :=
  WP.load_cb <| WP.load_rs <| WP.load_ws <| WP.projTile <| WP.projTile h

/-! ## The scales' table -/

def diagM : IVec S128x128 1 := cmpi .eq (iota .tc S128x128 32 [0] iota_S128x128_d0_w32) (iota .tc S128x128 32 [1] iota_S128x128_d1_w32)

/-- A row of scales read off the diagonal of their broadcasts. -/
def diagV (v : Vec F S128x128 .f32) : FVec F S1x128 .f32 :=
  shapeCast S1x128 (multiReduction .add [0] S128 (select diagM v (broadcast S128x128 (Scalar.ofBits .f32 0x00000000#32))) 0x00000000#32 reduces_S128x128_S128 (.inl rfl) rfl) shapeCasts_S128_S1x128

/-- The table with the point's row replaced. -/
def rowV (t : BitVec 32) (v : Vec F S128x128 .f32) (o : Vec F S5x128 .f32) : FVec F S5x128 .f32 :=
  select (cmpi .eq (iota .tc S5x128 32 [0] iota_S5x128_d0_w32) (broadcast S5x128 t))
    (broadcastTo S5x128 (shapeCast S1x128 (diagV v) shapeCasts_S1x128_S1x128) broadcasts_S1x128_S5x128) (shapeCast S5x128 o shapeCasts_S5x128_S5x128)

def scaleTile (A : Args) (t : BitVec 32) (c : ℕ) (hc : c < 3) (k : PUnit → P F) : P F :=
  ld A.a12 ![128 * c, 0] S128x128.size (inb2 (by omega) (by decide)) (View.loadsAt_vmem h_S128x128) fun v =>
  ld A.a7 ![0, 128 * c] S5x128.size (inb2 (by decide) (by omega)) (View.loadsAt_vmem h_S5x128) fun o =>
  ld A.a7 ![0, 128 * c] S5x128.size (inb2 (by decide) (by omega)) (View.loadsAt_vmem h_S5x128) fun _ =>
  st A.a7 ![0, 128 * c] S5x128.size (inb2 (by decide) (by omega)) (rowV t v o) (View.stores_vmem_bits_univ h_S5x128 rfl) k

def scaleTileS (t : BitVec 32) (c : ℕ) (hc : c < 3) (s : St F) : St F :=
  { s with scales := VecWindow.put s.scales ![0, 128 * c] S5x128.size <|
      (rowV t (VecWindow.window s.rs ![128 * c, 0] S128x128.size (inb2 (by omega) (by decide))) (VecWindow.window s.scales ![0, 128 * c] S5x128.size (inb2 (by decide) (by omega)))) }

theorem WP.scaleTile {t : BitVec 32} {c : ℕ} {hc : c < 3} {k : PUnit → P F} (h : WP A 𝒱 d (k ⟨⟩) (scaleTileS t c hc s) Q) :
    WP A 𝒱 d (scaleTile A t c hc k) s Q :=
  WP.load_rs <| WP.load_scales <| WP.load_scales <| WP.store_scales h

/-! ## Packed fields -/

/-- Field `f` of the packed weights, as its value less one. -/
def decV (f : ℕ) (w : Vec F S512x256 .i8) : FVec F S512x256 .bf16 :=
  subf (sitofp .bf16 (bitcast S512x256 8 (andi (shrui (bitcast S128x256 32 w bitcasts_S512x256_w8_S128x256_w32) (broadcast S128x256 (BitVec.ofNat 32 (2 * f))))
    (broadcast S128x256 50529027#32)) bitcasts_S128x256_w32_S512x256_w8)) (broadcast S512x256 (Scalar.ofBits .bf16 0x3F80#16))

/-! ## The plain projection -/

/-- One field's product. -/
def fbTerm (A : Args) (f c : ℕ) (hf : f < 4) (hc : c < 6) (k : FVec F S384x256 .f32 → P F) : P F :=
  ld A.a3 ![0, 256 * c] S512x256.size (inb2 (by decide) (by omega)) (View.loadsAt_vmem h_S512x256) fun w =>
  ld A.a11 ![0, 512 * f] S384x512.size (inb2 (by decide) (by omega)) (View.loadsAt_vmem h_S384x512) fun cb =>
  k (matmul dot_S384x512_S512x256_S384x256_1_0_0_1_n_n none cb (decV f w) (constant S384x256 .f32 0x00000000#32))

def fbTermS (f c : ℕ) (hf : f < 4) (hc : c < 6) (s : St F) : FVec F S384x256 .f32 :=
  matmul dot_S384x512_S512x256_S384x256_1_0_0_1_n_n none (VecWindow.window s.cb ![0, 512 * f] S384x512.size (inb2 (by decide) (by omega)))
    (decV f (VecWindow.window s.w ![0, 256 * c] S512x256.size (inb2 (by decide) (by omega)))) (constant S384x256 .f32 0x00000000#32)

theorem WP.fbTerm {f c : ℕ} {hf : f < 4} {hc : c < 6} {k : FVec F S384x256 .f32 → P F} (h : WP A 𝒱 d (k (fbTermS f c hf hc s)) s Q) :
    WP A 𝒱 d (fbTerm A f c hf hc k) s Q :=
  WP.load_w <| WP.load_cb h

def fbV (acc : FVec F S384x256 .f32) (sc : Vec F S384x1 .f32) (ws : F .f32) : FVec F S384x256 .bf16 :=
  truncf .bf16 (mulf acc (broadcastTo S384x256 (mulf sc (broadcast S384x1 ws)) broadcasts_S384x1_S384x256)) bitsLt_bf16_f32

def fbTile (A : Args) (c : ℕ) (hc : c < 6) (hl : A.a4.view.LoadsAt (Rect.unit (s := S1) ![0] S1.size inb_S1_S1_0).toLoadRect) (k : PUnit → P F) : P F :=
  fbTerm A 0 c (by decide) hc fun p0 =>
  fbTerm A 1 c (by decide) hc fun p1 =>
  fbTerm A 2 c (by decide) hc fun p2 =>
  fbTerm A 3 c (by decide) hc fun p3 =>
  ld A.a12 ![0, 0] S384x1.size (inb2 (by decide) (by decide)) (View.loadsAt_vmem h_S384x1) fun sc =>
  ldw A.a4 hl fun ws =>
  putY A (n := 384) (m := 256) 0 (256 * c) (by decide) (by omega) h_S384x256 (by decide) (by decide) (fbV (addf (addf (addf p0 p1) p2) p3) sc ws) k

def fbTileS (c : ℕ) (hc : c < 6) (s : St F) : St F :=
  putYS (n := 384) (m := 256) 0 (256 * c) (fbV (addf (addf (addf (fbTermS 0 c (by decide) hc s) (fbTermS 1 c (by decide) hc s)) (fbTermS 2 c (by decide) hc s)) (fbTermS 3 c (by decide) hc s))
    (VecWindow.window s.rs ![0, 0] S384x1.size (inb2 (by decide) (by decide))) (word s.ws)) s

theorem WP.fbTile {c : ℕ} {hc : c < 6} {hl} {k : PUnit → P F} (h : WP A 𝒱 d (k ⟨⟩) (fbTileS c hc s) Q) :
    WP A 𝒱 d (fbTile A c hc hl k) s Q :=
  WP.fbTerm <| WP.fbTerm <| WP.fbTerm <| WP.fbTerm <| WP.load_rs <| WP.load_ws <| WP.putY h

/-! ## The first point -/

/-- The sign matrix of the 256-point transform: minus one to the number of bits two indices share. -/
def signM : FVec F S256x256 .f32 :=
  let a := andi (iota .tc S256x256 32 [0] iota_S256x256_d0_w32) (iota .tc S256x256 32 [1] iota_S256x256_d1_w32)
  let b := xori a (shrsi a (broadcast S256x256 4#32))
  let c := xori b (shrsi b (broadcast S256x256 2#32))
  let e := xori c (shrsi c (broadcast S256x256 1#32))
  sitofp .f32 (subi (broadcast S256x256 1#32) (muli (broadcast S256x256 2#32) (andi e (broadcast S256x256 1#32))))

/-- The gain rounded, and what is left of it. -/
def hiV (g : FVec F S8x256 .f32) : FVec F S8x256 .f32 := extf .f32 (truncf .bf16 g bitsLt_bf16_f32) bitsLt_bf16_f32

def loV (g : FVec F S8x256 .f32) : FVec F S8x256 .f32 := subf g (hiV g)

theorem slices8 {j : ℕ} (hj : j < 8) : S256x8.Slices ![0, j] S256x1 :=
  ⟨rfl, by intro i; fin_cases i <;> simp <;> omega⟩

def hadV (j : ℕ) (hj : j < 8) (g : FVec F S8x256 .f32) : FVec F S1x1x256x256 .bf16 :=
  shapeCast S1x1x256x256 (truncf .bf16 (mulf signM (broadcastTo S256x256 (extractStridedSlice S256x1 ![0, j]
    (transpose S256x8 [1, 0] g transposes_S8x256_p1_0_S256x8) (slices8 hj)) broadcasts_S256x1_S256x256)) bitsLt_bf16_f32) shapeCasts_S256x256_S1x1x256x256

theorem packed4 {j t : ℕ} {inb} : (Rect.unit (s := S8x3x256x256) ![j, t, 0, 0] S1x1x256x256.size inb).PackedRows (EltTy.packing .bf16) :=
  Or.inr ⟨by decide, rfl, Or.inl ⟨⟨0, rfl⟩, ⟨128, rfl⟩⟩⟩

def hadPut (A : Args) (t j : ℕ) (ht : t < 3) (hj : j < 8) (g : FVec F S8x256 .f32) (k : PUnit → P F) : P F :=
  ld A.a8 ![j, t, 0, 0] S1x1x256x256.size (inb4 hj ht) (View.loadsAt_vmem h_S1x1x256x256) fun _ =>
  st A.a8 ![j, t, 0, 0] S1x1x256x256.size (inb4 hj ht) (hadV j hj g)
    (View.stores_vmem h_S1x1x256x256 (A.h8.storeExact_slice rfl _ packed4) (fun _ => rfl)) k

def hadPutS (t j : ℕ) (hj : j < 8) (g : FVec F S8x256 .f32) (s : St F) : St F :=
  { s with had := VecWindow.put s.had ![j, t, 0, 0] S1x1x256x256.size (hadV j hj g) }

theorem WP.hadPut {t j : ℕ} {ht : t < 3} {hj : j < 8} {g : FVec F S8x256 .f32} {k : PUnit → P F} (h : WP A 𝒱 d (k ⟨⟩) (hadPutS t j hj g s) Q) :
    WP A 𝒱 d (hadPut A t j ht hj g k) s Q :=
  WP.load_had <| WP.store_had h

def zeroV : FVec F S5x384 .f32 := broadcast S5x384 (Scalar.ofBits .f32 0x00000000#32)

/-- The scales' table cleared and the transform's three tables written. -/
def prepHad (A : Args) (k : PUnit → P F) : P F :=
  ld A.a7 ![0, 0] S5x384.size (inb2 (by decide) (by decide)) (View.loadsAt_vmem h_S5x384) fun _ =>
  st A.a7 ![0, 0] S5x384.size (inb2 (by decide) (by decide)) zeroV (View.stores_vmem_bits_univ h_S5x384 rfl) fun _ =>
  ld A.a2 ![0, 0] S8x256.size (inb2 (by decide) (by decide)) (View.loadsAt_vmem h_S8x256) fun g =>
  loopU (N := 8) (fun j hj k => hadPut A 0 j (by decide) hj (hiV (shapeCast S8x256 g shapeCasts_S8x256_S8x256)) k) 8 le_rfl fun _ =>
  loopU (N := 8) (fun j hj k => hadPut A 1 j (by decide) hj (hiV (loV (shapeCast S8x256 g shapeCasts_S8x256_S8x256))) k) 8 le_rfl fun _ =>
  loopU (N := 8) (fun j hj k => hadPut A 2 j (by decide) hj (hiV (loV (loV (shapeCast S8x256 g shapeCasts_S8x256_S8x256)))) k) 8 le_rfl k

def gainS (s : St F) : FVec F S8x256 .f32 := shapeCast S8x256 (VecWindow.window s.gain ![0, 0] S8x256.size (inb2 (by decide) (by decide))) shapeCasts_S8x256_S8x256

def hadPutsS (t : ℕ) (g : FVec F S8x256 .f32) (s : St F) : St F := foldK (N := 8) (fun j hj s => hadPutS t j hj g s) 8 le_rfl s

def prepHadS (s : St F) : St F :=
  hadPutsS 2 (hiV (loV (loV (gainS s)))) (hadPutsS 1 (hiV (loV (gainS s))) (hadPutsS 0 (hiV (gainS s))
    { s with scales := VecWindow.put s.scales ![0, 0] S5x384.size zeroV }))

theorem WP.prepHad {k : PUnit → P F} (h : WP A 𝒱 d (k ⟨⟩) (prepHadS s) Q) : WP A 𝒱 d (prepHad A k) s Q :=
  WP.load_scales <| WP.store_scales <| WP.load_gain <|
    WP.loopU (fun j hj s => hadPutS 0 j hj _ s) (fun _ _ _ _ h => WP.hadPut h) _ _ _ _ <|
    WP.loopU (fun j hj s => hadPutS 1 j hj _ s) (fun _ _ _ _ h => WP.hadPut h) _ _ _ _ <|
    WP.loopU (fun j hj s => hadPutS 2 j hj _ s) (fun _ _ _ _ h => WP.hadPut h) _ _ _ _ h

/-- Put a value into the packed table. -/
def putWp (A : Args) (r c : ℕ) (hr : r + 512 ≤ 2048) (hc : c + 256 ≤ 1024) (h2 : 2 ∣ r) (v : FVec F S512x256 .bf16) (k : PUnit → P F) : P F :=
  ld A.a9 ![r, c] S512x256.size (inb2 hr hc) (View.loadsAt_vmem h_S512x256) fun _ =>
  st A.a9 ![r, c] S512x256.size (inb2 hr hc) (shapeCast S512x256 v shapeCasts_S512x256_S512x256)
    (View.stores_vmem h_S512x256 (A.h9.storeExact_slice rfl _ (packed2 h2 (by decide))) (fun _ => rfl)) k

def putWpS (r c : ℕ) (v : FVec F S512x256 .bf16) (s : St F) : St F :=
  { s with wp := VecWindow.put s.wp ![r, c] S512x256.size (shapeCast S512x256 v shapeCasts_S512x256_S512x256) }

theorem WP.putWp {r c : ℕ} {hr : r + 512 ≤ 2048} {hc : c + 256 ≤ 1024} {h2 : 2 ∣ r} {v : FVec F S512x256 .bf16} {k : PUnit → P F}
    (h : WP A 𝒱 d (k ⟨⟩) (putWpS r c v s) Q) : WP A 𝒱 d (putWp A r c hr hc h2 v k) s Q :=
  WP.load_wp <| WP.store_wp h

def pack1V (f : ℕ) (a b : Vec F S512x256 .i8) : FVec F S512x256 .bf16 := addf (decV f b) (mulf (decV f a) (broadcast S512x256 (Scalar.ofBits .bf16 0x3C00#16)))

def pack2V (f : ℕ) (a c : Vec F S512x256 .i8) : FVec F S512x256 .bf16 := addf (decV f c) (mulf (decV f a) (broadcast S512x256 (Scalar.ofBits .bf16 0x437F#16)))

/-- One field and column tile of the packed table. -/
def packTile (A : Args) (f c : ℕ) (hf : f < 4) (hc : c < 2) (k : PUnit → P F) : P F :=
  ld A.a3 ![0, 256 * c] S512x256.size (inb2 (by decide) (by omega)) (View.loadsAt_vmem h_S512x256) fun a =>
  ld A.a3 ![0, 512 + 256 * c] S512x256.size (inb2 (by decide) (by omega)) (View.loadsAt_vmem h_S512x256) fun b =>
  ld A.a3 ![0, 1024 + 256 * c] S512x256.size (inb2 (by decide) (by omega)) (View.loadsAt_vmem h_S512x256) fun e =>
  putWp A (512 * f) (256 * c) (by omega) (by omega) (by omega) (pack1V f a b) fun _ =>
  putWp A (512 * f) (512 + 256 * c) (by omega) (by omega) (by omega) (pack2V f a e) k

def packTileS (f c : ℕ) (hf : f < 4) (hc : c < 2) (s : St F) : St F :=
  let a := VecWindow.window s.w ![0, 256 * c] S512x256.size (inb2 (by decide) (by omega))
  let b := VecWindow.window s.w ![0, 512 + 256 * c] S512x256.size (inb2 (by decide) (by omega))
  let e := VecWindow.window s.w ![0, 1024 + 256 * c] S512x256.size (inb2 (by decide) (by omega))
  putWpS (512 * f) (512 + 256 * c) (pack2V f a e) (putWpS (512 * f) (256 * c) (pack1V f a b) s)

theorem WP.packTile {f c : ℕ} {hf : f < 4} {hc : c < 2} {k : PUnit → P F} (h : WP A 𝒱 d (k ⟨⟩) (packTileS f c hf hc s) Q) :
    WP A 𝒱 d (packTile A f c hf hc k) s Q :=
  WP.load_w <| WP.load_w <| WP.load_w <| WP.putWp <| WP.putWp h

/-- One when some packed field is three, else not positive. -/
def flagV (w : Vec F S512x1536 .i8) : BitVec 32 :=
  let a := bitcast S128x1536 32 w bitcasts_S512x1536_w8_S128x1536_w32
  let b := andi (andi a (shrui a (broadcast S128x1536 1#32))) (broadcast S128x1536 1431655765#32)
  let m : FVec F S128x1536 .f32 := sitofp .f32 (extui 32 (cmpi .ne b (broadcast S128x1536 0#32)) natLt_1_32)
  Scalar.fptosi 32 (extractAt ![0, 0, 0] (shapeCast S1x1x1 (multiReduction .maximumf [1, 2] S1 (shapeCast S1x128x1536 m shapeCasts_S128x1536_S1x128x1536)
    0xFF800000#32 reduces_S1x128x1536_S1 (.inl rfl) rfl) shapeCasts_S1_S1x1x1) inpos_S1x1x1_p0_0_0)

def prepFlag (A : Args) (hl : A.a13.view.LoadsAt (Rect.unit (s := S1) ![0] S1.size inb_S1_S1_0).toLoadRect)
    (hx : (A.a13.access (Rect.unit (s := S1) ![0] S1.size inb_S1_S1_0)).Stores Finset.univ) (k : PUnit → P F) : P F :=
  ld A.a3 ![0, 0] S512x1536.size (inb2 (by decide) (by decide)) (View.loadsAt_vmem h_S512x1536) fun w =>
  ldw A.a13 hl fun _ =>
  st A.a13 ![0] S1.size inb_S1_S1_0 (fun _ => flagV w) hx k

def prepFlagS (s : St F) : St F :=
  { s with flag := VecWindow.put s.flag ![0] S1.size (fun _ => flagV (VecWindow.window s.w ![0, 0] S512x1536.size (inb2 (by decide) (by decide)))) }

theorem WP.prepFlag {hl hx} {k : PUnit → P F} (h : WP A 𝒱 d (k ⟨⟩) (prepFlagS s) Q) : WP A 𝒱 d (prepFlag A hl hx k) s Q :=
  WP.load_w <| WP.load_flag <| WP.store_flag h

end Cert.Kernel.Body

end
-- ==== Proof.AtBits.Body.lean ====
/- The body as a function on the contents of its buffers: what one grid point leaves. -/
module

public import proofs.«01_k».proof.Proof.AtBits.Blocks2

@[expose] public section

noncomputable section

namespace Cert.Kernel.Body

open Idealize.ShloMosaic Idealize.ShloMosaic.TcCoe Idealize.SL Idealize.SL.Sem

variable {F : FTy → Type} [FloatOps F]
variable {A : Args} {𝒱 : Variants} {d : Dev nD} {Q : St F → Prop} {s : St F}

/-- Whether the point is the first. -/
abbrev isFirst (i : grid0.Coords) : Prop :=
  Scalar.cmpi .ne (Scalar.extui (Scalar.cmpi .eq (BitVec.ofNat 32 (i 0).val) 0#32) : BitVec 32) 0#32 = 1#1

/-- Whether the plain projection is taken. -/
abbrev isPlain (n : BitVec 32) : Prop :=
  Scalar.cmpi .ne (Scalar.extui (Scalar.cmpi .ne n 0#32) : BitVec 32) 0#32 = 1#1

/-- The transform of 192 rows, by tiles of 256 columns. -/
def tilesS (r : ℕ) (hr : r + 192 ≤ 384) (s : St F) : St F := foldK (N := 8) (fun j hj s => hadTileS r j hr hj s) 8 le_rfl s

/-- Butterflies, row maxima and codes of 192 rows. -/
def quantS (r : ℕ) (hr : r + 192 ≤ 384) (s : St F) : St F :=
  rows32S (r + 160) (by omega) <| rows32S (r + 128) (by omega) <| rows32S (r + 96) (by omega) <| rows32S (r + 64) (by omega) <|
    rows32S (r + 32) (by omega) <| rows32S r (by omega) s

def scalesS (t : BitVec 32) (s : St F) : St F :=
  scaleTileS t 2 (by decide) <| scaleTileS t 1 (by decide) <| scaleTileS t 0 (by decide) s

def plainS (s : St F) : St F :=
  fbTileS 5 (by decide) <| fbTileS 4 (by decide) <| fbTileS 3 (by decide) <| fbTileS 2 (by decide) <| fbTileS 1 (by decide) <| fbTileS 0 (by decide) s

/-- Up to the scales' table. -/
def mainS (t : BitVec 32) (s : St F) : St F :=
  scalesS t <| projS 192 (by decide) <| quantS 192 (by decide) <| projS 0 (by decide) <| quantS 0 (by decide) <|
    tilesS 192 (by decide) <| tilesS 0 (by decide) s

open scoped Classical in
def endS (s : St F) : St F := if isPlain (word s.flag) then plainS s else s

def restS (t : BitVec 32) (s : St F) : St F := endS (mainS t s)

def packS (s : St F) : St F :=
  packTileS 3 1 (by decide) (by decide) <| packTileS 3 0 (by decide) (by decide) <| packTileS 2 1 (by decide) (by decide) <| packTileS 2 0 (by decide) (by decide) <|
    packTileS 1 1 (by decide) (by decide) <| packTileS 1 0 (by decide) (by decide) <| packTileS 0 1 (by decide) (by decide) <| packTileS 0 0 (by decide) (by decide) s

def prepS (s : St F) : St F := prepFlagS <| packS <| prepHadS s

open scoped Classical in
/-- What a grid point leaves. -/
def bodyS (i : grid0.Coords) (s : St F) : St F := restS (BitVec.ofNat 32 (i 0).val) (if isFirst i then prepS s else s)

abbrev bodyP (A : Args) (i : grid0.Coords) : P F :=
  cc0_h_bitlinear i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13

theorem WP.branch {p : Prop} [Decidable p] {a : p → P F} {b : ¬ p → P F} (h₁ : ∀ h : p, WP A 𝒱 d (a h) s Q) (h₂ : ∀ h : ¬ p, WP A 𝒱 d (b h) s Q) :
    WP A 𝒱 d (if h : p then a h else b h) s Q := by
  split
  · exact h₁ _
  · exact h₂ _

set_option maxRecDepth 100000 in
set_option maxHeartbeats 0 in
/-- At a point after the first, the body takes its buffers from `s` to `restS _ s`. -/
theorem body_next (i : grid0.Coords) (hc : ¬ isFirst i) (h : Q (restS (BitVec.ofNat 32 (i 0).val) s)) : WP A 𝒱 d (bodyP A i) s Q := by
  unfold bodyP cc0_h_bitlinear k0_part262 k0_part24
  rw [show (∀ {X : Type 1} (p : isFirst i → X) (q : ¬ isFirst i → X), (if h : isFirst i then p h else q h) = q hc) from fun p q => dif_neg hc]
  refine WP.loopU (body := fun j hj k => hadTile A 0 j (by decide) hj k) (N := 8) (fun j hj s => hadTileS 0 j (by decide) hj s) (fun _ _ _ _ h => WP.hadTile h) 8 le_rfl _ _ ?_
  refine WP.loopU (body := fun j hj k => hadTile A 192 j (by decide) hj k) (N := 8) (fun j hj s => hadTileS 192 j (by decide) hj s) (fun _ _ _ _ h => WP.hadTile h) 8 le_rfl _ _ ?_
  refine WP.rows32 (r := 0) (hr := by decide) (h32 := by decide) ?_
  refine WP.rows32 (r := 32) (hr := by decide) (h32 := by decide) ?_
  refine WP.rows32 (r := 64) (hr := by decide) (h32 := by decide) ?_
  refine WP.rows32 (r := 96) (hr := by decide) (h32 := by decide) ?_
  refine WP.rows32 (r := 128) (hr := by decide) (h32 := by decide) ?_
  refine WP.rows32 (r := 160) (hr := by decide) (h32 := by decide) ?_
  refine WP.proj (r := 0) (hr := by decide) (h2 := by decide) ?_
  refine WP.rows32 (r := 192) (hr := by decide) (h32 := by decide) ?_
  refine WP.rows32 (r := 224) (hr := by decide) (h32 := by decide) ?_
  refine WP.rows32 (r := 256) (hr := by decide) (h32 := by decide) ?_
  refine WP.rows32 (r := 288) (hr := by decide) (h32 := by decide) ?_
  refine WP.rows32 (r := 320) (hr := by decide) (h32 := by decide) ?_
  refine WP.rows32 (r := 352) (hr := by decide) (h32 := by decide) ?_
  refine WP.proj (r := 192) (hr := by decide) (h2 := by decide) ?_
  refine WP.scaleTile (t := BitVec.ofNat 32 (i 0).val) (c := 0) (hc := by decide) ?_
  refine WP.scaleTile (t := BitVec.ofNat 32 (i 0).val) (c := 1) (hc := by decide) ?_
  refine WP.scaleTile (t := BitVec.ofNat 32 (i 0).val) (c := 2) (hc := by decide) ?_
  refine WP.load_flag ?_
  unfold restS endS at h
  refine WP.branch ?_ ?_
  · intro hp
    rw [if_pos (show isPlain (word (mainS (BitVec.ofNat 32 (i 0).val) s).flag) from hp)] at h
    refine WP.fbTile (c := 0) (hc := by decide) ?_
    refine WP.fbTile (c := 1) (hc := by decide) ?_
    refine WP.fbTile (c := 2) (hc := by decide) ?_
    refine WP.fbTile (c := 3) (hc := by decide) ?_
    refine WP.fbTile (c := 4) (hc := by decide) ?_
    refine WP.fbTile (c := 5) (hc := by decide) ?_
    exact WP.ret h
  · intro hp
    rw [if_neg (show ¬ isPlain (word (mainS (BitVec.ofNat 32 (i 0).val) s).flag) from hp)] at h
    exact WP.ret h
end Cert.Kernel.Body

end
-- ==== Proof.AtBits.BodyFirst.lean ====
/- The body at the first grid point, where its tables are prepared. -/
module

public import proofs.«01_k».proof.Proof.AtBits.Body

@[expose] public section

noncomputable section

namespace Cert.Kernel.Body

open Idealize.ShloMosaic Idealize.ShloMosaic.TcCoe Idealize.SL Idealize.SL.Sem

variable {F : FTy → Type} [FloatOps F]
variable {A : Args} {𝒱 : Variants} {d : Dev nD} {Q : St F → Prop} {s : St F}

set_option maxRecDepth 100000 in
set_option maxHeartbeats 0 in
/-- At the first point, the body takes its buffers from `s` to `restS _ (prepS s)`. -/
theorem body_first (i : grid0.Coords) (hc : isFirst i) (h : Q (restS (BitVec.ofNat 32 (i 0).val) (prepS s))) : WP A 𝒱 d (bodyP A i) s Q := by
  unfold bodyP cc0_h_bitlinear k0_part262 k0_part24
  rw [show (∀ {X : Type 1} (p : isFirst i → X) (q : ¬ isFirst i → X), (if h : isFirst i then p h else q h) = p hc) from fun p q => dif_pos hc]
  refine WP.prepHad ?_
  refine WP.packTile (f := 0) (c := 0) (hf := by decide) (hc := by decide) ?_
  refine WP.packTile (f := 0) (c := 1) (hf := by decide) (hc := by decide) ?_
  refine WP.packTile (f := 1) (c := 0) (hf := by decide) (hc := by decide) ?_
  refine WP.packTile (f := 1) (c := 1) (hf := by decide) (hc := by decide) ?_
  refine WP.packTile (f := 2) (c := 0) (hf := by decide) (hc := by decide) ?_
  refine WP.packTile (f := 2) (c := 1) (hf := by decide) (hc := by decide) ?_
  refine WP.packTile (f := 3) (c := 0) (hf := by decide) (hc := by decide) ?_
  refine WP.packTile (f := 3) (c := 1) (hf := by decide) (hc := by decide) ?_
  refine WP.prepFlag ?_
  refine WP.loopU (body := fun j hj k => hadTile A 0 j (by decide) hj k) (N := 8) (fun j hj s => hadTileS 0 j (by decide) hj s) (fun _ _ _ _ h => WP.hadTile h) 8 le_rfl _ _ ?_
  refine WP.loopU (body := fun j hj k => hadTile A 192 j (by decide) hj k) (N := 8) (fun j hj s => hadTileS 192 j (by decide) hj s) (fun _ _ _ _ h => WP.hadTile h) 8 le_rfl _ _ ?_
  refine WP.rows32 (r := 0) (hr := by decide) (h32 := by decide) ?_
  refine WP.rows32 (r := 32) (hr := by decide) (h32 := by decide) ?_
  refine WP.rows32 (r := 64) (hr := by decide) (h32 := by decide) ?_
  refine WP.rows32 (r := 96) (hr := by decide) (h32 := by decide) ?_
  refine WP.rows32 (r := 128) (hr := by decide) (h32 := by decide) ?_
  refine WP.rows32 (r := 160) (hr := by decide) (h32 := by decide) ?_
  refine WP.proj (r := 0) (hr := by decide) (h2 := by decide) ?_
  refine WP.rows32 (r := 192) (hr := by decide) (h32 := by decide) ?_
  refine WP.rows32 (r := 224) (hr := by decide) (h32 := by decide) ?_
  refine WP.rows32 (r := 256) (hr := by decide) (h32 := by decide) ?_
  refine WP.rows32 (r := 288) (hr := by decide) (h32 := by decide) ?_
  refine WP.rows32 (r := 320) (hr := by decide) (h32 := by decide) ?_
  refine WP.rows32 (r := 352) (hr := by decide) (h32 := by decide) ?_
  refine WP.proj (r := 192) (hr := by decide) (h2 := by decide) ?_
  refine WP.scaleTile (t := BitVec.ofNat 32 (i 0).val) (c := 0) (hc := by decide) ?_
  refine WP.scaleTile (t := BitVec.ofNat 32 (i 0).val) (c := 1) (hc := by decide) ?_
  refine WP.scaleTile (t := BitVec.ofNat 32 (i 0).val) (c := 2) (hc := by decide) ?_
  refine WP.load_flag ?_
  unfold restS endS at h
  refine WP.branch ?_ ?_
  · intro hp
    rw [if_pos (show isPlain (word (mainS (BitVec.ofNat 32 (i 0).val) (prepS s)).flag) from hp)] at h
    refine WP.fbTile (c := 0) (hc := by decide) ?_
    refine WP.fbTile (c := 1) (hc := by decide) ?_
    refine WP.fbTile (c := 2) (hc := by decide) ?_
    refine WP.fbTile (c := 3) (hc := by decide) ?_
    refine WP.fbTile (c := 4) (hc := by decide) ?_
    refine WP.fbTile (c := 5) (hc := by decide) ?_
    exact WP.ret h
  · intro hp
    rw [if_neg (show ¬ isPlain (word (mainS (BitVec.ofNat 32 (i 0).val) (prepS s)).flag) from hp)] at h
    exact WP.ret h
end Cert.Kernel.Body

end
-- ==== Proof.AtBits.Launch.lean ====
/- The body at a grid point of the launch, and the frame: every run ends, with the arguments as they were. -/
module

public import proofs.«01_k».proof.Proof.AtBits.BodyFirst
public import Idealize.ShloMosaic.Lib.Pipeline.Frame

@[expose] public section

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen memrefs at point `t`. -/
abbrev args (t : Fin cfg0.N) : Args where
  a1 := st0_0 t
  h1 := hstage0_0 ((cfg0.slots t 0).cast nbuf0_0)
  a2 := st0_1 t
  h2 := hstage0_1 ((cfg0.slots t 1).cast nbuf0_1)
  a3 := st0_2 t
  h3 := hstage0_2 ((cfg0.slots t 2).cast nbuf0_2)
  a4 := st0_3 t
  h4 := hstage0_3 ((cfg0.slots t 3).cast nbuf0_3)
  a5 := st0_4 t
  h5 := hstage0_4 ((cfg0.slots t 4).cast nbuf0_4)
  a6 := st0_5 t
  h6 := hstage0_5 ((cfg0.slots t 5).cast nbuf0_5)
  a7 := st0_6 t
  h7 := hstage0_6 ((cfg0.slots t 6).cast nbuf0_6)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _

/-- The body takes its buffers from `s` to `bodyS i s`. -/
theorem body {A : Args} {𝒱 : Variants} {d : Dev nD} {Q : St F → Prop} {s : St F} (i : grid0.Coords) (h : Q (bodyS i s)) : WP A 𝒱 d (bodyP A i) s Q := by
  unfold bodyS at h
  by_cases hc : isFirst i
  · rw [if_pos hc] at h
    exact body_first i hc h
  · rw [if_neg hc] at h
    exact body_next i hc h

theorem body_at {c : Dev nD} {Q : St F → Prop} {s : St F} (t : Fin cfg0.N) (h : Q (bodyS (grid0.coords t) s)) :
    Own (args t) c s ⊢ wp frame (wpE (defs₀ (F := F)) Variants.none c none) Set.univ (bodyAt0 t) (fun _ => iprop(∃ s', ⌜Q s'⌝ ∗ Own (args t) c s')) :=
  body (A := args t) (grid0.coords t) h

theorem defs₀_row (t : Fin cfg0.N) :
    defs₀ (F := F) .tc cfg0.body (cfg0.bodyArgs t (cfg0.slots t)) = bodyAt0 t := by
  unfold defs₀; rw [Defs.onTc_tc]

/-- The scratch buffers, at the state's contents. -/
def Scr (c : Dev nD) (s : St F) : sProp 𝕄 :=
  iprop((((c : Thread nD τ).loc cc0_scratch0) ↦{fullShare} s.had) ∗ (((c : Thread nD τ).loc cc0_scratch1) ↦{fullShare} s.wp) ∗ (((c : Thread nD τ).loc cc0_scratch2) ↦{fullShare} s.u)
    ∗ (((c : Thread nD τ).loc cc0_scratch3) ↦{fullShare} s.cb) ∗ (((c : Thread nD τ).loc cc0_scratch4) ↦{fullShare} s.rs) ∗ (((c : Thread nD τ).loc cc0_scratch5) ↦{fullShare} s.flag))

/-- The windows' buffers, at the state's contents. -/
def Wins (c : Dev nD) (t : Fin cfg0.N) (s : St F) : sProp 𝕄 :=
  iprop(owns (c : Thread nD τ) (st0_0 t) fullShare s.x ∗ owns (c : Thread nD τ) (st0_1 t) fullShare s.gain ∗ owns (c : Thread nD τ) (st0_2 t) fullShare s.w ∗ owns (c : Thread nD τ) (st0_3 t) fullShare s.ws
    ∗ owns (c : Thread nD τ) (st0_4 t) fullShare s.y ∗ owns (c : Thread nD τ) (st0_5 t) fullShare s.codes ∗ owns (c : Thread nD τ) (st0_6 t) fullShare s.scales)

theorem own_at (c : Dev nD) (t : Fin cfg0.N) (s : St F) : Own (args t) c s = iprop(owns (c : Thread nD τ) (st0_0 t) fullShare s.x ∗ owns (c : Thread nD τ) (st0_1 t) fullShare s.gain ∗ owns (c : Thread nD τ) (st0_2 t) fullShare s.w ∗ owns (c : Thread nD τ) (st0_3 t) fullShare s.ws
    ∗ owns (c : Thread nD τ) (st0_4 t) fullShare s.y ∗ owns (c : Thread nD τ) (st0_5 t) fullShare s.codes ∗ owns (c : Thread nD τ) (st0_6 t) fullShare s.scales ∗ Scr c s) := by
  unfold Own Scr
  dsimp only [args]
  rw [owns_whole, owns_whole, owns_whole, owns_whole, owns_whole, owns_whole]

theorem own_of (c : Dev nD) (t : Fin cfg0.N) (s : St F) : iprop(Wins c t s ∗ Scr c s) ⊢ Own (args t) c s := by
  rw [own_at]
  unfold Wins
  iintro ⟨⟨H0, H1, H2, H3, H4, H5, H6⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

theorem of_own (c : Dev nD) (t : Fin cfg0.N) (s : St F) : Own (args t) c s ⊢ iprop(Wins c t s ∗ Scr c s) := by
  rw [own_at]
  unfold Wins
  iintro ⟨H0, H1, H2, H3, H4, H5, H6, HS⟩
  isplitr [HS]
  · isplitl [H0]; · iexact H0
    isplitl [H1]; · iexact H1
    isplitl [H2]; · iexact H2
    isplitl [H3]; · iexact H3
    isplitl [H4]; · iexact H4
    isplitl [H5]; · iexact H5
    iexact H6
  · iexact HS

/-- The body's triple, carrying what it does not touch. -/
theorem body_frame {c : Dev nD} {Q : St F → Prop} {s : St F} (t : Fin cfg0.N) (h : Q (bodyS (grid0.coords t) s)) (R : sProp 𝕄) :
    iprop(Wins c t s ∗ Scr c s ∗ R) ⊢ wp frame (wpE (defs₀ (F := F)) Variants.none c none) Set.univ (bodyAt0 t)
      (fun _ => iprop(∃ s', ⌜Q s'⌝ ∗ Wins c t s' ∗ Scr c s' ∗ R)) := by
  have hb := body_at (c := c) t h
  iintro ⟨HW, HS, HR⟩
  iapply (wp_mono (Q := fun _ => iprop((∃ s', ⌜Q s'⌝ ∗ Own (args t) c s') ∗ R)) _ _ _ fun _ => by
    iintro ⟨⟨%s', %hs, H⟩, HR⟩
    ihave H := of_own c t s' $$ H
    icases H with ⟨HW, HS⟩
    iexists s'
    isplitr; · ipureintro; exact hs
    isplitl [HW]; · iexact HW
    isplitl [HS]; · iexact HS
    iexact HR)
  iapply wp_frame_r
  isplitr [HR]
  · iapply hb
    iapply own_of
    isplitl [HW]; · iexact HW
    iexact HS
  · iexact HR

/-! ## The frame -/

def forgets : Fin 7 → Bool := fun _ => true

/-- Proof data that say nothing of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d)
    ∗ (∃ d, owns (c : Thread nD τ) (st0_3 t) fullShare d) ∗ (∃ d, owns (c : Thread nD τ) (st0_4 t) fullShare d) ∗ (∃ d, owns (c : Thread nD τ) (st0_5 t) fullShare d)
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare d) ∗ (∃ d, owns (c : Thread nD τ) (st0_1 t) fullShare d) ∗ (∃ d, owns (c : Thread nD τ) (st0_2 t) fullShare d)
    ∗ (∃ d, owns (c : Thread nD τ) (st0_3 t) fullShare d) ∗ (∃ d, owns (c : Thread nD τ) (st0_4 t) fullShare d) ∗ (∃ d, owns (c : Thread nD τ) (st0_5 t) fullShare d)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, HP⟩, Ho, ⟨%d0, H0⟩, ⟨%d1, H1⟩, ⟨%d2, H2⟩, ⟨%d3, H3⟩, ⟨%d4, H4⟩, ⟨%d5, H5⟩, ⟨%d6, H6⟩⟩
  iapply (wp_mono (Q := fun _ => iprop(∃ s' : St F, ⌜True⌝ ∗ Wins c t s' ∗ Scr c s' ∗ ((∃ r, prngReg c r) ∗ (dats m 0 c).owesAt () t.castSucc))) _ _ _ fun _ => by
    unfold Wins Scr
    iintro ⟨%s', %hs, ⟨H0, H1, H2, H3, H4, H5, H6⟩, ⟨S0, S1, S2, S3, S4, S5⟩, HP, Ho⟩
    isplitr [Ho H0 H1 H2 H3 H4 H5 H6]
    · isplitr [HP]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      · iexact HP
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6)
  iapply (body_frame (c := c) (Q := fun _ => True) (s := ⟨d0, d1, d2, d3, d4, d5, d6, f0, f1, f2, f3, f4, f5⟩) t trivial)
  unfold Wins Scr
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [HP]; · iexact HP
  iexact Ho

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

-- the run's implicit arguments are found by unification, which must unfold plain definitions in a metavariable's type
set_option backward.isDefEq.respectTransparency.types false in
theorem run_frame :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      (h.1.arr_in c 3 rfl).trans ((A_eq m c 3).trans (V_main_arg3 m c))⟩, h.2⟩) (run_frame m ρ)

end Cert.Kernel.Body

end
-- ==== Proof.Logic.lean ====
/- The logic the kernel's body is run in: what the body's thirteen buffers hold is a record `St`, a program's weakest
   precondition over it is `WP`, and a load or a store moves the record along. -/
module

public import proofs.«01_k».proof.Proof.Gen.KernelIdeal.Frame
public import Idealize.ShloMosaic.Lib.VecWindow

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's thirteen memrefs. -/
structure Args where
  a1 : Memref sig .tc .vmem S384x2048 .bf16
  h1 : a1.IsWhole
  a2 : Memref sig .tc .vmem S8x256 .f32
  h2 : a2.IsWhole
  a3 : Memref sig .tc .vmem S512x1536 .i8
  h3 : a3.IsWhole
  a4 : Memref sig .tc .smem S1 .f32
  h4 : a4.IsWhole
  a5 : Memref sig .tc .vmem S384x1536 .bf16
  h5 : a5.IsWhole
  a6 : Memref sig .tc .vmem S384x2048 .i8
  h6 : a6.IsWhole
  a7 : Memref sig .tc .vmem S5x384 .f32
  h7 : a7.IsWhole
  a8 : Memref sig .tc .vmem S8x3x256x256 .bf16
  h8 : a8.IsWhole
  a9 : Memref sig .tc .vmem S2048x1024 .bf16
  h9 : a9.IsWhole
  a10 : Memref sig .tc .vmem S384x2048 .f32
  h10 : a10.IsWhole
  a11 : Memref sig .tc .vmem S384x2048 .bf16
  h11 : a11.IsWhole
  a12 : Memref sig .tc .vmem S384x128 .f32
  h12 : a12.IsWhole
  a13 : Memref sig .tc .smem S1 .i32
  h13 : a13.IsWhole

/-- What the thirteen memrefs read. -/
@[ext] structure St (F : FTy → Type) where
  x : S384x2048.Idx → Elt F .bf16
  gain : S8x256.Idx → Elt F .f32
  w : S512x1536.Idx → Elt F .i8
  ws : S1.Idx → Elt F .f32
  y : S384x1536.Idx → Elt F .bf16
  codes : S384x2048.Idx → Elt F .i8
  scales : S5x384.Idx → Elt F .f32
  had : S8x3x256x256.Idx → Elt F .bf16
  wp : S2048x1024.Idx → Elt F .bf16
  u : S384x2048.Idx → Elt F .f32
  cb : S384x2048.Idx → Elt F .bf16
  rs : S384x128.Idx → Elt F .f32
  flag : S1.Idx → Elt F .i32

/-- Core `d` owns the thirteen memrefs, reading `s`. -/
def Own (A : Args) (d : Dev nD) (s : St F) : sProp 𝕄 :=
  iprop(owns (d : Thread nD τ) A.a1 fullShare s.x ∗ owns (d : Thread nD τ) A.a2 fullShare s.gain ∗ owns (d : Thread nD τ) A.a3 fullShare s.w ∗ owns (d : Thread nD τ) A.a4 fullShare s.ws ∗ owns (d : Thread nD τ) A.a5 fullShare s.y ∗ owns (d : Thread nD τ) A.a6 fullShare s.codes ∗ owns (d : Thread nD τ) A.a7 fullShare s.scales ∗ owns (d : Thread nD τ) A.a8 fullShare s.had ∗ owns (d : Thread nD τ) A.a9 fullShare s.wp ∗ owns (d : Thread nD τ) A.a10 fullShare s.u ∗ owns (d : Thread nD τ) A.a11 fullShare s.cb ∗ owns (d : Thread nD τ) A.a12 fullShare s.rs ∗ owns (d : Thread nD τ) A.a13 fullShare s.flag)

/-- Run from `s`, the program ends in a state of `Q`. -/
def WP (A : Args) (𝒱 : Variants) (d : Dev nD) (p : Prog (TpuEff nD τ sig (Elt F) Λ₀ .tc) PUnit) (s : St F) (Q : St F → Prop) : Prop :=
  Own A d s ⊢ wp frame (wpE defs₀ 𝒱 (d : Thread nD τ) none) Set.univ p (fun _ => iprop(∃ s', ⌜Q s'⌝ ∗ Own A d s'))

variable {A : Args} {𝒱 : Variants} {d : Dev nD} {Q : St F → Prop} {s : St F}

theorem WP.ret (h : Q s) : WP A 𝒱 d (.ret ⟨⟩) s Q := by
  unfold WP
  rw [wp_ret]
  iintro H
  imodintro
  iexists s
  isplitr
  · ipureintro; exact h
  · iexact H

/-- A load through a memref the state holds reads the window of what it holds. -/
theorem WP.load_of {cs : CoreSpace} {sh : Shape} {e : EltTy} {M : Memref sig .tc cs sh e} {X : sh.Idx → Elt F e}
    {off size : Fin sh.rank → ℕ} {inb : ∀ a, off a + size a ≤ sh.size a} {hl : M.view.LoadsAt (Rect.unit off size inb).toLoadRect}
    {k : ((Rect.unit off size inb).shape.Idx → Elt F e) → Prog (TpuEff nD τ sig (Elt F) Λ₀ .tc) PUnit}
    (hf : Own A d s ⊢ iprop(owns (d : Thread nD τ) M fullShare X ∗ (owns (d : Thread nD τ) M fullShare X -∗ Own A d s)))
    (h : WP A 𝒱 d (k (VecWindow.window X off size inb)) s Q) :
    WP A 𝒱 d (.op (.load M (Rect.unit off size inb).toLoadRect hl) k) s Q := by
  unfold WP at *
  refine hf.trans ?_
  iintro ⟨H, Hc⟩
  ihave H := (show owns (d : Thread nD τ) M fullShare X ⊢ iprop(∃ g, ⌜M.view.read (Elt F) g = X⌝ ∗ M.view.loc (d : Thread nD τ) ↦[M.view.set]{fullShare} g) from .rfl) $$ H
  icases H with ⟨%g, %hg, H⟩
  iapply (wp_load 𝒱 (d : Thread nD τ) none Set.univ (m := M) (View.setOn_subset_set _ _)) $$ H
  iintro H
  rw [View.readAt_unit M.view g inb rfl inb, hg]
  iapply h
  iapply Hc
  rw [← hg]
  iapply (owns_intro (d : Thread nD τ) M fullShare g)
  iexact H

/-- A store through a memref the state holds puts the value at the rectangle. -/
theorem WP.store_of {cs : CoreSpace} {sh : Shape} {e : EltTy} {M : Memref sig .tc cs sh e} {X : sh.Idx → Elt F e} {s' : St F}
    {off size : Fin sh.rank → ℕ} {inb : ∀ a, off a + size a ≤ sh.size a} {w : (Rect.unit off size inb).shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) PUnit}
    (hf : Own A d s ⊢ iprop(owns (d : Thread nD τ) M fullShare X ∗ (owns (d : Thread nD τ) M fullShare (VecWindow.put X off size w) -∗ Own A d s')))
    (h : WP A 𝒱 d (k ⟨⟩) s' Q) :
    WP A 𝒱 d (.op (.store M (Rect.unit off size inb) w Finset.univ hx hm) k) s Q := by
  unfold WP at *
  refine hf.trans ?_
  iintro ⟨H, Hc⟩
  ihave H := (show owns (d : Thread nD τ) M fullShare X ⊢ iprop(∃ g, ⌜M.view.read (Elt F) g = X⌝ ∗ M.view.loc (d : Thread nD τ) ↦[M.view.set]{fullShare} g) from .rfl) $$ H
  icases H with ⟨%g, %hg, H⟩
  iapply (wp_store 𝒱 (d : Thread nD τ) none Set.univ (m := M) (r := Rect.unit off size inb) (w := w) (Mk := Finset.univ) (S := M.view.set) (f := g) (Memref.setOn_access_subset _ _ _)) $$ H
  iintro H
  iapply h
  iapply Hc
  have hr : M.view.read (Elt F) (M.view.writes (Elt F) g [⟨Rect.unit off size inb, w⟩]) = VecWindow.put X off size w := by
    rw [View.read_writes_cons_put M.view g inb w [] rfl, View.writes_nil, hg]
  rw [← hr]
  iapply (owns_intro (d : Thread nD τ) M fullShare _)
  iexact H

theorem own_x (v : S384x2048.Idx → Elt F .bf16) : Own A d s ⊢ iprop(owns (d : Thread nD τ) A.a1 fullShare s.x ∗ (owns (d : Thread nD τ) A.a1 fullShare v -∗ Own A d { s with x := v })) := by
  unfold Own
  iintro ⟨H0, H1, H2, H3, H4, H5, H6, H7, H8, H9, H10, H11, H12⟩
  isplitl [H0]
  · iexact H0
  · iintro H0
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_x {off size : Fin S384x2048.rank → ℕ} {inb : ∀ a, off a + size a ≤ S384x2048.size a} {hl : A.a1.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.x off size inb)) s Q) :
    WP A 𝒱 d (.op (.load A.a1 (Rect.unit off size inb).toLoadRect hl) k) s Q :=
  WP.load_of (own_x s.x) h

theorem WP.store_x {off size : Fin S384x2048.rank → ℕ} {inb : ∀ a, off a + size a ≤ S384x2048.size a} {w : (Rect.unit off size inb).shape.Idx → Elt F .bf16}
    {hx : (A.a1.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with x := VecWindow.put s.x off size w } Q) :
    WP A 𝒱 d (.op (.store A.a1 (Rect.unit off size inb) w Finset.univ hx hm) k) s Q :=
  WP.store_of (own_x _) h

theorem own_gain (v : S8x256.Idx → Elt F .f32) : Own A d s ⊢ iprop(owns (d : Thread nD τ) A.a2 fullShare s.gain ∗ (owns (d : Thread nD τ) A.a2 fullShare v -∗ Own A d { s with gain := v })) := by
  unfold Own
  iintro ⟨H0, H1, H2, H3, H4, H5, H6, H7, H8, H9, H10, H11, H12⟩
  isplitl [H1]
  · iexact H1
  · iintro H1
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_gain {off size : Fin S8x256.rank → ℕ} {inb : ∀ a, off a + size a ≤ S8x256.size a} {hl : A.a2.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.gain off size inb)) s Q) :
    WP A 𝒱 d (.op (.load A.a2 (Rect.unit off size inb).toLoadRect hl) k) s Q :=
  WP.load_of (own_gain s.gain) h

theorem WP.store_gain {off size : Fin S8x256.rank → ℕ} {inb : ∀ a, off a + size a ≤ S8x256.size a} {w : (Rect.unit off size inb).shape.Idx → Elt F .f32}
    {hx : (A.a2.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with gain := VecWindow.put s.gain off size w } Q) :
    WP A 𝒱 d (.op (.store A.a2 (Rect.unit off size inb) w Finset.univ hx hm) k) s Q :=
  WP.store_of (own_gain _) h

theorem own_w (v : S512x1536.Idx → Elt F .i8) : Own A d s ⊢ iprop(owns (d : Thread nD τ) A.a3 fullShare s.w ∗ (owns (d : Thread nD τ) A.a3 fullShare v -∗ Own A d { s with w := v })) := by
  unfold Own
  iintro ⟨H0, H1, H2, H3, H4, H5, H6, H7, H8, H9, H10, H11, H12⟩
  isplitl [H2]
  · iexact H2
  · iintro H2
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_w {off size : Fin S512x1536.rank → ℕ} {inb : ∀ a, off a + size a ≤ S512x1536.size a} {hl : A.a3.view.LoadsAt (Rect.unit off size inb).toLoadRect}
    {k : ((Rect.unit off size inb).shape.Idx → Elt F .i8) → Prog (TpuEff nD τ sig (Elt F) Λ₀ .tc) PUnit}
    (h : WP A 𝒱 d (k (VecWindow.window s.w off size inb)) s Q) :
    WP A 𝒱 d (.op (.load A.a3 (Rect.unit off size inb).toLoadRect hl) k) s Q :=
  WP.load_of (own_w s.w) h

theorem WP.store_w {off size : Fin S512x1536.rank → ℕ} {inb : ∀ a, off a + size a ≤ S512x1536.size a} {w : (Rect.unit off size inb).shape.Idx → Elt F .i8}
    {hx : (A.a3.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with w := VecWindow.put s.w off size w } Q) :
    WP A 𝒱 d (.op (.store A.a3 (Rect.unit off size inb) w Finset.univ hx hm) k) s Q :=
  WP.store_of (own_w _) h

theorem own_ws (v : S1.Idx → Elt F .f32) : Own A d s ⊢ iprop(owns (d : Thread nD τ) A.a4 fullShare s.ws ∗ (owns (d : Thread nD τ) A.a4 fullShare v -∗ Own A d { s with ws := v })) := by
  unfold Own
  iintro ⟨H0, H1, H2, H3, H4, H5, H6, H7, H8, H9, H10, H11, H12⟩
  isplitl [H3]
  · iexact H3
  · iintro H3
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_ws {off size : Fin S1.rank → ℕ} {inb : ∀ a, off a + size a ≤ S1.size a} {hl : A.a4.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.ws off size inb)) s Q) :
    WP A 𝒱 d (.op (.load A.a4 (Rect.unit off size inb).toLoadRect hl) k) s Q :=
  WP.load_of (own_ws s.ws) h

theorem WP.store_ws {off size : Fin S1.rank → ℕ} {inb : ∀ a, off a + size a ≤ S1.size a} {w : (Rect.unit off size inb).shape.Idx → Elt F .f32}
    {hx : (A.a4.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with ws := VecWindow.put s.ws off size w } Q) :
    WP A 𝒱 d (.op (.store A.a4 (Rect.unit off size inb) w Finset.univ hx hm) k) s Q :=
  WP.store_of (own_ws _) h

theorem own_y (v : S384x1536.Idx → Elt F .bf16) : Own A d s ⊢ iprop(owns (d : Thread nD τ) A.a5 fullShare s.y ∗ (owns (d : Thread nD τ) A.a5 fullShare v -∗ Own A d { s with y := v })) := by
  unfold Own
  iintro ⟨H0, H1, H2, H3, H4, H5, H6, H7, H8, H9, H10, H11, H12⟩
  isplitl [H4]
  · iexact H4
  · iintro H4
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_y {off size : Fin S384x1536.rank → ℕ} {inb : ∀ a, off a + size a ≤ S384x1536.size a} {hl : A.a5.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.y off size inb)) s Q) :
    WP A 𝒱 d (.op (.load A.a5 (Rect.unit off size inb).toLoadRect hl) k) s Q :=
  WP.load_of (own_y s.y) h

theorem WP.store_y {off size : Fin S384x1536.rank → ℕ} {inb : ∀ a, off a + size a ≤ S384x1536.size a} {w : (Rect.unit off size inb).shape.Idx → Elt F .bf16}
    {hx : (A.a5.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with y := VecWindow.put s.y off size w } Q) :
    WP A 𝒱 d (.op (.store A.a5 (Rect.unit off size inb) w Finset.univ hx hm) k) s Q :=
  WP.store_of (own_y _) h

theorem own_codes (v : S384x2048.Idx → Elt F .i8) : Own A d s ⊢ iprop(owns (d : Thread nD τ) A.a6 fullShare s.codes ∗ (owns (d : Thread nD τ) A.a6 fullShare v -∗ Own A d { s with codes := v })) := by
  unfold Own
  iintro ⟨H0, H1, H2, H3, H4, H5, H6, H7, H8, H9, H10, H11, H12⟩
  isplitl [H5]
  · iexact H5
  · iintro H5
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_codes {off size : Fin S384x2048.rank → ℕ} {inb : ∀ a, off a + size a ≤ S384x2048.size a} {hl : A.a6.view.LoadsAt (Rect.unit off size inb).toLoadRect}
    {k : ((Rect.unit off size inb).shape.Idx → Elt F .i8) → Prog (TpuEff nD τ sig (Elt F) Λ₀ .tc) PUnit}
    (h : WP A 𝒱 d (k (VecWindow.window s.codes off size inb)) s Q) :
    WP A 𝒱 d (.op (.load A.a6 (Rect.unit off size inb).toLoadRect hl) k) s Q :=
  WP.load_of (own_codes s.codes) h

theorem WP.store_codes {off size : Fin S384x2048.rank → ℕ} {inb : ∀ a, off a + size a ≤ S384x2048.size a} {w : (Rect.unit off size inb).shape.Idx → Elt F .i8}
    {hx : (A.a6.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with codes := VecWindow.put s.codes off size w } Q) :
    WP A 𝒱 d (.op (.store A.a6 (Rect.unit off size inb) w Finset.univ hx hm) k) s Q :=
  WP.store_of (own_codes _) h

theorem own_scales (v : S5x384.Idx → Elt F .f32) : Own A d s ⊢ iprop(owns (d : Thread nD τ) A.a7 fullShare s.scales ∗ (owns (d : Thread nD τ) A.a7 fullShare v -∗ Own A d { s with scales := v })) := by
  unfold Own
  iintro ⟨H0, H1, H2, H3, H4, H5, H6, H7, H8, H9, H10, H11, H12⟩
  isplitl [H6]
  · iexact H6
  · iintro H6
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_scales {off size : Fin S5x384.rank → ℕ} {inb : ∀ a, off a + size a ≤ S5x384.size a} {hl : A.a7.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.scales off size inb)) s Q) :
    WP A 𝒱 d (.op (.load A.a7 (Rect.unit off size inb).toLoadRect hl) k) s Q :=
  WP.load_of (own_scales s.scales) h

theorem WP.store_scales {off size : Fin S5x384.rank → ℕ} {inb : ∀ a, off a + size a ≤ S5x384.size a} {w : (Rect.unit off size inb).shape.Idx → Elt F .f32}
    {hx : (A.a7.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with scales := VecWindow.put s.scales off size w } Q) :
    WP A 𝒱 d (.op (.store A.a7 (Rect.unit off size inb) w Finset.univ hx hm) k) s Q :=
  WP.store_of (own_scales _) h

theorem own_had (v : S8x3x256x256.Idx → Elt F .bf16) : Own A d s ⊢ iprop(owns (d : Thread nD τ) A.a8 fullShare s.had ∗ (owns (d : Thread nD τ) A.a8 fullShare v -∗ Own A d { s with had := v })) := by
  unfold Own
  iintro ⟨H0, H1, H2, H3, H4, H5, H6, H7, H8, H9, H10, H11, H12⟩
  isplitl [H7]
  · iexact H7
  · iintro H7
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_had {off size : Fin S8x3x256x256.rank → ℕ} {inb : ∀ a, off a + size a ≤ S8x3x256x256.size a} {hl : A.a8.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.had off size inb)) s Q) :
    WP A 𝒱 d (.op (.load A.a8 (Rect.unit off size inb).toLoadRect hl) k) s Q :=
  WP.load_of (own_had s.had) h

theorem WP.store_had {off size : Fin S8x3x256x256.rank → ℕ} {inb : ∀ a, off a + size a ≤ S8x3x256x256.size a} {w : (Rect.unit off size inb).shape.Idx → Elt F .bf16}
    {hx : (A.a8.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with had := VecWindow.put s.had off size w } Q) :
    WP A 𝒱 d (.op (.store A.a8 (Rect.unit off size inb) w Finset.univ hx hm) k) s Q :=
  WP.store_of (own_had _) h

theorem own_wp (v : S2048x1024.Idx → Elt F .bf16) : Own A d s ⊢ iprop(owns (d : Thread nD τ) A.a9 fullShare s.wp ∗ (owns (d : Thread nD τ) A.a9 fullShare v -∗ Own A d { s with wp := v })) := by
  unfold Own
  iintro ⟨H0, H1, H2, H3, H4, H5, H6, H7, H8, H9, H10, H11, H12⟩
  isplitl [H8]
  · iexact H8
  · iintro H8
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_wp {off size : Fin S2048x1024.rank → ℕ} {inb : ∀ a, off a + size a ≤ S2048x1024.size a} {hl : A.a9.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.wp off size inb)) s Q) :
    WP A 𝒱 d (.op (.load A.a9 (Rect.unit off size inb).toLoadRect hl) k) s Q :=
  WP.load_of (own_wp s.wp) h

theorem WP.store_wp {off size : Fin S2048x1024.rank → ℕ} {inb : ∀ a, off a + size a ≤ S2048x1024.size a} {w : (Rect.unit off size inb).shape.Idx → Elt F .bf16}
    {hx : (A.a9.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with wp := VecWindow.put s.wp off size w } Q) :
    WP A 𝒱 d (.op (.store A.a9 (Rect.unit off size inb) w Finset.univ hx hm) k) s Q :=
  WP.store_of (own_wp _) h

theorem own_u (v : S384x2048.Idx → Elt F .f32) : Own A d s ⊢ iprop(owns (d : Thread nD τ) A.a10 fullShare s.u ∗ (owns (d : Thread nD τ) A.a10 fullShare v -∗ Own A d { s with u := v })) := by
  unfold Own
  iintro ⟨H0, H1, H2, H3, H4, H5, H6, H7, H8, H9, H10, H11, H12⟩
  isplitl [H9]
  · iexact H9
  · iintro H9
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_u {off size : Fin S384x2048.rank → ℕ} {inb : ∀ a, off a + size a ≤ S384x2048.size a} {hl : A.a10.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.u off size inb)) s Q) :
    WP A 𝒱 d (.op (.load A.a10 (Rect.unit off size inb).toLoadRect hl) k) s Q :=
  WP.load_of (own_u s.u) h

theorem WP.store_u {off size : Fin S384x2048.rank → ℕ} {inb : ∀ a, off a + size a ≤ S384x2048.size a} {w : (Rect.unit off size inb).shape.Idx → Elt F .f32}
    {hx : (A.a10.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with u := VecWindow.put s.u off size w } Q) :
    WP A 𝒱 d (.op (.store A.a10 (Rect.unit off size inb) w Finset.univ hx hm) k) s Q :=
  WP.store_of (own_u _) h

theorem own_cb (v : S384x2048.Idx → Elt F .bf16) : Own A d s ⊢ iprop(owns (d : Thread nD τ) A.a11 fullShare s.cb ∗ (owns (d : Thread nD τ) A.a11 fullShare v -∗ Own A d { s with cb := v })) := by
  unfold Own
  iintro ⟨H0, H1, H2, H3, H4, H5, H6, H7, H8, H9, H10, H11, H12⟩
  isplitl [H10]
  · iexact H10
  · iintro H10
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_cb {off size : Fin S384x2048.rank → ℕ} {inb : ∀ a, off a + size a ≤ S384x2048.size a} {hl : A.a11.view.LoadsAt (Rect.unit off size inb).toLoadRect}
    {k : ((Rect.unit off size inb).shape.Idx → Elt F .bf16) → Prog (TpuEff nD τ sig (Elt F) Λ₀ .tc) PUnit}
    (h : WP A 𝒱 d (k (VecWindow.window s.cb off size inb)) s Q) :
    WP A 𝒱 d (.op (.load A.a11 (Rect.unit off size inb).toLoadRect hl) k) s Q :=
  WP.load_of (own_cb s.cb) h

theorem WP.store_cb {off size : Fin S384x2048.rank → ℕ} {inb : ∀ a, off a + size a ≤ S384x2048.size a} {w : (Rect.unit off size inb).shape.Idx → Elt F .bf16}
    {hx : (A.a11.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with cb := VecWindow.put s.cb off size w } Q) :
    WP A 𝒱 d (.op (.store A.a11 (Rect.unit off size inb) w Finset.univ hx hm) k) s Q :=
  WP.store_of (own_cb _) h

theorem own_rs (v : S384x128.Idx → Elt F .f32) : Own A d s ⊢ iprop(owns (d : Thread nD τ) A.a12 fullShare s.rs ∗ (owns (d : Thread nD τ) A.a12 fullShare v -∗ Own A d { s with rs := v })) := by
  unfold Own
  iintro ⟨H0, H1, H2, H3, H4, H5, H6, H7, H8, H9, H10, H11, H12⟩
  isplitl [H11]
  · iexact H11
  · iintro H11
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_rs {off size : Fin S384x128.rank → ℕ} {inb : ∀ a, off a + size a ≤ S384x128.size a} {hl : A.a12.view.LoadsAt (Rect.unit off size inb).toLoadRect}
    {k : ((Rect.unit off size inb).shape.Idx → Elt F .f32) → Prog (TpuEff nD τ sig (Elt F) Λ₀ .tc) PUnit}
    (h : WP A 𝒱 d (k (VecWindow.window s.rs off size inb)) s Q) :
    WP A 𝒱 d (.op (.load A.a12 (Rect.unit off size inb).toLoadRect hl) k) s Q :=
  WP.load_of (own_rs s.rs) h

theorem WP.store_rs {off size : Fin S384x128.rank → ℕ} {inb : ∀ a, off a + size a ≤ S384x128.size a} {w : (Rect.unit off size inb).shape.Idx → Elt F .f32}
    {hx : (A.a12.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with rs := VecWindow.put s.rs off size w } Q) :
    WP A 𝒱 d (.op (.store A.a12 (Rect.unit off size inb) w Finset.univ hx hm) k) s Q :=
  WP.store_of (own_rs _) h

theorem own_flag (v : S1.Idx → Elt F .i32) : Own A d s ⊢ iprop(owns (d : Thread nD τ) A.a13 fullShare s.flag ∗ (owns (d : Thread nD τ) A.a13 fullShare v -∗ Own A d { s with flag := v })) := by
  unfold Own
  iintro ⟨H0, H1, H2, H3, H4, H5, H6, H7, H8, H9, H10, H11, H12⟩
  isplitl [H12]
  · iexact H12
  · iintro H12
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12

theorem WP.load_flag {off size : Fin S1.rank → ℕ} {inb : ∀ a, off a + size a ≤ S1.size a} {hl : A.a13.view.LoadsAt (Rect.unit off size inb).toLoadRect}
    {k : ((Rect.unit off size inb).shape.Idx → Elt F .i32) → Prog (TpuEff nD τ sig (Elt F) Λ₀ .tc) PUnit}
    (h : WP A 𝒱 d (k (VecWindow.window s.flag off size inb)) s Q) :
    WP A 𝒱 d (.op (.load A.a13 (Rect.unit off size inb).toLoadRect hl) k) s Q :=
  WP.load_of (own_flag s.flag) h

theorem WP.store_flag {off size : Fin S1.rank → ℕ} {inb : ∀ a, off a + size a ≤ S1.size a} {w : (Rect.unit off size inb).shape.Idx → Elt F .i32}
    {hx : (A.a13.access (Rect.unit off size inb)).Stores Finset.univ} {hm : Finset.univ = Finset.univ ∨ ∀ a, (Rect.unit off size inb).stride a = 1}
    {k : PUnit → Prog (TpuEff nD τ sig (Elt F) Λ₀ .tc) PUnit}
    (h : WP A 𝒱 d (k ⟨⟩) { s with flag := VecWindow.put s.flag off size w } Q) :
    WP A 𝒱 d (.op (.store A.a13 (Rect.unit off size inb) w Finset.univ hx hm) k) s Q :=
  WP.store_of (own_flag _) h

/-- The branch of a printed condition. -/
theorem WP.ite {c : Prop} [Decidable c] {p q : Prog (TpuEff nD τ sig (Elt F) Λ₀ .tc) PUnit}
    (hp : c → WP A 𝒱 d p s Q) (hq : ¬c → WP A 𝒱 d q s Q) : WP A 𝒱 d (if c then p else q) s Q := by
  split
  · exact hp ‹_›
  · exact hq ‹_›

end Cert.KernelIdeal.Body

end
-- ==== Proof.Blocks.lean ====
/- The kernel's body in blocks: each block is a piece of the body's text at general coordinates, with the program that
   follows as its continuation, and beside it what it does to the state (`…S`) and the rule that says so (`WP.…`). -/
module

public import proofs.«01_k».proof.Proof.Logic

@[expose] public section

noncomputable section

namespace Cert.KernelIdeal.Body

open Idealize.ShloMosaic Idealize.ShloMosaic.TcCoe Idealize.SL Idealize.SL.Sem
open Shapes1.Facts₀ Shapes2.Facts₀ K0.Facts₀ Facts

variable {F : FTy → Type} [FloatOps F]

/-- A program of the body. -/
abbrev P (F : FTy → Type) := Prog (TpuEff nD τ sig (Elt F) Λ₀ .tc) PUnit

/-- A load of a window, then `k`. -/
abbrev ld {sp : CoreSpace} {sh : Shape} {e : EltTy} (M : Memref sig .tc sp sh e) (off size : Fin sh.rank → ℕ) (inb : ∀ a, off a + size a ≤ sh.size a)
    (hl : M.view.LoadsAt (Rect.unit off size inb).toLoadRect) (k : ((Rect.unit off size inb).shape.Idx → Elt F e) → P F) : P F :=
  .op (.load M (Rect.unit off size inb).toLoadRect hl) k

/-- A store of a window, then `k`. -/
abbrev st {sp : CoreSpace} {sh : Shape} {e : EltTy} (M : Memref sig .tc sp sh e) (off size : Fin sh.rank → ℕ) (inb : ∀ a, off a + size a ≤ sh.size a)
    (w : (Rect.unit off size inb).shape.Idx → Elt F e) (hx : (M.access (Rect.unit off size inb)).Stores Finset.univ) (k : PUnit → P F) : P F :=
  .op (.store M (Rect.unit off size inb) w Finset.univ hx (.inl rfl)) k

theorem inb2 {R C a b r c : ℕ} (h₁ : r + a ≤ R) (h₂ : c + b ≤ C) : ∀ i, (![r, c] : Fin 2 → ℕ) i + (![a, b] : Fin 2 → ℕ) i ≤ (![R, C] : Fin 2 → ℕ) i := by
  intro i; fin_cases i <;> assumption

theorem inb4 {j t : ℕ} (h₁ : j < 8) (h₂ : t < 3) : ∀ i, (![j, t, 0, 0] : Fin 4 → ℕ) i + S1x1x256x256.size i ≤ S8x3x256x256.size i := by
  intro i; fin_cases i <;> simp <;> omega

/-- A loop carrying a value. -/
def loopK {σ : Type} {N : ℕ} (body : (i : ℕ) → i < N → σ → (σ → P F) → P F) : (n : ℕ) → n ≤ N → σ → (σ → P F) → P F
  | 0, _, a, k => k a
  | n + 1, h, a, k => loopK body n (Nat.le_of_succ_le h) a (fun a' => body n h a' k)

/-- A loop carrying nothing. -/
def loopU {N : ℕ} (body : (i : ℕ) → i < N → (PUnit → P F) → P F) : (n : ℕ) → n ≤ N → (PUnit → P F) → P F
  | 0, _, k => k ⟨⟩
  | n + 1, h, k => loopU body n (Nat.le_of_succ_le h) (fun _ => body n h k)

/-- A loop's fold. -/
def foldK {σ : Type} {N : ℕ} (f : (i : ℕ) → i < N → σ → σ) : (n : ℕ) → n ≤ N → σ → σ
  | 0, _, a => a
  | n + 1, h, a => f n h (foldK f n (Nat.le_of_succ_le h) a)

variable {A : Args} {𝒱 : Variants} {d : Dev nD} {Q : St F → Prop} {s : St F}

theorem WP.loopU {N : ℕ} {body : (i : ℕ) → i < N → (PUnit → P F) → P F} (f : (i : ℕ) → i < N → St F → St F)
    (hb : ∀ i hi k s, WP A 𝒱 d (k ⟨⟩) (f i hi s) Q → WP A 𝒱 d (body i hi k) s Q) :
    ∀ n hn k s, WP A 𝒱 d (k ⟨⟩) (foldK f n hn s) Q → WP A 𝒱 d (loopU body n hn k) s Q
  | 0, _, _, _, h => h
  | n + 1, hn, k, s, h => WP.loopU f hb n _ (fun _ => body n hn k) s (hb n hn k _ h)

theorem WP.loopK {σ : Type} {N : ℕ} {body : (i : ℕ) → i < N → σ → (σ → P F) → P F} (f : (i : ℕ) → i < N → σ × St F → σ × St F)
    (hb : ∀ i hi a k s, WP A 𝒱 d (k (f i hi (a, s)).1) (f i hi (a, s)).2 Q → WP A 𝒱 d (body i hi a k) s Q) :
    ∀ n hn a k s, WP A 𝒱 d (k (foldK f n hn (a, s)).1) (foldK f n hn (a, s)).2 Q → WP A 𝒱 d (loopK body n hn a k) s Q
  | 0, _, _, _, _, h => h
  | n + 1, hn, a, k, s, h => WP.loopK f hb n _ a (fun a' => body n hn a' k) s (hb n hn _ k _ h)

/-! ## One tile of the transform -/

/-- The tile's value: the rows times the three matrices, summed. -/
def hadTileV (x : Vec F S192x256 .bf16) (h0 h1 h2 : Vec F S1x1x256x256 .bf16) : FVec F S192x256 .f32 :=
  shapeCast S192x256 (addf (addf
    (matmul dot_S192x256_S256x256_S192x256_1_0_0_1_n_n none (shapeCast S192x256 x shapeCasts_S192x256_S192x256) (shapeCast S256x256 h0 shapeCasts_S1x1x256x256_S256x256) (constant S192x256 .f32 0x00000000#32))
    (matmul dot_S192x256_S256x256_S192x256_1_0_0_1_n_n none (shapeCast S192x256 x shapeCasts_S192x256_S192x256) (shapeCast S256x256 h1 shapeCasts_S1x1x256x256_S256x256) (constant S192x256 .f32 0x00000000#32)))
    (matmul dot_S192x256_S256x256_S192x256_1_0_0_1_n_n none (shapeCast S192x256 x shapeCasts_S192x256_S192x256) (shapeCast S256x256 h2 shapeCasts_S1x1x256x256_S256x256) (constant S192x256 .f32 0x00000000#32)))
    shapeCasts_S192x256_S192x256

/-- One tile: rows `r …`, columns `256 j …`. -/
def hadTile (A : Args) (r j : ℕ) (hr : r + 192 ≤ 384) (hj : j < 8) (k : PUnit → P F) : P F :=
  ld A.a1 ![r, 256 * j] S192x256.size (inb2 hr (by omega)) (View.loadsAt_vmem h_S192x256) fun x =>
  ld A.a8 ![j, 0, 0, 0] S1x1x256x256.size (inb4 hj (by omega)) (View.loadsAt_vmem h_S1x1x256x256) fun h0 =>
  ld A.a8 ![j, 1, 0, 0] S1x1x256x256.size (inb4 hj (by omega)) (View.loadsAt_vmem h_S1x1x256x256) fun h1 =>
  ld A.a8 ![j, 2, 0, 0] S1x1x256x256.size (inb4 hj (by omega)) (View.loadsAt_vmem h_S1x1x256x256) fun h2 =>
  ld A.a10 ![r, 256 * j] S192x256.size (inb2 hr (by omega)) (View.loadsAt_vmem h_S192x256) fun _ =>
  st A.a10 ![r, 256 * j] S192x256.size (inb2 hr (by omega)) (hadTileV x h0 h1 h2) (View.stores_vmem_bits_univ h_S192x256 rfl) k

def hadTileS (r j : ℕ) (hr : r + 192 ≤ 384) (hj : j < 8) (s : St F) : St F :=
  { s with u := VecWindow.put s.u ![r, 256 * j] S192x256.size (hadTileV
      (VecWindow.window s.x ![r, 256 * j] S192x256.size (inb2 hr (by omega)))
      (VecWindow.window s.had ![j, 0, 0, 0] S1x1x256x256.size (inb4 hj (by omega)))
      (VecWindow.window s.had ![j, 1, 0, 0] S1x1x256x256.size (inb4 hj (by omega)))
      (VecWindow.window s.had ![j, 2, 0, 0] S1x1x256x256.size (inb4 hj (by omega)))) }

theorem WP.hadTile {r j : ℕ} {hr : r + 192 ≤ 384} {hj : j < 8} {k : PUnit → P F} (h : WP A 𝒱 d (k ⟨⟩) (hadTileS r j hr hj s) Q) :
    WP A 𝒱 d (hadTile A r j hr hj k) s Q :=
  WP.load_x <| WP.load_had <| WP.load_had <| WP.load_had <| WP.load_u <| WP.store_u h

/-! ## Thirty-two rows: normalise, transform across tiles, quantise -/

/-- The squares of one column chunk. -/
def sqV (x : Vec F S16x128 .bf16) : FVec F S16x128 .f32 :=
  mulf (extf .f32 (shapeCast S16x128 x shapeCasts_S16x128_S16x128) bitsLt_bf16_f32) (extf .f32 (shapeCast S16x128 x shapeCasts_S16x128_S16x128) bitsLt_bf16_f32)

/-- The running sum of squares over sixteen column chunks. -/
def sqsum (A : Args) (r : ℕ) (hr : r + 16 ≤ 384) (k : FVec F S16x128 .f32 → P F) : P F :=
  ld A.a1 ![r, 0] S16x128.size (inb2 hr (by omega)) (View.loadsAt_vmem h_S16x128) fun x =>
  loopK (N := 15) (fun i hi a k => ld A.a1 ![r, 128 * (i + 1)] S16x128.size (inb2 hr (by omega)) (View.loadsAt_vmem h_S16x128) fun x => k (addf a (sqV x)))
    15 le_rfl (sqV x) k

def sqsumS (r : ℕ) (hr : r + 16 ≤ 384) (s : St F) : FVec F S16x128 .f32 :=
  foldK (N := 15) (fun i hi a => addf a (sqV (VecWindow.window s.x ![r, 128 * (i + 1)] S16x128.size (inb2 hr (by omega)))))
    15 le_rfl (sqV (VecWindow.window s.x ![r, 0] S16x128.size (inb2 hr (by omega))))

theorem foldK_pair {σ τ : Type} {N : ℕ} (f : (i : ℕ) → i < N → σ → σ) (s : τ) : ∀ n hn a,
    foldK (N := N) (fun i hi (p : σ × τ) => (f i hi p.1, p.2)) n hn (a, s) = (foldK f n hn a, s)
  | 0, _, _ => rfl
  | n + 1, hn, a => by simp only [foldK, foldK_pair f s n]

theorem foldK_pair' {σ τ : Type} {N : ℕ} (f : (i : ℕ) → i < N → τ → σ → σ) (s : τ) : ∀ n hn a,
    foldK (N := N) (fun i hi (p : σ × τ) => (f i hi p.2 p.1, p.2)) n hn (a, s) = (foldK (fun i hi => f i hi s) n hn a, s)
  | 0, _, _ => rfl
  | n + 1, hn, a => by simp only [foldK, foldK_pair' f s n]

theorem WP.sqsum {r : ℕ} {hr : r + 16 ≤ 384} {k : FVec F S16x128 .f32 → P F} (h : WP A 𝒱 d (k (sqsumS r hr s)) s Q) :
    WP A 𝒱 d (sqsum A r hr k) s Q := by
  refine WP.load_x <| WP.loopK (fun i hi p => (addf p.1 (sqV (VecWindow.window p.2.x ![r, 128 * (i + 1)] S16x128.size (inb2 hr (by omega)))), p.2))
    (fun i hi a k s h => WP.load_x h) _ _ _ _ _ ?_
  rw [foldK_pair' (fun i hi (s : St F) a => addf a (sqV (VecWindow.window s.x ![r, 128 * (i + 1)] S16x128.size (inb2 hr (by omega)))))]
  exact h

/-- The butterfly across eight tiles. -/
def bflyV (a : Fin 8 → FVec F S16x128 .f32) : Fin 8 → FVec F S16x128 .f32 :=
  let p0 := addf (a 0) (a 4); let m0 := subf (a 0) (a 4)
  let p1 := addf (a 1) (a 5); let m1 := subf (a 1) (a 5)
  let p2 := addf (a 2) (a 6); let m2 := subf (a 2) (a 6)
  let p3 := addf (a 3) (a 7); let m3 := subf (a 3) (a 7)
  let q0 := addf p0 p2; let q1 := subf p0 p2
  let q2 := addf p1 p3; let q3 := subf p1 p3
  let q4 := addf m0 m2; let q5 := subf m0 m2
  let q6 := addf m1 m3; let q7 := subf m1 m3
  ![addf q0 q2, subf q0 q2, addf q1 q3, subf q1 q3, addf q4 q6, subf q4 q6, addf q5 q7, subf q5 q7]

/-- Put the butterfly's result `v` into tile `j`, after a load of what is there. -/
def putU (A : Args) (r l j : ℕ) (hr : r + 16 ≤ 384) (hl : l + 128 ≤ 256) (hj : j < 8) (v : FVec F S16x128 .f32) (k : PUnit → P F) : P F :=
  ld A.a10 ![r, 256 * j + l] S16x128.size (inb2 hr (by omega)) (View.loadsAt_vmem h_S16x128) fun _ =>
  st A.a10 ![r, 256 * j + l] S16x128.size (inb2 hr (by omega)) (shapeCast S16x128 v shapeCasts_S16x128_S16x128) (View.stores_vmem_bits_univ h_S16x128 rfl) k

def putUS (r l j : ℕ) (v : FVec F S16x128 .f32) (s : St F) : St F :=
  { s with u := VecWindow.put s.u ![r, 256 * j + l] S16x128.size (shapeCast S16x128 v shapeCasts_S16x128_S16x128) }

theorem WP.putU {r l j : ℕ} {hr : r + 16 ≤ 384} {hl : l + 128 ≤ 256} {hj : j < 8} {v : FVec F S16x128 .f32} {k : PUnit → P F}
    (h : WP A 𝒱 d (k ⟨⟩) (putUS r l j v s) Q) : WP A 𝒱 d (putU A r l j hr hl hj v k) s Q :=
  WP.load_u <| WP.store_u h

/-- The eight loads of one lane half. -/
def ldU (A : Args) (r l : ℕ) (hr : r + 16 ≤ 384) (hl : l + 128 ≤ 256) (k : (Fin 8 → FVec F S16x128 .f32) → P F) : P F :=
  ld A.a10 ![r, 256 * 0 + l] S16x128.size (inb2 hr (by omega)) (View.loadsAt_vmem h_S16x128) fun a0 =>
  ld A.a10 ![r, 256 * 1 + l] S16x128.size (inb2 hr (by omega)) (View.loadsAt_vmem h_S16x128) fun a1 =>
  ld A.a10 ![r, 256 * 2 + l] S16x128.size (inb2 hr (by omega)) (View.loadsAt_vmem h_S16x128) fun a2 =>
  ld A.a10 ![r, 256 * 3 + l] S16x128.size (inb2 hr (by omega)) (View.loadsAt_vmem h_S16x128) fun a3 =>
  ld A.a10 ![r, 256 * 4 + l] S16x128.size (inb2 hr (by omega)) (View.loadsAt_vmem h_S16x128) fun a4 =>
  ld A.a10 ![r, 256 * 5 + l] S16x128.size (inb2 hr (by omega)) (View.loadsAt_vmem h_S16x128) fun a5 =>
  ld A.a10 ![r, 256 * 6 + l] S16x128.size (inb2 hr (by omega)) (View.loadsAt_vmem h_S16x128) fun a6 =>
  ld A.a10 ![r, 256 * 7 + l] S16x128.size (inb2 hr (by omega)) (View.loadsAt_vmem h_S16x128) fun a7 =>
  k ![a0, a1, a2, a3, a4, a5, a6, a7]

def ldUS (r l : ℕ) (hr : r + 16 ≤ 384) (hl : l + 128 ≤ 256) (s : St F) : Fin 8 → FVec F S16x128 .f32 :=
  ![VecWindow.window s.u ![r, 256 * 0 + l] S16x128.size (inb2 hr (by omega)), VecWindow.window s.u ![r, 256 * 1 + l] S16x128.size (inb2 hr (by omega)),
    VecWindow.window s.u ![r, 256 * 2 + l] S16x128.size (inb2 hr (by omega)), VecWindow.window s.u ![r, 256 * 3 + l] S16x128.size (inb2 hr (by omega)),
    VecWindow.window s.u ![r, 256 * 4 + l] S16x128.size (inb2 hr (by omega)), VecWindow.window s.u ![r, 256 * 5 + l] S16x128.size (inb2 hr (by omega)),
    VecWindow.window s.u ![r, 256 * 6 + l] S16x128.size (inb2 hr (by omega)), VecWindow.window s.u ![r, 256 * 7 + l] S16x128.size (inb2 hr (by omega))]

theorem WP.ldU {r l : ℕ} {hr : r + 16 ≤ 384} {hl : l + 128 ≤ 256} {k : (Fin 8 → FVec F S16x128 .f32) → P F}
    (h : WP A 𝒱 d (k (ldUS r l hr hl s)) s Q) : WP A 𝒱 d (ldU A r l hr hl k) s Q :=
  WP.load_u <| WP.load_u <| WP.load_u <| WP.load_u <| WP.load_u <| WP.load_u <| WP.load_u <| WP.load_u h

/-- The eight stores of one lane half. -/
def putAll (A : Args) (r l : ℕ) (hr : r + 16 ≤ 384) (hl : l + 128 ≤ 256) (v : Fin 8 → FVec F S16x128 .f32) (k : PUnit → P F) : P F :=
  loopU (N := 8) (fun j hj k => putU A r l j hr hl hj (v ⟨j, hj⟩) k) 8 le_rfl k

def putAllS (r l : ℕ) (v : Fin 8 → FVec F S16x128 .f32) (s : St F) : St F :=
  foldK (N := 8) (fun j hj s => putUS r l j (v ⟨j, hj⟩) s) 8 le_rfl s

theorem WP.putAll {r l : ℕ} {hr : r + 16 ≤ 384} {hl : l + 128 ≤ 256} {v : Fin 8 → FVec F S16x128 .f32} {k : PUnit → P F}
    (h : WP A 𝒱 d (k ⟨⟩) (putAllS r l v s) Q) : WP A 𝒱 d (putAll A r l hr hl v k) s Q :=
  WP.loopU (fun j hj s => putUS r l j (v ⟨j, hj⟩) s) (fun _ _ _ _ h => WP.putU h) _ _ _ _ h

/-- The largest magnitude of the two halves. -/
def amaxV (v w : Fin 8 → FVec F S16x128 .f32) : FVec F S16x128 .f32 :=
  let m := maximumf (maximumf (maximumf (maximumf (maximumf (maximumf (maximumf (absf (v 0)) (absf (v 1))) (absf (v 2))) (absf (v 3))) (absf (v 4))) (absf (v 5))) (absf (v 6))) (absf (v 7))
  maximumf (maximumf (maximumf (maximumf (maximumf (maximumf (maximumf (maximumf m (absf (w 0))) (absf (w 1))) (absf (w 2))) (absf (w 3))) (absf (w 4))) (absf (w 5))) (absf (w 6))) (absf (w 7))

/-- The row factor: `rsqrt (mean + ε)` times the transform's. -/
def rcV (q : FVec F S16x128 .f32) : FVec F S16x1 .f32 :=
  mulf (rsqrt (addf (mulf (shapeCast S16x1 (multiReduction .add [1] S16 q 0x00000000#32 reduces_S16x128_S16 (.inl rfl) rfl) shapeCasts_S16_S16x1)
    (broadcast S16x1 (Scalar.ofBits .f32 0x3A000000#32))) (broadcast S16x1 (Scalar.ofBits .f32 0x3727C5AC#32)))) (broadcast S16x1 (Scalar.ofBits .f32 0x3CB504F3#32))

/-- The row scale. -/
def scaleV (rc : FVec F S16x1 .f32) (m : FVec F S16x128 .f32) : FVec F S16x1 .f32 :=
  let a := mulf (shapeCast S16x1 (multiReduction .maximumf [1] S16 m 0xFF800000#32 reduces_S16x128_S16 (.inl rfl) rfl) shapeCasts_S16_S16x1) rc
  select (cmpf .oeq a (broadcast S16x1 (Scalar.ofBits .f32 0x00000000#32))) (broadcast S16x1 (Scalar.ofBits .f32 0x3F800000#32)) (divf a (broadcast S16x1 (Scalar.ofBits .f32 0x40E00000#32)))

/-- What is stored of a row's scale. -/
def scaleB (sc : FVec F S16x1 .f32) : FVec F S16x128 .f32 :=
  shapeCast S16x128 (broadcastTo S16x128 (shapeCast S16x1 sc shapeCasts_S16x1_S16x1) broadcasts_S16x1_S16x128) shapeCasts_S16x128_S16x128

/-- Sixteen rows: the factor and the scale are computed, the transform completed, and the scale stored; the quotient goes on. -/
def rows16 (A : Args) (r : ℕ) (hr : r + 16 ≤ 384) (k : FVec F S16x1 .f32 → P F) : P F :=
  sqsum A r hr fun q =>
  ldU A r 0 hr (by omega) fun a =>
  putAll A r 0 hr (by omega) (bflyV a) fun _ =>
  ldU A r 128 hr (by omega) fun b =>
  putAll A r 128 hr (by omega) (bflyV b) fun _ =>
  ld A.a12 ![r, 0] S16x128.size (inb2 hr (by omega)) (View.loadsAt_vmem h_S16x128) fun _ =>
  st A.a12 ![r, 0] S16x128.size (inb2 hr (by omega)) (scaleB (scaleV (rcV q) (amaxV (bflyV a) (bflyV b)))) (View.stores_vmem_bits_univ h_S16x128 rfl) fun _ =>
  k (divf (rcV q) (scaleV (rcV q) (amaxV (bflyV a) (bflyV b))))

def bfly0S (r : ℕ) (hr : r + 16 ≤ 384) (s : St F) : St F := putAllS r 0 (bflyV (ldUS r 0 hr (by omega) s)) s

def bfly1S (r : ℕ) (hr : r + 16 ≤ 384) (s : St F) : St F := putAllS r 128 (bflyV (ldUS r 128 hr (by omega) (bfly0S r hr s))) (bfly0S r hr s)

def scaleS (r : ℕ) (hr : r + 16 ≤ 384) (s : St F) : FVec F S16x1 .f32 :=
  scaleV (rcV (sqsumS r hr s)) (amaxV (bflyV (ldUS r 0 hr (by omega) s)) (bflyV (ldUS r 128 hr (by omega) (bfly0S r hr s))))

def invS (r : ℕ) (hr : r + 16 ≤ 384) (s : St F) : FVec F S16x1 .f32 := divf (rcV (sqsumS r hr s)) (scaleS r hr s)

def rows16S (r : ℕ) (hr : r + 16 ≤ 384) (s : St F) : St F :=
  { bfly1S r hr s with rs := VecWindow.put (bfly1S r hr s).rs ![r, 0] S16x128.size (scaleB (scaleS r hr s)) }

theorem WP.rows16 {r : ℕ} {hr : r + 16 ≤ 384} {k : FVec F S16x1 .f32 → P F} (h : WP A 𝒱 d (k (invS r hr s)) (rows16S r hr s) Q) :
    WP A 𝒱 d (rows16 A r hr k) s Q :=
  WP.sqsum <| WP.ldU <| WP.putAll <| WP.ldU <| WP.putAll <| WP.load_rs <| WP.store_rs h

/-- The codes of one column chunk. -/
def codesV (inv : FVec F S32x1 .f32) (v : Vec F S32x128 .f32) : IVec S32x128 8 :=
  fptosi 8 (minimumf (broadcast S32x128 (Scalar.ofBits .f32 0x40E00000#32)) (maximumf (broadcast S32x128 (Scalar.ofBits .f32 0xC0E00000#32))
    (roundeven (mulf v (broadcastTo S32x128 inv broadcasts_S32x1_S32x128)))))

def cbV (c : IVec S32x128 8) : FVec F S32x128 .bf16 := shapeCast S32x128 (sitofp .bf16 c) shapeCasts_S32x128_S32x128

theorem packed2 {R C a b r c p : ℕ} {inb} (h₁ : p ∣ r) (h₂ : p ∣ a) : (Rect.unit (s := ⟨2, ![R, C]⟩) ![r, c] (![a, b] : Fin 2 → ℕ) inb).PackedRows p :=
  Or.inr ⟨le_refl 2, rfl, Or.inl ⟨h₁, h₂⟩⟩

def codesChunk (A : Args) (r c : ℕ) (hr : r + 32 ≤ 384) (h32 : 32 ∣ r) (hc : c < 16) (inv : FVec F S32x1 .f32) (k : PUnit → P F) : P F :=
  ld A.a10 ![r, 128 * c] S32x128.size (inb2 hr (by omega)) (View.loadsAt_vmem h_S32x128) fun v =>
  ld A.a6 ![r, 128 * c] S32x128.size (inb2 hr (by omega)) (View.loadsAt_vmem h_S32x128) fun _ =>
  st A.a6 ![r, 128 * c] S32x128.size (inb2 hr (by omega)) (codesV inv v)
    (View.stores_vmem h_S32x128 (A.h6.storeExact_slice rfl _ (packed2 (Dvd.dvd.trans (by decide) h32) (by decide))) (fun _ => rfl)) fun _ =>
  ld A.a11 ![r, 128 * c] S32x128.size (inb2 hr (by omega)) (View.loadsAt_vmem h_S32x128) fun _ =>
  st A.a11 ![r, 128 * c] S32x128.size (inb2 hr (by omega)) (cbV (codesV inv v))
    (View.stores_vmem h_S32x128 (A.h11.storeExact_slice rfl _ (packed2 (Dvd.dvd.trans (by decide) h32) (by decide))) (fun _ => rfl)) k

def codesChunkS (r c : ℕ) (hr : r + 32 ≤ 384) (hc : c < 16) (inv : FVec F S32x1 .f32) (s : St F) : St F :=
  { s with
    codes := VecWindow.put s.codes ![r, 128 * c] S32x128.size (codesV inv (VecWindow.window s.u ![r, 128 * c] S32x128.size (inb2 hr (by omega))))
    cb := VecWindow.put s.cb ![r, 128 * c] S32x128.size (cbV (codesV inv (VecWindow.window s.u ![r, 128 * c] S32x128.size (inb2 hr (by omega))))) }

theorem WP.codesChunk {r c : ℕ} {hr : r + 32 ≤ 384} {h32 : 32 ∣ r} {hc : c < 16} {inv : FVec F S32x1 .f32} {k : PUnit → P F}
    (h : WP A 𝒱 d (k ⟨⟩) (codesChunkS r c hr hc inv s) Q) : WP A 𝒱 d (codesChunk A r c hr h32 hc inv k) s Q :=
  WP.load_u <| WP.load_codes <| WP.store_codes <| WP.load_cb <| WP.store_cb h

def codesAllS (r : ℕ) (hr : r + 32 ≤ 384) (inv : FVec F S32x1 .f32) (s : St F) : St F :=
  foldK (N := 16) (fun c hc s => codesChunkS r c hr hc inv s) 16 le_rfl s

/-- The two quotients, one under the other. -/
def inv32 (a b : FVec F S16x1 .f32) : FVec F S32x1 .f32 := concatenate S32x1 0 [⟨S16x1, a⟩, ⟨S16x1, b⟩] concatenates_S16x1_S16x1_S32x1_d0

def rows32 (A : Args) (r : ℕ) (hr : r + 32 ≤ 384) (h32 : 32 ∣ r) (k : PUnit → P F) : P F :=
  rows16 A r (by omega) fun a =>
  rows16 A (r + 16) (by omega) fun b =>
  loopU (N := 16) (fun c hc k => codesChunk A r c hr h32 hc (inv32 a b) k) 16 le_rfl k

def rows32S (r : ℕ) (hr : r + 32 ≤ 384) (s : St F) : St F :=
  codesAllS r hr (inv32 (invS r (by omega) s) (invS (r + 16) (by omega) (rows16S r (by omega) s))) (rows16S (r + 16) (by omega) (rows16S r (by omega) s))

theorem WP.rows32 {r : ℕ} {hr : r + 32 ≤ 384} {h32 : 32 ∣ r} {k : PUnit → P F} (h : WP A 𝒱 d (k ⟨⟩) (rows32S r hr s) Q) :
    WP A 𝒱 d (rows32 A r hr h32 k) s Q :=
  WP.rows16 <| WP.rows16 <| WP.loopU (fun c hc s => codesChunkS r c hr hc _ s) (fun _ _ _ _ h => WP.codesChunk h) _ _ _ _ h

end Cert.KernelIdeal.Body

end
-- ==== Proof.Blocks2.lean ====
/- The rest of the body's blocks: the projection of 192 rows, the row scales' table, the plain projection taken when a
   packed field is not one of three values, and the first point's preparation. -/
module

public import proofs.«01_k».proof.Proof.Blocks

@[expose] public section

noncomputable section

namespace Cert.KernelIdeal.Body

open Idealize.ShloMosaic Idealize.ShloMosaic.TcCoe Idealize.SL Idealize.SL.Sem
open Shapes1.Facts₀ Shapes2.Facts₀ K0.Facts₀ Facts

variable {F : FTy → Type} [FloatOps F]
variable {A : Args} {𝒱 : Variants} {d : Dev nD} {Q : St F → Prop} {s : St F}

/-- Put a value into a window of the result, after a load of what is there. -/
def putY (A : Args) {n m : ℕ} (r c : ℕ) (hr : r + n ≤ 384) (hc : c + m ≤ 1536) (h0 : 0 < (⟨2, ![n, m]⟩ : Shape).numel) (h2 : 2 ∣ r) (hn : 2 ∣ n)
    (v : FVec F ⟨2, ![n, m]⟩ .bf16) (k : PUnit → P F) : P F :=
  ld A.a5 ![r, c] (![n, m] : Fin 2 → ℕ) (inb2 hr hc) (View.loadsAt_vmem h0) fun _ =>
  st A.a5 ![r, c] (![n, m] : Fin 2 → ℕ) (inb2 hr hc) v (View.stores_vmem h0 (A.h5.storeExact_slice rfl _ (packed2 h2 hn)) (fun _ => rfl)) k

def putYS {n m : ℕ} (r c : ℕ) (v : FVec F ⟨2, ![n, m]⟩ .bf16) (s : St F) : St F :=
  { s with y := VecWindow.put s.y ![r, c] (![n, m] : Fin 2 → ℕ) v }

theorem WP.putY {n m r c : ℕ} {hr : r + n ≤ 384} {hc : c + m ≤ 1536} {h0 : 0 < (⟨2, ![n, m]⟩ : Shape).numel} {h2 : 2 ∣ r} {hn : 2 ∣ n}
    {v : FVec F ⟨2, ![n, m]⟩ .bf16} {k : PUnit → P F} (h : WP A 𝒱 d (k ⟨⟩) (putYS r c v s) Q) : WP A 𝒱 d (putY A r c hr hc h0 h2 hn v k) s Q :=
  WP.load_y <| WP.store_y h

/-- The one word of a scalar buffer. -/
abbrev ldw {e : EltTy} (M : Memref sig .tc .smem S1 e) (hl : M.view.LoadsAt (Rect.unit (s := S1) ![0] S1.size inb_S1_S1_0).toLoadRect) (k : Elt F e → P F) : P F :=
  ld M ![0] S1.size inb_S1_S1_0 hl fun f => k (f (Shape.Idx.first (numel1_S1.symm ▸ Nat.one_pos)))

/-- The one element read of a scalar buffer. -/
abbrev word {e : EltTy} (x : S1.Idx → Elt F e) : Elt F e :=
  VecWindow.window x ![0] S1.size inb_S1_S1_0 (Shape.Idx.first (numel1_S1.symm ▸ Nat.one_pos))

/-! ## The projection of 192 rows -/

/-- The row factors of the projection: scale times the weight's. -/
def bcV (sc : Vec F S192x1 .f32) (ws : F .f32) : FVec F S192x1 .f32 := mulf sc (broadcast S192x1 ws)

def acV (b : FVec F S192x1 .f32) : FVec F S192x1 .f32 := mulf b (broadcast S192x1 (Scalar.ofBits .f32 0x43000000#32))

/-- The product of the codes with a packed table. -/
def tabV (c : Vec F S192x2048 .bf16) (w : Vec F S2048x256 .bf16) : FVec F S192x256 .f32 :=
  matmul dot_S192x2048_S2048x256_S192x256_1_0_0_1_n_n none c w (constant S192x256 .f32 0x00000000#32)

/-- The middle product, separated. -/
def midV (t1 t2 : FVec F S192x256 .f32) : FVec F S192x256 .f32 :=
  roundeven (subf t1 (mulf t2 (broadcast S192x256 (Scalar.ofBits .f32 0x38008081#32))))

def y0V (b : FVec F S192x1 .f32) (t1 t2 : FVec F S192x256 .f32) : FVec F S192x256 .bf16 :=
  truncf .bf16 (mulf (subf t1 (midV t1 t2)) (broadcastTo S192x256 (acV b) broadcasts_S192x1_S192x256)) bitsLt_bf16_f32

def y1V (b : FVec F S192x1 .f32) (t1 t2 : FVec F S192x256 .f32) : FVec F S192x256 .bf16 :=
  truncf .bf16 (mulf (midV t1 t2) (broadcastTo S192x256 b broadcasts_S192x1_S192x256)) bitsLt_bf16_f32

def y2V (b : FVec F S192x1 .f32) (t1 t2 : FVec F S192x256 .f32) : FVec F S192x256 .bf16 :=
  truncf .bf16 (mulf (subf t2 (mulf (subf t1 (midV t1 t2)) (broadcast S192x256 (Scalar.ofBits .f32 0x46FF0000#32)))) (broadcastTo S192x256 b broadcasts_S192x1_S192x256)) bitsLt_bf16_f32

/-- One column tile's three results. -/
def projTile (A : Args) (r c : ℕ) (hr : r + 192 ≤ 384) (hc : c < 2) (h2 : 2 ∣ r) (cb : Vec F S192x2048 .bf16) (b : FVec F S192x1 .f32) (k : PUnit → P F) : P F :=
  ld A.a9 ![0, 256 * c] S2048x256.size (inb2 (by decide) (by omega)) (View.loadsAt_vmem h_S2048x256) fun w1 =>
  ld A.a9 ![0, 512 + 256 * c] S2048x256.size (inb2 (by decide) (by omega)) (View.loadsAt_vmem h_S2048x256) fun w2 =>
  putY A (n := 192) (m := 256) r (256 * c) hr (by omega) h_S192x256 h2 (by decide) (y0V b (tabV cb w1) (tabV cb w2)) fun _ =>
  putY A (n := 192) (m := 256) r (512 + 256 * c) hr (by omega) h_S192x256 h2 (by decide) (y1V b (tabV cb w1) (tabV cb w2)) fun _ =>
  putY A (n := 192) (m := 256) r (1024 + 256 * c) hr (by omega) h_S192x256 h2 (by decide) (y2V b (tabV cb w1) (tabV cb w2)) k

def tab1S (r c : ℕ) (hc : c < 2) (cb : Vec F S192x2048 .bf16) (s : St F) : FVec F S192x256 .f32 :=
  tabV cb (VecWindow.window s.wp ![0, 256 * c] S2048x256.size (inb2 (by decide) (by omega)))

def tab2S (r c : ℕ) (hc : c < 2) (cb : Vec F S192x2048 .bf16) (s : St F) : FVec F S192x256 .f32 :=
  tabV cb (VecWindow.window s.wp ![0, 512 + 256 * c] S2048x256.size (inb2 (by decide) (by omega)))

def projTileS (r c : ℕ) (hc : c < 2) (cb : Vec F S192x2048 .bf16) (b : FVec F S192x1 .f32) (s : St F) : St F :=
  putYS (n := 192) (m := 256) r (1024 + 256 * c) (y2V b (tab1S r c hc cb s) (tab2S r c hc cb s))
    (putYS (n := 192) (m := 256) r (512 + 256 * c) (y1V b (tab1S r c hc cb s) (tab2S r c hc cb s))
      (putYS (n := 192) (m := 256) r (256 * c) (y0V b (tab1S r c hc cb s) (tab2S r c hc cb s)) s))

theorem WP.projTile {r c : ℕ} {hr : r + 192 ≤ 384} {hc : c < 2} {h2 : 2 ∣ r} {cb : Vec F S192x2048 .bf16} {b : FVec F S192x1 .f32} {k : PUnit → P F}
    (h : WP A 𝒱 d (k ⟨⟩) (projTileS r c hc cb b s) Q) : WP A 𝒱 d (projTile A r c hr hc h2 cb b k) s Q :=
  WP.load_wp <| WP.load_wp <| WP.putY <| WP.putY <| WP.putY h

def proj (A : Args) (r : ℕ) (hr : r + 192 ≤ 384) (h2 : 2 ∣ r) (hl : A.a4.view.LoadsAt (Rect.unit (s := S1) ![0] S1.size inb_S1_S1_0).toLoadRect) (k : PUnit → P F) : P F :=
  ld A.a11 ![r, 0] S192x2048.size (inb2 hr (by decide)) (View.loadsAt_vmem h_S192x2048) fun cb =>
  ld A.a12 ![r, 0] S192x1.size (inb2 hr (by decide)) (View.loadsAt_vmem h_S192x1) fun sc =>
  ldw A.a4 hl fun ws =>
  projTile A r 0 hr (by decide) h2 cb (bcV sc ws) fun _ =>
  projTile A r 1 hr (by decide) h2 cb (bcV sc ws) k

def projS (r : ℕ) (hr : r + 192 ≤ 384) (s : St F) : St F :=
  let cb := VecWindow.window s.cb ![r, 0] S192x2048.size (inb2 hr (by decide))
  let b := bcV (VecWindow.window s.rs ![r, 0] S192x1.size (inb2 hr (by decide))) (word s.ws)
  projTileS r 1 (by decide) cb b (projTileS r 0 (by decide) cb b s)

theorem WP.proj {r : ℕ} {hr : r + 192 ≤ 384} {h2 : 2 ∣ r} {hl} {k : PUnit → P F}
    (h : WP A 𝒱 d (k ⟨⟩) (projS r hr s) Q) : WP A 𝒱 d (proj A r hr h2 hl k) s Q :=
  WP.load_cb <| WP.load_rs <| WP.load_ws <| WP.projTile <| WP.projTile h

/-! ## The scales' table -/

def diagM : IVec S128x128 1 := cmpi .eq (iota .tc S128x128 32 [0] iota_S128x128_d0_w32) (iota .tc S128x128 32 [1] iota_S128x128_d1_w32)

/-- A row of scales read off the diagonal of their broadcasts. -/
def diagV (v : Vec F S128x128 .f32) : FVec F S1x128 .f32 :=
  shapeCast S1x128 (multiReduction .add [0] S128 (select diagM v (broadcast S128x128 (Scalar.ofBits .f32 0x00000000#32))) 0x00000000#32 reduces_S128x128_S128 (.inl rfl) rfl) shapeCasts_S128_S1x128

/-- The table with the point's row replaced. -/
def rowV (t : BitVec 32) (v : Vec F S128x128 .f32) (o : Vec F S5x128 .f32) : FVec F S5x128 .f32 :=
  select (cmpi .eq (iota .tc S5x128 32 [0] iota_S5x128_d0_w32) (broadcast S5x128 t))
    (broadcastTo S5x128 (shapeCast S1x128 (diagV v) shapeCasts_S1x128_S1x128) broadcasts_S1x128_S5x128) (shapeCast S5x128 o shapeCasts_S5x128_S5x128)

def scaleTile (A : Args) (t : BitVec 32) (c : ℕ) (hc : c < 3) (k : PUnit → P F) : P F :=
  ld A.a12 ![128 * c, 0] S128x128.size (inb2 (by omega) (by decide)) (View.loadsAt_vmem h_S128x128) fun v =>
  ld A.a7 ![0, 128 * c] S5x128.size (inb2 (by decide) (by omega)) (View.loadsAt_vmem h_S5x128) fun o =>
  ld A.a7 ![0, 128 * c] S5x128.size (inb2 (by decide) (by omega)) (View.loadsAt_vmem h_S5x128) fun _ =>
  st A.a7 ![0, 128 * c] S5x128.size (inb2 (by decide) (by omega)) (rowV t v o) (View.stores_vmem_bits_univ h_S5x128 rfl) k

def scaleTileS (t : BitVec 32) (c : ℕ) (hc : c < 3) (s : St F) : St F :=
  { s with scales := VecWindow.put s.scales ![0, 128 * c] S5x128.size <|
      (rowV t (VecWindow.window s.rs ![128 * c, 0] S128x128.size (inb2 (by omega) (by decide))) (VecWindow.window s.scales ![0, 128 * c] S5x128.size (inb2 (by decide) (by omega)))) }

theorem WP.scaleTile {t : BitVec 32} {c : ℕ} {hc : c < 3} {k : PUnit → P F} (h : WP A 𝒱 d (k ⟨⟩) (scaleTileS t c hc s) Q) :
    WP A 𝒱 d (scaleTile A t c hc k) s Q :=
  WP.load_rs <| WP.load_scales <| WP.load_scales <| WP.store_scales h

/-! ## Packed fields -/

/-- Field `f` of the packed weights, as its value less one. -/
def decV (f : ℕ) (w : Vec F S512x256 .i8) : FVec F S512x256 .bf16 :=
  subf (sitofp .bf16 (bitcast S512x256 8 (andi (shrui (bitcast S128x256 32 w bitcasts_S512x256_w8_S128x256_w32) (broadcast S128x256 (BitVec.ofNat 32 (2 * f))))
    (broadcast S128x256 50529027#32)) bitcasts_S128x256_w32_S512x256_w8)) (broadcast S512x256 (Scalar.ofBits .bf16 0x3F80#16))

/-! ## The plain projection -/

/-- One field's product. -/
def fbTerm (A : Args) (f c : ℕ) (hf : f < 4) (hc : c < 6) (k : FVec F S384x256 .f32 → P F) : P F :=
  ld A.a3 ![0, 256 * c] S512x256.size (inb2 (by decide) (by omega)) (View.loadsAt_vmem h_S512x256) fun w =>
  ld A.a11 ![0, 512 * f] S384x512.size (inb2 (by decide) (by omega)) (View.loadsAt_vmem h_S384x512) fun cb =>
  k (matmul dot_S384x512_S512x256_S384x256_1_0_0_1_n_n none cb (decV f w) (constant S384x256 .f32 0x00000000#32))

def fbTermS (f c : ℕ) (hf : f < 4) (hc : c < 6) (s : St F) : FVec F S384x256 .f32 :=
  matmul dot_S384x512_S512x256_S384x256_1_0_0_1_n_n none (VecWindow.window s.cb ![0, 512 * f] S384x512.size (inb2 (by decide) (by omega)))
    (decV f (VecWindow.window s.w ![0, 256 * c] S512x256.size (inb2 (by decide) (by omega)))) (constant S384x256 .f32 0x00000000#32)

theorem WP.fbTerm {f c : ℕ} {hf : f < 4} {hc : c < 6} {k : FVec F S384x256 .f32 → P F} (h : WP A 𝒱 d (k (fbTermS f c hf hc s)) s Q) :
    WP A 𝒱 d (fbTerm A f c hf hc k) s Q :=
  WP.load_w <| WP.load_cb h

def fbV (acc : FVec F S384x256 .f32) (sc : Vec F S384x1 .f32) (ws : F .f32) : FVec F S384x256 .bf16 :=
  truncf .bf16 (mulf acc (broadcastTo S384x256 (mulf sc (broadcast S384x1 ws)) broadcasts_S384x1_S384x256)) bitsLt_bf16_f32

def fbTile (A : Args) (c : ℕ) (hc : c < 6) (hl : A.a4.view.LoadsAt (Rect.unit (s := S1) ![0] S1.size inb_S1_S1_0).toLoadRect) (k : PUnit → P F) : P F :=
  fbTerm A 0 c (by decide) hc fun p0 =>
  fbTerm A 1 c (by decide) hc fun p1 =>
  fbTerm A 2 c (by decide) hc fun p2 =>
  fbTerm A 3 c (by decide) hc fun p3 =>
  ld A.a12 ![0, 0] S384x1.size (inb2 (by decide) (by decide)) (View.loadsAt_vmem h_S384x1) fun sc =>
  ldw A.a4 hl fun ws =>
  putY A (n := 384) (m := 256) 0 (256 * c) (by decide) (by omega) h_S384x256 (by decide) (by decide) (fbV (addf (addf (addf p0 p1) p2) p3) sc ws) k

def fbTileS (c : ℕ) (hc : c < 6) (s : St F) : St F :=
  putYS (n := 384) (m := 256) 0 (256 * c) (fbV (addf (addf (addf (fbTermS 0 c (by decide) hc s) (fbTermS 1 c (by decide) hc s)) (fbTermS 2 c (by decide) hc s)) (fbTermS 3 c (by decide) hc s))
    (VecWindow.window s.rs ![0, 0] S384x1.size (inb2 (by decide) (by decide))) (word s.ws)) s

theorem WP.fbTile {c : ℕ} {hc : c < 6} {hl} {k : PUnit → P F} (h : WP A 𝒱 d (k ⟨⟩) (fbTileS c hc s) Q) :
    WP A 𝒱 d (fbTile A c hc hl k) s Q :=
  WP.fbTerm <| WP.fbTerm <| WP.fbTerm <| WP.fbTerm <| WP.load_rs <| WP.load_ws <| WP.putY h

/-! ## The first point -/

/-- The sign matrix of the 256-point transform: minus one to the number of bits two indices share. -/
def signM : FVec F S256x256 .f32 :=
  let a := andi (iota .tc S256x256 32 [0] iota_S256x256_d0_w32) (iota .tc S256x256 32 [1] iota_S256x256_d1_w32)
  let b := xori a (shrsi a (broadcast S256x256 4#32))
  let c := xori b (shrsi b (broadcast S256x256 2#32))
  let e := xori c (shrsi c (broadcast S256x256 1#32))
  sitofp .f32 (subi (broadcast S256x256 1#32) (muli (broadcast S256x256 2#32) (andi e (broadcast S256x256 1#32))))

/-- The gain rounded, and what is left of it. -/
def hiV (g : FVec F S8x256 .f32) : FVec F S8x256 .f32 := extf .f32 (truncf .bf16 g bitsLt_bf16_f32) bitsLt_bf16_f32

def loV (g : FVec F S8x256 .f32) : FVec F S8x256 .f32 := subf g (hiV g)

theorem slices8 {j : ℕ} (hj : j < 8) : S256x8.Slices ![0, j] S256x1 :=
  ⟨rfl, by intro i; fin_cases i <;> simp <;> omega⟩

def hadV (j : ℕ) (hj : j < 8) (g : FVec F S8x256 .f32) : FVec F S1x1x256x256 .bf16 :=
  shapeCast S1x1x256x256 (truncf .bf16 (mulf signM (broadcastTo S256x256 (extractStridedSlice S256x1 ![0, j]
    (transpose S256x8 [1, 0] g transposes_S8x256_p1_0_S256x8) (slices8 hj)) broadcasts_S256x1_S256x256)) bitsLt_bf16_f32) shapeCasts_S256x256_S1x1x256x256

theorem packed4 {j t : ℕ} {inb} : (Rect.unit (s := S8x3x256x256) ![j, t, 0, 0] S1x1x256x256.size inb).PackedRows (EltTy.packing .bf16) :=
  Or.inr ⟨by decide, rfl, Or.inl ⟨⟨0, rfl⟩, ⟨128, rfl⟩⟩⟩

def hadPut (A : Args) (t j : ℕ) (ht : t < 3) (hj : j < 8) (g : FVec F S8x256 .f32) (k : PUnit → P F) : P F :=
  ld A.a8 ![j, t, 0, 0] S1x1x256x256.size (inb4 hj ht) (View.loadsAt_vmem h_S1x1x256x256) fun _ =>
  st A.a8 ![j, t, 0, 0] S1x1x256x256.size (inb4 hj ht) (hadV j hj g)
    (View.stores_vmem h_S1x1x256x256 (A.h8.storeExact_slice rfl _ packed4) (fun _ => rfl)) k

def hadPutS (t j : ℕ) (hj : j < 8) (g : FVec F S8x256 .f32) (s : St F) : St F :=
  { s with had := VecWindow.put s.had ![j, t, 0, 0] S1x1x256x256.size (hadV j hj g) }

theorem WP.hadPut {t j : ℕ} {ht : t < 3} {hj : j < 8} {g : FVec F S8x256 .f32} {k : PUnit → P F} (h : WP A 𝒱 d (k ⟨⟩) (hadPutS t j hj g s) Q) :
    WP A 𝒱 d (hadPut A t j ht hj g k) s Q :=
  WP.load_had <| WP.store_had h

def zeroV : FVec F S5x384 .f32 := broadcast S5x384 (Scalar.ofBits .f32 0x00000000#32)

/-- The scales' table cleared and the transform's three tables written. -/
def prepHad (A : Args) (k : PUnit → P F) : P F :=
  ld A.a7 ![0, 0] S5x384.size (inb2 (by decide) (by decide)) (View.loadsAt_vmem h_S5x384) fun _ =>
  st A.a7 ![0, 0] S5x384.size (inb2 (by decide) (by decide)) zeroV (View.stores_vmem_bits_univ h_S5x384 rfl) fun _ =>
  ld A.a2 ![0, 0] S8x256.size (inb2 (by decide) (by decide)) (View.loadsAt_vmem h_S8x256) fun g =>
  loopU (N := 8) (fun j hj k => hadPut A 0 j (by decide) hj (hiV (shapeCast S8x256 g shapeCasts_S8x256_S8x256)) k) 8 le_rfl fun _ =>
  loopU (N := 8) (fun j hj k => hadPut A 1 j (by decide) hj (hiV (loV (shapeCast S8x256 g shapeCasts_S8x256_S8x256))) k) 8 le_rfl fun _ =>
  loopU (N := 8) (fun j hj k => hadPut A 2 j (by decide) hj (hiV (loV (loV (shapeCast S8x256 g shapeCasts_S8x256_S8x256)))) k) 8 le_rfl k

def gainS (s : St F) : FVec F S8x256 .f32 := shapeCast S8x256 (VecWindow.window s.gain ![0, 0] S8x256.size (inb2 (by decide) (by decide))) shapeCasts_S8x256_S8x256

def hadPutsS (t : ℕ) (g : FVec F S8x256 .f32) (s : St F) : St F := foldK (N := 8) (fun j hj s => hadPutS t j hj g s) 8 le_rfl s

def prepHadS (s : St F) : St F :=
  hadPutsS 2 (hiV (loV (loV (gainS s)))) (hadPutsS 1 (hiV (loV (gainS s))) (hadPutsS 0 (hiV (gainS s))
    { s with scales := VecWindow.put s.scales ![0, 0] S5x384.size zeroV }))

theorem WP.prepHad {k : PUnit → P F} (h : WP A 𝒱 d (k ⟨⟩) (prepHadS s) Q) : WP A 𝒱 d (prepHad A k) s Q :=
  WP.load_scales <| WP.store_scales <| WP.load_gain <|
    WP.loopU (fun j hj s => hadPutS 0 j hj _ s) (fun _ _ _ _ h => WP.hadPut h) _ _ _ _ <|
    WP.loopU (fun j hj s => hadPutS 1 j hj _ s) (fun _ _ _ _ h => WP.hadPut h) _ _ _ _ <|
    WP.loopU (fun j hj s => hadPutS 2 j hj _ s) (fun _ _ _ _ h => WP.hadPut h) _ _ _ _ h

/-- Put a value into the packed table. -/
def putWp (A : Args) (r c : ℕ) (hr : r + 512 ≤ 2048) (hc : c + 256 ≤ 1024) (h2 : 2 ∣ r) (v : FVec F S512x256 .bf16) (k : PUnit → P F) : P F :=
  ld A.a9 ![r, c] S512x256.size (inb2 hr hc) (View.loadsAt_vmem h_S512x256) fun _ =>
  st A.a9 ![r, c] S512x256.size (inb2 hr hc) (shapeCast S512x256 v shapeCasts_S512x256_S512x256)
    (View.stores_vmem h_S512x256 (A.h9.storeExact_slice rfl _ (packed2 h2 (by decide))) (fun _ => rfl)) k

def putWpS (r c : ℕ) (v : FVec F S512x256 .bf16) (s : St F) : St F :=
  { s with wp := VecWindow.put s.wp ![r, c] S512x256.size (shapeCast S512x256 v shapeCasts_S512x256_S512x256) }

theorem WP.putWp {r c : ℕ} {hr : r + 512 ≤ 2048} {hc : c + 256 ≤ 1024} {h2 : 2 ∣ r} {v : FVec F S512x256 .bf16} {k : PUnit → P F}
    (h : WP A 𝒱 d (k ⟨⟩) (putWpS r c v s) Q) : WP A 𝒱 d (putWp A r c hr hc h2 v k) s Q :=
  WP.load_wp <| WP.store_wp h

def pack1V (f : ℕ) (a b : Vec F S512x256 .i8) : FVec F S512x256 .bf16 := addf (decV f b) (mulf (decV f a) (broadcast S512x256 (Scalar.ofBits .bf16 0x3C00#16)))

def pack2V (f : ℕ) (a c : Vec F S512x256 .i8) : FVec F S512x256 .bf16 := addf (decV f c) (mulf (decV f a) (broadcast S512x256 (Scalar.ofBits .bf16 0x437F#16)))

/-- One field and column tile of the packed table. -/
def packTile (A : Args) (f c : ℕ) (hf : f < 4) (hc : c < 2) (k : PUnit → P F) : P F :=
  ld A.a3 ![0, 256 * c] S512x256.size (inb2 (by decide) (by omega)) (View.loadsAt_vmem h_S512x256) fun a =>
  ld A.a3 ![0, 512 + 256 * c] S512x256.size (inb2 (by decide) (by omega)) (View.loadsAt_vmem h_S512x256) fun b =>
  ld A.a3 ![0, 1024 + 256 * c] S512x256.size (inb2 (by decide) (by omega)) (View.loadsAt_vmem h_S512x256) fun e =>
  putWp A (512 * f) (256 * c) (by omega) (by omega) (by omega) (pack1V f a b) fun _ =>
  putWp A (512 * f) (512 + 256 * c) (by omega) (by omega) (by omega) (pack2V f a e) k

def packTileS (f c : ℕ) (hf : f < 4) (hc : c < 2) (s : St F) : St F :=
  let a := VecWindow.window s.w ![0, 256 * c] S512x256.size (inb2 (by decide) (by omega))
  let b := VecWindow.window s.w ![0, 512 + 256 * c] S512x256.size (inb2 (by decide) (by omega))
  let e := VecWindow.window s.w ![0, 1024 + 256 * c] S512x256.size (inb2 (by decide) (by omega))
  putWpS (512 * f) (512 + 256 * c) (pack2V f a e) (putWpS (512 * f) (256 * c) (pack1V f a b) s)

theorem WP.packTile {f c : ℕ} {hf : f < 4} {hc : c < 2} {k : PUnit → P F} (h : WP A 𝒱 d (k ⟨⟩) (packTileS f c hf hc s) Q) :
    WP A 𝒱 d (packTile A f c hf hc k) s Q :=
  WP.load_w <| WP.load_w <| WP.load_w <| WP.putWp <| WP.putWp h

/-- One when some packed field is three, else not positive. -/
def flagV (w : Vec F S512x1536 .i8) : BitVec 32 :=
  let a := bitcast S128x1536 32 w bitcasts_S512x1536_w8_S128x1536_w32
  let b := andi (andi a (shrui a (broadcast S128x1536 1#32))) (broadcast S128x1536 1431655765#32)
  let m : FVec F S128x1536 .f32 := sitofp .f32 (extui 32 (cmpi .ne b (broadcast S128x1536 0#32)) natLt_1_32)
  Scalar.fptosi 32 (extractAt ![0, 0, 0] (shapeCast S1x1x1 (multiReduction .maximumf [1, 2] S1 (shapeCast S1x128x1536 m shapeCasts_S128x1536_S1x128x1536)
    0xFF800000#32 reduces_S1x128x1536_S1 (.inl rfl) rfl) shapeCasts_S1_S1x1x1) inpos_S1x1x1_p0_0_0)

def prepFlag (A : Args) (hl : A.a13.view.LoadsAt (Rect.unit (s := S1) ![0] S1.size inb_S1_S1_0).toLoadRect)
    (hx : (A.a13.access (Rect.unit (s := S1) ![0] S1.size inb_S1_S1_0)).Stores Finset.univ) (k : PUnit → P F) : P F :=
  ld A.a3 ![0, 0] S512x1536.size (inb2 (by decide) (by decide)) (View.loadsAt_vmem h_S512x1536) fun w =>
  ldw A.a13 hl fun _ =>
  st A.a13 ![0] S1.size inb_S1_S1_0 (fun _ => flagV w) hx k

def prepFlagS (s : St F) : St F :=
  { s with flag := VecWindow.put s.flag ![0] S1.size (fun _ => flagV (VecWindow.window s.w ![0, 0] S512x1536.size (inb2 (by decide) (by decide)))) }

theorem WP.prepFlag {hl hx} {k : PUnit → P F} (h : WP A 𝒱 d (k ⟨⟩) (prepFlagS s) Q) : WP A 𝒱 d (prepFlag A hl hx k) s Q :=
  WP.load_w <| WP.load_flag <| WP.store_flag h

end Cert.KernelIdeal.Body

end
-- ==== Proof.Body.lean ====
/- The body as a function on the contents of its buffers: what one grid point leaves. -/
module

public import proofs.«01_k».proof.Proof.Blocks2

@[expose] public section

noncomputable section

namespace Cert.KernelIdeal.Body

open Idealize.ShloMosaic Idealize.ShloMosaic.TcCoe Idealize.SL Idealize.SL.Sem

variable {F : FTy → Type} [FloatOps F]
variable {A : Args} {𝒱 : Variants} {d : Dev nD} {Q : St F → Prop} {s : St F}

/-- Whether the point is the first. -/
abbrev isFirst (i : grid0.Coords) : Prop :=
  Scalar.cmpi .ne (Scalar.extui (Scalar.cmpi .eq (BitVec.ofNat 32 (i 0).val) 0#32) : BitVec 32) 0#32 = 1#1

/-- Whether the plain projection is taken. -/
abbrev isPlain (n : BitVec 32) : Prop :=
  Scalar.cmpi .ne (Scalar.extui (Scalar.cmpi .ne n 0#32) : BitVec 32) 0#32 = 1#1

/-- The transform of 192 rows, by tiles of 256 columns. -/
def tilesS (r : ℕ) (hr : r + 192 ≤ 384) (s : St F) : St F := foldK (N := 8) (fun j hj s => hadTileS r j hr hj s) 8 le_rfl s

/-- Butterflies, row maxima and codes of 192 rows. -/
def quantS (r : ℕ) (hr : r + 192 ≤ 384) (s : St F) : St F :=
  rows32S (r + 160) (by omega) <| rows32S (r + 128) (by omega) <| rows32S (r + 96) (by omega) <| rows32S (r + 64) (by omega) <|
    rows32S (r + 32) (by omega) <| rows32S r (by omega) s

def scalesS (t : BitVec 32) (s : St F) : St F :=
  scaleTileS t 2 (by decide) <| scaleTileS t 1 (by decide) <| scaleTileS t 0 (by decide) s

def plainS (s : St F) : St F :=
  fbTileS 5 (by decide) <| fbTileS 4 (by decide) <| fbTileS 3 (by decide) <| fbTileS 2 (by decide) <| fbTileS 1 (by decide) <| fbTileS 0 (by decide) s

/-- Up to the scales' table. -/
def mainS (t : BitVec 32) (s : St F) : St F :=
  scalesS t <| projS 192 (by decide) <| quantS 192 (by decide) <| projS 0 (by decide) <| quantS 0 (by decide) <|
    tilesS 192 (by decide) <| tilesS 0 (by decide) s

open scoped Classical in
def endS (s : St F) : St F := if isPlain (word s.flag) then plainS s else s

def restS (t : BitVec 32) (s : St F) : St F := endS (mainS t s)

def packS (s : St F) : St F :=
  packTileS 3 1 (by decide) (by decide) <| packTileS 3 0 (by decide) (by decide) <| packTileS 2 1 (by decide) (by decide) <| packTileS 2 0 (by decide) (by decide) <|
    packTileS 1 1 (by decide) (by decide) <| packTileS 1 0 (by decide) (by decide) <| packTileS 0 1 (by decide) (by decide) <| packTileS 0 0 (by decide) (by decide) s

def prepS (s : St F) : St F := prepFlagS <| packS <| prepHadS s

open scoped Classical in
/-- What a grid point leaves. -/
def bodyS (i : grid0.Coords) (s : St F) : St F := restS (BitVec.ofNat 32 (i 0).val) (if isFirst i then prepS s else s)

abbrev bodyP (A : Args) (i : grid0.Coords) : P F :=
  cc0_h_bitlinear i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13

theorem WP.branch {p : Prop} [Decidable p] {a : p → P F} {b : ¬ p → P F} (h₁ : ∀ h : p, WP A 𝒱 d (a h) s Q) (h₂ : ∀ h : ¬ p, WP A 𝒱 d (b h) s Q) :
    WP A 𝒱 d (if h : p then a h else b h) s Q := by
  split
  · exact h₁ _
  · exact h₂ _

set_option maxRecDepth 100000 in
set_option maxHeartbeats 0 in
/-- At a point after the first, the body takes its buffers from `s` to `restS _ s`. -/
theorem body_next (i : grid0.Coords) (hc : ¬ isFirst i) (h : Q (restS (BitVec.ofNat 32 (i 0).val) s)) : WP A 𝒱 d (bodyP A i) s Q := by
  unfold bodyP cc0_h_bitlinear k0_part262 k0_part24
  rw [show (∀ {X : Type 1} (p : isFirst i → X) (q : ¬ isFirst i → X), (if h : isFirst i then p h else q h) = q hc) from fun p q => dif_neg hc]
  refine WP.loopU (body := fun j hj k => hadTile A 0 j (by decide) hj k) (N := 8) (fun j hj s => hadTileS 0 j (by decide) hj s) (fun _ _ _ _ h => WP.hadTile h) 8 le_rfl _ _ ?_
  refine WP.loopU (body := fun j hj k => hadTile A 192 j (by decide) hj k) (N := 8) (fun j hj s => hadTileS 192 j (by decide) hj s) (fun _ _ _ _ h => WP.hadTile h) 8 le_rfl _ _ ?_
  refine WP.rows32 (r := 0) (hr := by decide) (h32 := by decide) ?_
  refine WP.rows32 (r := 32) (hr := by decide) (h32 := by decide) ?_
  refine WP.rows32 (r := 64) (hr := by decide) (h32 := by decide) ?_
  refine WP.rows32 (r := 96) (hr := by decide) (h32 := by decide) ?_
  refine WP.rows32 (r := 128) (hr := by decide) (h32 := by decide) ?_
  refine WP.rows32 (r := 160) (hr := by decide) (h32 := by decide) ?_
  refine WP.proj (r := 0) (hr := by decide) (h2 := by decide) ?_
  refine WP.rows32 (r := 192) (hr := by decide) (h32 := by decide) ?_
  refine WP.rows32 (r := 224) (hr := by decide) (h32 := by decide) ?_
  refine WP.rows32 (r := 256) (hr := by decide) (h32 := by decide) ?_
  refine WP.rows32 (r := 288) (hr := by decide) (h32 := by decide) ?_
  refine WP.rows32 (r := 320) (hr := by decide) (h32 := by decide) ?_
  refine WP.rows32 (r := 352) (hr := by decide) (h32 := by decide) ?_
  refine WP.proj (r := 192) (hr := by decide) (h2 := by decide) ?_
  refine WP.scaleTile (t := BitVec.ofNat 32 (i 0).val) (c := 0) (hc := by decide) ?_
  refine WP.scaleTile (t := BitVec.ofNat 32 (i 0).val) (c := 1) (hc := by decide) ?_
  refine WP.scaleTile (t := BitVec.ofNat 32 (i 0).val) (c := 2) (hc := by decide) ?_
  refine WP.load_flag ?_
  unfold restS endS at h
  refine WP.branch ?_ ?_
  · intro hp
    rw [if_pos (show isPlain (word (mainS (BitVec.ofNat 32 (i 0).val) s).flag) from hp)] at h
    refine WP.fbTile (c := 0) (hc := by decide) ?_
    refine WP.fbTile (c := 1) (hc := by decide) ?_
    refine WP.fbTile (c := 2) (hc := by decide) ?_
    refine WP.fbTile (c := 3) (hc := by decide) ?_
    refine WP.fbTile (c := 4) (hc := by decide) ?_
    refine WP.fbTile (c := 5) (hc := by decide) ?_
    exact WP.ret h
  · intro hp
    rw [if_neg (show ¬ isPlain (word (mainS (BitVec.ofNat 32 (i 0).val) s).flag) from hp)] at h
    exact WP.ret h
end Cert.KernelIdeal.Body

end
-- ==== Proof.BodyFirst.lean ====
/- The body at the first grid point, where its tables are prepared. -/
module

public import proofs.«01_k».proof.Proof.Body

@[expose] public section

noncomputable section

namespace Cert.KernelIdeal.Body

open Idealize.ShloMosaic Idealize.ShloMosaic.TcCoe Idealize.SL Idealize.SL.Sem

variable {F : FTy → Type} [FloatOps F]
variable {A : Args} {𝒱 : Variants} {d : Dev nD} {Q : St F → Prop} {s : St F}

set_option maxRecDepth 100000 in
set_option maxHeartbeats 0 in
/-- At the first point, the body takes its buffers from `s` to `restS _ (prepS s)`. -/
theorem body_first (i : grid0.Coords) (hc : isFirst i) (h : Q (restS (BitVec.ofNat 32 (i 0).val) (prepS s))) : WP A 𝒱 d (bodyP A i) s Q := by
  unfold bodyP cc0_h_bitlinear k0_part262 k0_part24
  rw [show (∀ {X : Type 1} (p : isFirst i → X) (q : ¬ isFirst i → X), (if h : isFirst i then p h else q h) = p hc) from fun p q => dif_pos hc]
  refine WP.prepHad ?_
  refine WP.packTile (f := 0) (c := 0) (hf := by decide) (hc := by decide) ?_
  refine WP.packTile (f := 0) (c := 1) (hf := by decide) (hc := by decide) ?_
  refine WP.packTile (f := 1) (c := 0) (hf := by decide) (hc := by decide) ?_
  refine WP.packTile (f := 1) (c := 1) (hf := by decide) (hc := by decide) ?_
  refine WP.packTile (f := 2) (c := 0) (hf := by decide) (hc := by decide) ?_
  refine WP.packTile (f := 2) (c := 1) (hf := by decide) (hc := by decide) ?_
  refine WP.packTile (f := 3) (c := 0) (hf := by decide) (hc := by decide) ?_
  refine WP.packTile (f := 3) (c := 1) (hf := by decide) (hc := by decide) ?_
  refine WP.prepFlag ?_
  refine WP.loopU (body := fun j hj k => hadTile A 0 j (by decide) hj k) (N := 8) (fun j hj s => hadTileS 0 j (by decide) hj s) (fun _ _ _ _ h => WP.hadTile h) 8 le_rfl _ _ ?_
  refine WP.loopU (body := fun j hj k => hadTile A 192 j (by decide) hj k) (N := 8) (fun j hj s => hadTileS 192 j (by decide) hj s) (fun _ _ _ _ h => WP.hadTile h) 8 le_rfl _ _ ?_
  refine WP.rows32 (r := 0) (hr := by decide) (h32 := by decide) ?_
  refine WP.rows32 (r := 32) (hr := by decide) (h32 := by decide) ?_
  refine WP.rows32 (r := 64) (hr := by decide) (h32 := by decide) ?_
  refine WP.rows32 (r := 96) (hr := by decide) (h32 := by decide) ?_
  refine WP.rows32 (r := 128) (hr := by decide) (h32 := by decide) ?_
  refine WP.rows32 (r := 160) (hr := by decide) (h32 := by decide) ?_
  refine WP.proj (r := 0) (hr := by decide) (h2 := by decide) ?_
  refine WP.rows32 (r := 192) (hr := by decide) (h32 := by decide) ?_
  refine WP.rows32 (r := 224) (hr := by decide) (h32 := by decide) ?_
  refine WP.rows32 (r := 256) (hr := by decide) (h32 := by decide) ?_
  refine WP.rows32 (r := 288) (hr := by decide) (h32 := by decide) ?_
  refine WP.rows32 (r := 320) (hr := by decide) (h32 := by decide) ?_
  refine WP.rows32 (r := 352) (hr := by decide) (h32 := by decide) ?_
  refine WP.proj (r := 192) (hr := by decide) (h2 := by decide) ?_
  refine WP.scaleTile (t := BitVec.ofNat 32 (i 0).val) (c := 0) (hc := by decide) ?_
  refine WP.scaleTile (t := BitVec.ofNat 32 (i 0).val) (c := 1) (hc := by decide) ?_
  refine WP.scaleTile (t := BitVec.ofNat 32 (i 0).val) (c := 2) (hc := by decide) ?_
  refine WP.load_flag ?_
  unfold restS endS at h
  refine WP.branch ?_ ?_
  · intro hp
    rw [if_pos (show isPlain (word (mainS (BitVec.ofNat 32 (i 0).val) (prepS s)).flag) from hp)] at h
    refine WP.fbTile (c := 0) (hc := by decide) ?_
    refine WP.fbTile (c := 1) (hc := by decide) ?_
    refine WP.fbTile (c := 2) (hc := by decide) ?_
    refine WP.fbTile (c := 3) (hc := by decide) ?_
    refine WP.fbTile (c := 4) (hc := by decide) ?_
    refine WP.fbTile (c := 5) (hc := by decide) ?_
    exact WP.ret h
  · intro hp
    rw [if_neg (show ¬ isPlain (word (mainS (BitVec.ofNat 32 (i 0).val) (prepS s)).flag) from hp)] at h
    exact WP.ret h
end Cert.KernelIdeal.Body

end
-- ==== Proof.Launch.lean ====
/- The body at a grid point of the launch, and the frame: every run ends, with the arguments as they were. -/
module

public import proofs.«01_k».proof.Proof.BodyFirst
public import Idealize.ShloMosaic.Lib.Pipeline.Frame

@[expose] public section

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen memrefs at point `t`. -/
abbrev args (t : Fin cfg0.N) : Args where
  a1 := st0_0 t
  h1 := hstage0_0 ((cfg0.slots t 0).cast nbuf0_0)
  a2 := st0_1 t
  h2 := hstage0_1 ((cfg0.slots t 1).cast nbuf0_1)
  a3 := st0_2 t
  h3 := hstage0_2 ((cfg0.slots t 2).cast nbuf0_2)
  a4 := st0_3 t
  h4 := hstage0_3 ((cfg0.slots t 3).cast nbuf0_3)
  a5 := st0_4 t
  h5 := hstage0_4 ((cfg0.slots t 4).cast nbuf0_4)
  a6 := st0_5 t
  h6 := hstage0_5 ((cfg0.slots t 5).cast nbuf0_5)
  a7 := st0_6 t
  h7 := hstage0_6 ((cfg0.slots t 6).cast nbuf0_6)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _

/-- The body takes its buffers from `s` to `bodyS i s`. -/
theorem body {A : Args} {𝒱 : Variants} {d : Dev nD} {Q : St F → Prop} {s : St F} (i : grid0.Coords) (h : Q (bodyS i s)) : WP A 𝒱 d (bodyP A i) s Q := by
  unfold bodyS at h
  by_cases hc : isFirst i
  · rw [if_pos hc] at h
    exact body_first i hc h
  · rw [if_neg hc] at h
    exact body_next i hc h

theorem body_at {c : Dev nD} {Q : St F → Prop} {s : St F} (t : Fin cfg0.N) (h : Q (bodyS (grid0.coords t) s)) :
    Own (args t) c s ⊢ wp frame (wpE (defs₀ (F := F)) Variants.none c none) Set.univ (bodyAt0 t) (fun _ => iprop(∃ s', ⌜Q s'⌝ ∗ Own (args t) c s')) :=
  body (A := args t) (grid0.coords t) h

theorem defs₀_row (t : Fin cfg0.N) :
    defs₀ (F := F) .tc cfg0.body (cfg0.bodyArgs t (cfg0.slots t)) = bodyAt0 t := by
  unfold defs₀; rw [Defs.onTc_tc]

/-- The scratch buffers, at the state's contents. -/
def Scr (c : Dev nD) (s : St F) : sProp 𝕄 :=
  iprop((((c : Thread nD τ).loc cc0_scratch0) ↦{fullShare} s.had) ∗ (((c : Thread nD τ).loc cc0_scratch1) ↦{fullShare} s.wp) ∗ (((c : Thread nD τ).loc cc0_scratch2) ↦{fullShare} s.u)
    ∗ (((c : Thread nD τ).loc cc0_scratch3) ↦{fullShare} s.cb) ∗ (((c : Thread nD τ).loc cc0_scratch4) ↦{fullShare} s.rs) ∗ (((c : Thread nD τ).loc cc0_scratch5) ↦{fullShare} s.flag))

/-- The windows' buffers, at the state's contents. -/
def Wins (c : Dev nD) (t : Fin cfg0.N) (s : St F) : sProp 𝕄 :=
  iprop(owns (c : Thread nD τ) (st0_0 t) fullShare s.x ∗ owns (c : Thread nD τ) (st0_1 t) fullShare s.gain ∗ owns (c : Thread nD τ) (st0_2 t) fullShare s.w ∗ owns (c : Thread nD τ) (st0_3 t) fullShare s.ws
    ∗ owns (c : Thread nD τ) (st0_4 t) fullShare s.y ∗ owns (c : Thread nD τ) (st0_5 t) fullShare s.codes ∗ owns (c : Thread nD τ) (st0_6 t) fullShare s.scales)

theorem own_at (c : Dev nD) (t : Fin cfg0.N) (s : St F) : Own (args t) c s = iprop(owns (c : Thread nD τ) (st0_0 t) fullShare s.x ∗ owns (c : Thread nD τ) (st0_1 t) fullShare s.gain ∗ owns (c : Thread nD τ) (st0_2 t) fullShare s.w ∗ owns (c : Thread nD τ) (st0_3 t) fullShare s.ws
    ∗ owns (c : Thread nD τ) (st0_4 t) fullShare s.y ∗ owns (c : Thread nD τ) (st0_5 t) fullShare s.codes ∗ owns (c : Thread nD τ) (st0_6 t) fullShare s.scales ∗ Scr c s) := by
  unfold Own Scr
  dsimp only [args]
  rw [owns_whole, owns_whole, owns_whole, owns_whole, owns_whole, owns_whole]

theorem own_of (c : Dev nD) (t : Fin cfg0.N) (s : St F) : iprop(Wins c t s ∗ Scr c s) ⊢ Own (args t) c s := by
  rw [own_at]
  unfold Wins
  iintro ⟨⟨H0, H1, H2, H3, H4, H5, H6⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

theorem of_own (c : Dev nD) (t : Fin cfg0.N) (s : St F) : Own (args t) c s ⊢ iprop(Wins c t s ∗ Scr c s) := by
  rw [own_at]
  unfold Wins
  iintro ⟨H0, H1, H2, H3, H4, H5, H6, HS⟩
  isplitr [HS]
  · isplitl [H0]; · iexact H0
    isplitl [H1]; · iexact H1
    isplitl [H2]; · iexact H2
    isplitl [H3]; · iexact H3
    isplitl [H4]; · iexact H4
    isplitl [H5]; · iexact H5
    iexact H6
  · iexact HS

/-- The body's triple, carrying what it does not touch. -/
theorem body_frame {c : Dev nD} {Q : St F → Prop} {s : St F} (t : Fin cfg0.N) (h : Q (bodyS (grid0.coords t) s)) (R : sProp 𝕄) :
    iprop(Wins c t s ∗ Scr c s ∗ R) ⊢ wp frame (wpE (defs₀ (F := F)) Variants.none c none) Set.univ (bodyAt0 t)
      (fun _ => iprop(∃ s', ⌜Q s'⌝ ∗ Wins c t s' ∗ Scr c s' ∗ R)) := by
  have hb := body_at (c := c) t h
  iintro ⟨HW, HS, HR⟩
  iapply (wp_mono (Q := fun _ => iprop((∃ s', ⌜Q s'⌝ ∗ Own (args t) c s') ∗ R)) _ _ _ fun _ => by
    iintro ⟨⟨%s', %hs, H⟩, HR⟩
    ihave H := of_own c t s' $$ H
    icases H with ⟨HW, HS⟩
    iexists s'
    isplitr; · ipureintro; exact hs
    isplitl [HW]; · iexact HW
    isplitl [HS]; · iexact HS
    iexact HR)
  iapply wp_frame_r
  isplitr [HR]
  · iapply hb
    iapply own_of
    isplitl [HW]; · iexact HW
    iexact HS
  · iexact HR

/-! ## The frame -/

def forgets : Fin 7 → Bool := fun _ => true

/-- Proof data that say nothing of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d)
    ∗ (∃ d, owns (c : Thread nD τ) (st0_3 t) fullShare d) ∗ (∃ d, owns (c : Thread nD τ) (st0_4 t) fullShare d) ∗ (∃ d, owns (c : Thread nD τ) (st0_5 t) fullShare d)
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare d) ∗ (∃ d, owns (c : Thread nD τ) (st0_1 t) fullShare d) ∗ (∃ d, owns (c : Thread nD τ) (st0_2 t) fullShare d)
    ∗ (∃ d, owns (c : Thread nD τ) (st0_3 t) fullShare d) ∗ (∃ d, owns (c : Thread nD τ) (st0_4 t) fullShare d) ∗ (∃ d, owns (c : Thread nD τ) (st0_5 t) fullShare d)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, HP⟩, Ho, ⟨%d0, H0⟩, ⟨%d1, H1⟩, ⟨%d2, H2⟩, ⟨%d3, H3⟩, ⟨%d4, H4⟩, ⟨%d5, H5⟩, ⟨%d6, H6⟩⟩
  iapply (wp_mono (Q := fun _ => iprop(∃ s' : St F, ⌜True⌝ ∗ Wins c t s' ∗ Scr c s' ∗ ((∃ r, prngReg c r) ∗ (dats m 0 c).owesAt () t.castSucc))) _ _ _ fun _ => by
    unfold Wins Scr
    iintro ⟨%s', %hs, ⟨H0, H1, H2, H3, H4, H5, H6⟩, ⟨S0, S1, S2, S3, S4, S5⟩, HP, Ho⟩
    isplitr [Ho H0 H1 H2 H3 H4 H5 H6]
    · isplitr [HP]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      · iexact HP
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6)
  iapply (body_frame (c := c) (Q := fun _ => True) (s := ⟨d0, d1, d2, d3, d4, d5, d6, f0, f1, f2, f3, f4, f5⟩) t trivial)
  unfold Wins Scr
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [HP]; · iexact HP
  iexact Ho

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

-- the run's implicit arguments are found by unification, which must unfold plain definitions in a metavariable's type
set_option backward.isDefEq.respectTransparency.types false in
theorem run_frame :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      (h.1.arr_in c 3 rfl).trans ((A_eq m c 3).trans (V_main_arg3 m c))⟩, h.2⟩) (run_frame m ρ)

end Cert.KernelIdeal.Body

end
-- ==== Proof.Wht.lean ====
/- The Walsh-Hadamard transform of a row, by butterflies and by a sign matrix: over the reals the two are one, and over
   the extended reals an infinite entry makes every result infinite. -/
module

public import Mathlib.Data.EReal.Operations
public import Mathlib.Data.EReal.Inv
public import Mathlib.Algebra.BigOperators.Intervals
public import Mathlib.Tactic.Ring
public import Mathlib.Tactic.Linarith
public import Mathlib.Tactic.NormNum
public import Mathlib.Tactic.Positivity
public import Mathlib.Tactic.IntervalCases

@[expose] public section

noncomputable section

namespace Cert.Wht

/-- One stage of butterflies, at distance `m`. -/
def stage {α : Type} [Add α] [Sub α] (m : ℕ) (v : ℕ → α) (n : ℕ) : α := if n / m % 2 = 0 then v n + v (n + m) else v (n - m) - v n

/-- The last `e` stages. -/
def stages {α : Type} [Add α] [Sub α] : ℕ → (ℕ → α) → ℕ → α
  | 0, v => v
  | e + 1, v => stages e (stage (2 ^ e) v)

/-- Minus one to the number of bits below `e` that `k` and `n` share. -/
def sgn (e k n : ℕ) : ℤ := ∏ b ∈ Finset.range e, if k / 2 ^ b % 2 = 1 ∧ n / 2 ^ b % 2 = 1 then -1 else 1

theorem sgn_succ (e k n : ℕ) : sgn (e + 1) k n = sgn e k n * if k / 2 ^ e % 2 = 1 ∧ n / 2 ^ e % 2 = 1 then -1 else 1 := by
  unfold sgn; rw [Finset.prod_range_succ]

theorem bit_add (e b k x : ℕ) (h : b < e) : (k + 2 ^ e * x) / 2 ^ b % 2 = k / 2 ^ b % 2 := by
  obtain ⟨d, rfl⟩ : ∃ d, e = b + 1 + d := ⟨e - b - 1, by omega⟩
  rw [show k + 2 ^ (b + 1 + d) * x = k + 2 ^ b * (2 * (2 ^ d * x)) by rw [pow_add, pow_add]; ring, Nat.add_mul_div_left _ _ (by positivity)]
  omega

theorem sgn_congr (e k k' n n' : ℕ) (hk : ∀ b < e, k / 2 ^ b % 2 = k' / 2 ^ b % 2) (hn : ∀ b < e, n / 2 ^ b % 2 = n' / 2 ^ b % 2) :
    sgn e k n = sgn e k' n' := by
  unfold sgn
  refine Finset.prod_congr rfl fun b hb => ?_
  rw [hk b (Finset.mem_range.1 hb), hn b (Finset.mem_range.1 hb)]

theorem sgn_add_left (e k n x : ℕ) : sgn e (k + 2 ^ e * x) n = sgn e k n :=
  sgn_congr _ _ _ _ _ (fun b hb => bit_add e b k x hb) fun _ _ => rfl

theorem sgn_add_right (e k n x : ℕ) : sgn e k (n + 2 ^ e * x) = sgn e k n :=
  sgn_congr _ _ _ _ _ (fun _ _ => rfl) fun b hb => bit_add e b n x hb

/-- The last `e` stages are the product with the sign matrix of size `2 ^ e`. -/
theorem stages_eq (e : ℕ) : ∀ (w : ℕ → ℝ) (n : ℕ), stages e w n = ∑ k ∈ Finset.range (2 ^ e), (sgn e k n : ℝ) * w (n / 2 ^ e * 2 ^ e + k) := by
  induction e with
  | zero => intro w n; simp [stages, sgn]
  | succ e ih =>
    intro w n
    show stages e (stage (2 ^ e) w) n = _
    have hp : 0 < 2 ^ e := by positivity
    rw [ih, pow_succ, mul_two, Finset.sum_range_add, ← Finset.sum_add_distrib]
    refine Finset.sum_congr rfl fun k hk => ?_
    have hk := Finset.mem_range.1 hk
    have h1 : sgn (e + 1) k n = sgn e k n := by
      rw [sgn_succ, Nat.div_eq_of_lt hk]; simp
    have h2 : sgn (e + 1) (2 ^ e + k) n = sgn e k n * if n / 2 ^ e % 2 = 1 then -1 else 1 := by
      rw [sgn_succ, show 2 ^ e + k = k + 2 ^ e * 1 by ring, sgn_add_left, Nat.add_mul_div_left _ _ hp, Nat.div_eq_of_lt hk]
      simp
    rw [h1, h2]
    have hd : (n / 2 ^ e * 2 ^ e + k) / 2 ^ e = n / 2 ^ e := by
      rw [add_comm, mul_comm, Nat.add_mul_div_left _ _ hp, Nat.div_eq_of_lt hk, zero_add]
    have hh : n / (2 ^ e + 2 ^ e) = n / 2 ^ e / 2 := by rw [← two_mul, mul_comm, Nat.div_div_eq_div_mul]
    unfold stage
    rw [hd, hh]
    generalize n / 2 ^ e = q
    generalize 2 ^ e = p at *
    rcases Nat.mod_two_eq_zero_or_one q with hq | hq
    · obtain ⟨j, rfl⟩ : ∃ j, q = 2 * j := ⟨q / 2, by omega⟩
      rw [if_pos hq, if_neg (by omega), show 2 * j / 2 = j by omega, show j * (p + p) + k = 2 * j * p + k by ring,
        show j * (p + p) + (p + k) = 2 * j * p + k + p by ring]
      push_cast; ring
    · obtain ⟨j, rfl⟩ : ∃ j, q = 2 * j + 1 := ⟨q / 2, by omega⟩
      rw [if_neg (by omega), if_pos hq, show (2 * j + 1) / 2 = j by omega, show (2 * j + 1) * p + k = j * (p + p) + (p + k) by ring,
        show j * (p + p) + (p + k) - p = j * (p + p) + k by omega]
      push_cast; ring

/-- A stage between blocks of `2 ^ e` passes through the transform inside them. -/
theorem stage_stages (e d : ℕ) (w : ℕ → ℝ) (n : ℕ) : stage (2 ^ (e + d)) (stages e w) n = stages e (stage (2 ^ (e + d)) w) n := by
  have hp : 0 < 2 ^ e := by positivity
  rw [stages_eq]
  have hb : ∀ k < 2 ^ e, (n / 2 ^ e * 2 ^ e + k) / 2 ^ (e + d) = n / 2 ^ (e + d) := fun k hk => by
    rw [pow_add, ← Nat.div_div_eq_div_mul, ← Nat.div_div_eq_div_mul, add_comm, mul_comm, Nat.add_mul_div_left _ _ hp, Nat.div_eq_of_lt hk, zero_add]
  rcases Nat.mod_two_eq_zero_or_one (n / 2 ^ (e + d)) with hq | hq
  · have h0 : stage (2 ^ (e + d)) (stages e w) n = stages e w n + stages e w (n + 2 ^ (e + d)) := by unfold stage; rw [if_pos hq]
    rw [h0, stages_eq, stages_eq, ← Finset.sum_add_distrib]
    refine Finset.sum_congr rfl fun k hk => ?_
    have hk := Finset.mem_range.1 hk
    unfold stage
    rw [hb k hk, if_pos hq, pow_add, sgn_add_right, Nat.add_mul_div_left _ _ hp]
    rw [show (n / 2 ^ e + 2 ^ d) * 2 ^ e + k = n / 2 ^ e * 2 ^ e + k + 2 ^ e * 2 ^ d by ring]
    ring
  · have hle : 2 ^ (e + d) ≤ n := by
      by_contra h
      rw [Nat.div_eq_of_lt (by omega)] at hq; omega
    obtain ⟨x, rfl⟩ : ∃ x, n = x + 2 ^ (e + d) := ⟨n - 2 ^ (e + d), by omega⟩
    have h0 : stage (2 ^ (e + d)) (stages e w) (x + 2 ^ (e + d)) = stages e w x - stages e w (x + 2 ^ (e + d)) := by
      unfold stage; rw [if_neg (by omega), Nat.add_sub_cancel]
    rw [h0, stages_eq, stages_eq, ← Finset.sum_sub_distrib]
    refine Finset.sum_congr rfl fun k hk => ?_
    have hk := Finset.mem_range.1 hk
    unfold stage
    rw [hb k hk, if_neg (by omega), pow_add, sgn_add_right, Nat.add_mul_div_left _ _ hp]
    rw [show (x / 2 ^ e + 2 ^ d) * 2 ^ e + k = x / 2 ^ e * 2 ^ e + k + 2 ^ e * 2 ^ d by ring, Nat.add_sub_cancel]
    ring

/-- The transform of 2048 entries, by butterflies. -/
def wht {α : Type} [Add α] [Sub α] (v : ℕ → α) : ℕ → α := stages 8 (stage 256 (stage 512 (stage 1024 v)))

/-- The butterflies across eight blocks of 256. -/
def across {α : Type} [Add α] [Sub α] (v : ℕ → α) : ℕ → α := stage 256 (stage 512 (stage 1024 v))

/-- Blocks first and then across is the transform. -/
theorem across_stages (w : ℕ → ℝ) : across (stages 8 w) = wht w := by
  have h := fun d (w : ℕ → ℝ) => funext (stage_stages 8 d w)
  unfold across wht
  have h2 := h 2 w; have h1 := h 1; have h0 := h 0
  norm_num at h2 h1 h0
  rw [h2, h1, h0]

/-! ## Linear -/

theorem stage_smul (c : ℝ) (m : ℕ) (w : ℕ → ℝ) : stage m (fun n => c * w n) = fun n => c * stage m w n := by
  funext n; unfold stage; split <;> ring

theorem stages_smul (c : ℝ) (e : ℕ) : ∀ w : ℕ → ℝ, stages e (fun n => c * w n) = fun n => c * stages e w n := by
  induction e with
  | zero => intro w; rfl
  | succ e ih => intro w; show stages e (stage (2 ^ e) fun n => c * w n) = _; rw [stage_smul, ih]; rfl

theorem wht_smul (c : ℝ) (w : ℕ → ℝ) : wht (fun n => c * w n) = fun n => c * wht w n := by
  unfold wht; rw [stage_smul, stage_smul, stage_smul, stages_smul]

/-! ## Read over the extended reals -/

theorem stage_coe (m : ℕ) (w : ℕ → ℝ) : stage m (fun n => (w n : EReal)) = fun n => ((stage m w n : ℝ) : EReal) := by
  funext n; unfold stage; split <;> push_cast <;> rfl

theorem stages_coe (e : ℕ) : ∀ w : ℕ → ℝ, stages e (fun n => (w n : EReal)) = fun n => ((stages e w n : ℝ) : EReal) := by
  induction e with
  | zero => intro w; rfl
  | succ e ih => intro w; show stages e (stage (2 ^ e) fun n => (w n : EReal)) = _; rw [stage_coe, ih]; rfl

theorem wht_coe (w : ℕ → ℝ) : wht (fun n => (w n : EReal)) = fun n => ((wht w n : ℝ) : EReal) := by
  unfold wht; rw [stage_coe, stage_coe, stage_coe, stages_coe]

theorem across_coe (w : ℕ → ℝ) : across (fun n => (w n : EReal)) = fun n => ((across w n : ℝ) : EReal) := by
  unfold across; rw [stage_coe, stage_coe, stage_coe]

/-- Only the entries of the row matter. -/
theorem stage_congr {α : Type} [Add α] [Sub α] {m : ℕ} (hm : m ∣ 1024) {v w : ℕ → α} (h : ∀ n < 2048, v n = w n) : ∀ n < 2048, stage m v n = stage m w n := by
  intro n hn
  obtain ⟨q, hq⟩ := hm
  have hm0 : 0 < m := by rcases Nat.eq_zero_or_pos m with h | h; · subst h; omega
                         · exact h
  unfold stage
  split
  · rename_i h0
    have hlt : n / m < 2 * q := by rw [Nat.div_lt_iff_lt_mul hm0]; nlinarith
    have : n / m + 1 < 2 * q := by omega
    have : n + m < 2048 := by
      have h1 : n < m * (n / m + 1) := Nat.lt_mul_div_succ n hm0
      have h2 : m * (n / m + 2) ≤ m * (2 * q) := Nat.mul_le_mul_left _ (by omega)
      nlinarith
    rw [h n hn, h _ this]
  · rw [h n hn, h _ (by omega)]

theorem stages_congr {α : Type} [Add α] [Sub α] (e : ℕ) (he : e ≤ 10) : ∀ {v w : ℕ → α} (_ : ∀ n < 2048, v n = w n), ∀ n < 2048, stages e v n = stages e w n := by
  induction e with
  | zero => intro v w h; exact h
  | succ e ih =>
    intro v w h
    refine ih (by omega) (stage_congr ?_ h)
    exact ⟨2 ^ (10 - e), by rw [← pow_add, show e + (10 - e) = 10 by omega]; norm_num⟩

theorem wht_congr {α : Type} [Add α] [Sub α] {v w : ℕ → α} (h : ∀ n < 2048, v n = w n) : ∀ n < 2048, wht v n = wht w n :=
  stages_congr 8 (by omega) (stage_congr (by decide) (stage_congr (by decide) (stage_congr (by decide) h)))

theorem across_congr {α : Type} [Add α] [Sub α] {v w : ℕ → α} (h : ∀ n < 2048, v n = w n) : ∀ n < 2048, across v n = across w n :=
  stage_congr (by decide) (stage_congr (by decide) (stage_congr (by decide) h))

/-! ## Infinite entries -/

/-- An infinity, of either sign. -/
def Inf (x : EReal) : Prop := x = ⊤ ∨ x = ⊥

theorem Inf.add_left {a : EReal} (h : Inf a) (b : EReal) : Inf (a + b) := by
  rcases h with rfl | rfl
  · induction b <;> simp [Inf]
  · simp [Inf]

theorem Inf.add_right {a : EReal} (h : Inf a) (b : EReal) : Inf (b + a) := add_comm a b ▸ h.add_left b

theorem Inf.neg {a : EReal} (h : Inf a) : Inf (-a) := by
  rcases h with rfl | rfl <;> simp [Inf]

theorem Inf.sub_left {a : EReal} (h : Inf a) (b : EReal) : Inf (a - b) := by rw [sub_eq_add_neg]; exact h.add_left _

theorem Inf.sub_right {a : EReal} (h : Inf a) (b : EReal) : Inf (b - a) := by rw [sub_eq_add_neg]; exact h.neg.add_right _

theorem Inf.sum {ι : Type} [DecidableEq ι] {s : Finset ι} {f : ι → EReal} {i : ι} (hi : i ∈ s) (h : Inf (f i)) : Inf (∑ j ∈ s, f j) := by
  rw [← Finset.add_sum_erase s f hi]; exact h.add_left _

theorem Inf.stage {m : ℕ} {v : ℕ → EReal} {n : ℕ} (h : (n / m % 2 = 0 ∧ Inf (v (n + m))) ∨ (n / m % 2 ≠ 0 ∧ Inf (v (n - m))) ∨ Inf (v n)) : Inf (stage m v n) := by
  unfold Wht.stage
  rcases h with ⟨h0, h⟩ | ⟨h0, h⟩ | h
  · rw [if_pos h0]; exact h.add_right _
  · rw [if_neg h0]; exact h.sub_left _
  · split
    · exact h.add_left _
    · exact h.sub_right _

theorem Inf.step {m : ℕ} (hm : 0 < m) (hd : m ∣ 1024) {v : ℕ → EReal} {k : ℕ} (h : ∀ n < 2048, n % (2 * m) = k % (2 * m) → Inf (v n)) :
    ∀ n < 2048, n % m = k % m → Inf (Wht.stage m v n) := by
  intro n hn he
  obtain ⟨q, hq⟩ := hd
  refine Inf.stage ?_
  have e1 : n % (2 * m) = n % m + m * (n / m % 2) := by rw [mul_comm 2 m, Nat.mod_mul]
  have e2 : k % (2 * m) = k % m + m * (k / m % 2) := by rw [mul_comm 2 m, Nat.mod_mul]
  rcases Nat.mod_two_eq_zero_or_one (n / m) with h0 | h0 <;> rcases Nat.mod_two_eq_zero_or_one (k / m) with h1 | h1
  · exact .inr (.inr (h n hn (by rw [e1, e2, h0, h1, he])))
  · refine .inl ⟨h0, h _ ?_ ?_⟩
    · have hlt : n / m < 2 * q := by rw [Nat.div_lt_iff_lt_mul hm]; nlinarith
      have h1 : n < m * (n / m + 1) := Nat.lt_mul_div_succ n hm
      have h2 : m * (n / m + 2) ≤ m * (2 * q) := Nat.mul_le_mul_left _ (by omega)
      nlinarith
    · rw [mul_comm 2 m, Nat.mod_mul, mul_comm m 2, e2, Nat.add_mod_right, Nat.add_div_right _ hm, show (n / m).succ % 2 = 1 by omega, h1, he]
  · refine .inr (.inl ⟨by omega, ?_⟩)
    have hle : m ≤ n := by
      by_contra hc
      rw [Nat.div_eq_of_lt (by omega)] at h0; omega
    obtain ⟨x, rfl⟩ : ∃ x, n = x + m := ⟨n - m, by omega⟩
    rw [Nat.add_sub_cancel]
    rw [Nat.add_mod_right] at he
    rw [Nat.add_div_right _ hm] at h0
    refine h x (by omega) ?_
    rw [mul_comm 2 m, Nat.mod_mul, mul_comm m 2, e2, h1, he, show x / m % 2 = 0 by omega]
  · exact .inr (.inr (h n hn (by rw [e1, e2, h0, h1, he])))

theorem Inf.stages (e : ℕ) (he : e ≤ 10) {k : ℕ} : ∀ {v : ℕ → EReal}, (∀ n < 2048, n % 2 ^ e = k % 2 ^ e → Inf (v n)) → ∀ n < 2048, Inf (Wht.stages e v n) := by
  induction e with
  | zero => intro v h n hn; exact h n hn (by simp [Nat.mod_one])
  | succ e ih =>
    intro v h
    refine ih (by omega) (Inf.step (by positivity) ⟨2 ^ (10 - e), by rw [← pow_add, show e + (10 - e) = 10 by omega]; norm_num⟩ ?_)
    rw [← pow_succ']; exact h

/-- One infinite entry makes the whole transform infinite. -/
theorem Inf.wht {v : ℕ → EReal} {k : ℕ} (hk : k < 2048) (h : Inf (v k)) : ∀ n < 2048, Inf (Wht.wht v n) := by
  refine Inf.stages 8 (by omega) (k := k) ?_
  refine Inf.step (by norm_num) (by decide) (Inf.step (by norm_num) (by decide) (Inf.step (by norm_num) (by decide) ?_))
  intro n hn he
  have : n = k := by omega
  exact this ▸ h

/-- One infinite block makes everything infinite across. -/
theorem Inf.across {v : ℕ → EReal} {k : ℕ} (hk : k < 2048) (h : ∀ n < 2048, n / 256 = k / 256 → Inf (v n)) : ∀ n < 2048, Inf (Wht.across v n) := by
  intro n hn
  have key : ∀ l < 256, ∀ n < 2048, n % 256 = l → Inf (Wht.across v n) := fun l hl n hn he => by
    refine Inf.step (by norm_num) (by decide) (k := k / 256 * 256 + l) (Inf.step (by norm_num) (by decide) (Inf.step (by norm_num) (by decide) ?_)) n hn (by omega)
    intro n hn he
    exact h n hn (by omega)
  exact key _ (Nat.mod_lt _ (by norm_num)) n hn rfl

end Cert.Wht

end
-- ==== Proof.RowMath.lean ====
/- One row of the problem over the extended reals: the transform of a normalised row against the transform that is
   normalised afterwards, and what the quantiser makes of the two. -/
module

public import Idealize.ShloMosaic.PureOps.Ideal
public import proofs.«01_k».proof.Proof.Wht

@[expose] public section

noncomputable section

namespace Cert.Row

open Idealize.ShloMosaic Cert.Wht

/-- The constant under the root. -/
def eps : EReal := Ideal.ofBits .f32 0x3727C5AC#32
/-- The transform's scale. -/
def cc : EReal := Ideal.ofBits .f32 0x3CB504F3#32
/-- One over the row's length. -/
def rlen : EReal := Ideal.ofBits .f32 0x3A000000#32
/-- The row's length. -/
def len : EReal := Ideal.ofBits .f32 0x45000000#32
/-- The largest code. -/
def seven : EReal := Ideal.ofBits .f32 0x40E00000#32
/-- The smallest code. -/
def mseven : EReal := Ideal.ofBits .f32 0xC0E00000#32

theorem eps_val : eps = ((10995116 / 2 ^ 40 : ℝ) : EReal) := by
  simp [eps, Ideal.ofBits, Ideal.ieee]; norm_num [← EReal.coe_mul]
theorem cc_val : cc = ((11863283 / 2 ^ 29 : ℝ) : EReal) := by
  simp [cc, Ideal.ofBits, Ideal.ieee]; norm_num [← EReal.coe_mul]
theorem rlen_val : rlen = ((1 / 2048 : ℝ) : EReal) := by
  simp [rlen, Ideal.ofBits, Ideal.ieee]; norm_num [← EReal.coe_mul]
theorem len_val : len = ((2048 : ℝ) : EReal) := by
  simp [len, Ideal.ofBits, Ideal.ieee]; norm_num [← EReal.coe_mul]
theorem seven_val : seven = ((7 : ℝ) : EReal) := by
  simp [seven, Ideal.ofBits, Ideal.ieee]; norm_num [← EReal.coe_mul]
theorem mseven_val : mseven = ((-7 : ℝ) : EReal) := by
  simp [mseven, Ideal.ofBits, Ideal.ieee]; norm_num [← EReal.coe_mul]

/-- The sum of a row's squares. -/
def ssq (X : ℕ → EReal) : EReal := ∑ n ∈ Finset.range 2048, X n * X n

/-- The row's normaliser. -/
def nrm (X : ℕ → EReal) : EReal := Ideal.rsqrt (ssq X * rlen + eps)

/-- The row normalised, transformed and scaled. -/
def hR (X G : ℕ → EReal) (n : ℕ) : EReal := wht (fun k => X k * nrm X * G k) n * cc

/-- The row's product with the signed gains `G`, within the block of 256 that `n` is in. -/
def part (X G : ℕ → EReal) (n : ℕ) : EReal := ∑ i ∈ Finset.range 256, X (n / 256 * 256 + i) * (((sgn 8 i n : ℤ) : ℝ) * G (n / 256 * 256 + i) : EReal)

/-- What is left of the gains once they are split off. -/
def lo (G : ℕ → EReal) (n : ℕ) : EReal := G n - G n

/-- The row transformed within blocks, the gain split in three. -/
def tile (X G : ℕ → EReal) (n : ℕ) : EReal := part X G n + part X (lo G) n + part X (lo (lo G)) n

/-- The row transformed. -/
def uK (X G : ℕ → EReal) : ℕ → EReal := across (tile X G)

/-- The factor that normalises and scales a transformed row. -/
def rc (X : ℕ → EReal) : EReal := nrm X * cc

theorem sq_nonneg (x : EReal) : 0 ≤ x * x := by
  induction x with
  | bot => simp
  | top => simp
  | coe r => rw [← EReal.coe_mul]; exact EReal.coe_nonneg.2 (mul_self_nonneg r)

theorem ssq_nonneg (X : ℕ → EReal) : 0 ≤ ssq X := Finset.sum_nonneg fun n _ => sq_nonneg _

theorem not_inf {x : EReal} (h : ¬ Inf x) : ∃ r : ℝ, x = r := by
  induction x with
  | bot => exact absurd (.inr rfl) h
  | top => exact absurd (.inl rfl) h
  | coe r => exact ⟨r, rfl⟩

theorem inf_sq {x : EReal} (h : Inf x) : x * x = ⊤ := by
  rcases h with rfl | rfl <;> simp

theorem top_le_ssq {X : ℕ → EReal} {k : ℕ} (hk : k < 2048) (h : Inf (X k)) : ssq X = ⊤ :=
  top_le_iff.1 <| by
    rw [← inf_sq h]
    exact Finset.single_le_sum (f := fun n => X n * X n) (fun n _ => sq_nonneg _) (Finset.mem_range.2 hk)

/-- A row's normaliser is zero, or the row is finite and the normaliser a positive number. -/
theorem nrm_cases (X : ℕ → EReal) : nrm X = 0 ∨ (∃ r : ℝ, 0 < r ∧ nrm X = r) ∧ ∀ k < 2048, ∃ x : ℝ, X k = x := by
  have h0 := ssq_nonneg X
  by_cases hT : ssq X = ⊤
  · left
    have : ssq X * rlen + eps = ⊤ := by
      rw [hT, rlen_val, EReal.top_mul_coe_of_pos (by norm_num), eps_val, EReal.top_add_coe]
    rw [nrm, this]; rfl
  · right
    refine ⟨?_, fun k hk => not_inf fun h => hT (top_le_ssq hk h)⟩
    obtain ⟨s, hs⟩ : ∃ s : ℝ, ssq X = s := by
      refine not_inf ?_
      rintro (h | h)
      · exact hT h
      · rw [h] at h0; exact absurd h0 (by simp)
    rw [hs] at h0
    have hs0 : 0 ≤ s := EReal.coe_nonneg.1 h0
    refine ⟨(Real.sqrt (s * (1 / 2048) + 10995116 / 2 ^ 40))⁻¹, by positivity, ?_⟩
    have hp : 0 < s * (1 / 2048) + 10995116 / 2 ^ 40 := by positivity
    rw [nrm, hs, rlen_val, eps_val, ← EReal.coe_mul, ← EReal.coe_add, Ideal.rsqrt_coe, if_neg hp.not_gt, if_neg hp.ne']

theorem rc_cases (X : ℕ → EReal) : rc X = 0 ∨ ∃ r : ℝ, 0 < r ∧ rc X = r := by
  rcases nrm_cases X with h | ⟨⟨r, hr, h⟩, _⟩
  · left; rw [rc, h, zero_mul]
  · right; exact ⟨r * (11863283 / 2 ^ 29), by positivity, by rw [rc, h, cc_val, EReal.coe_mul]⟩

theorem wht_zero : wht (fun _ => (0 : EReal)) = fun _ => 0 := by
  have h1 := wht_coe (fun _ => 0)
  have h2 := wht_smul 0 (fun _ => 0)
  simp only [EReal.coe_zero, mul_zero, zero_mul] at h1 h2
  rw [h1, h2]; simp

theorem sgn_sq (e k n : ℕ) : sgn e k n * sgn e k n = 1 := by
  unfold sgn
  rw [← Finset.prod_mul_distrib]
  exact Finset.prod_eq_one fun b _ => by split <;> norm_num

theorem sgn_cases (e k n : ℕ) : sgn e k n = 1 ∨ sgn e k n = -1 := mul_self_eq_one_iff.1 (sgn_sq e k n)

theorem inf_mul {x : EReal} {r : ℝ} (h : Inf x) (hr : r ≠ 0) : Inf (x * r) := by
  rcases h with rfl | rfl <;> rcases lt_or_gt_of_ne hr with h | h
  · exact .inr (EReal.top_mul_coe_of_neg h)
  · exact .inl (EReal.top_mul_coe_of_pos h)
  · exact .inl (EReal.bot_mul_coe_of_neg h)
  · exact .inr (EReal.bot_mul_coe_of_pos h)

theorem sgn_ne (e k n : ℕ) : ((sgn e k n : ℤ) : ℝ) ≠ 0 := by
  rcases sgn_cases e k n with h | h <;> rw [h] <;> norm_num

/-- A finite product with a gain that is split off leaves nothing. -/
theorem mul_lo {x g : EReal} {p : ℝ} (hx : ∃ r : ℝ, x = r) (h : x * g = p) (s : ℝ) : x * (s * (g - g)) = 0 := by
  by_cases hg : Inf g
  · obtain ⟨r, rfl⟩ := hx
    have : r = 0 := by
      by_contra hr
      have hi := inf_mul hg hr
      rw [mul_comm, h] at hi
      rcases hi with hi | hi
      · exact EReal.coe_ne_top _ hi
      · exact EReal.coe_ne_bot _ hi
    rw [this, EReal.coe_zero, zero_mul]
  · obtain ⟨y, rfl⟩ := not_inf hg
    rw [← EReal.coe_sub, sub_self, EReal.coe_zero, mul_zero, mul_zero]

theorem mul_lo_lo {x g : EReal} {p : ℝ} (hx : ∃ r : ℝ, x = r) (h : x * g = p) (s : ℝ) : x * (s * ((g - g) - (g - g))) = 0 :=
  mul_lo hx (p := 0) (by have := mul_lo hx h 1; rw [EReal.coe_one, one_mul] at this; rw [this, EReal.coe_zero]) s

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- With finite products the blocks hold the stages within them. -/
theorem tile_real {X G : ℕ → EReal} {p : ℕ → ℝ} (hX : ∀ k < 2048, ∃ x : ℝ, X k = x) (h : ∀ k < 2048, X k * G k = p k) :
    ∀ n < 2048, tile X G n = ((stages 8 p n : ℝ) : EReal) := by
  intro n hn
  have h1 : part X (lo G) n = 0 := Finset.sum_eq_zero fun i hi => by
    have hi := Finset.mem_range.1 hi
    have hk : n / 256 * 256 + i < 2048 := by omega
    exact mul_lo (hX _ hk) (h _ hk) _
  have h2 : part X (lo (lo G)) n = 0 := Finset.sum_eq_zero fun i hi => by
    have hi := Finset.mem_range.1 hi
    have hk : n / 256 * 256 + i < 2048 := by omega
    exact mul_lo_lo (hX _ hk) (h _ hk) _
  have h0 : part X G n = ((stages 8 p n : ℝ) : EReal) := by
    rw [stages_eq, coe_sum]
    refine Finset.sum_congr rfl fun i hi => ?_
    have hi := Finset.mem_range.1 hi
    have hk : n / 256 * 256 + i < 2048 := by omega
    rw [show (2 : ℕ) ^ 8 = 256 from rfl, mul_left_comm, h _ hk, EReal.coe_mul]
  rw [tile, h0, h1, h2, add_zero, add_zero]

/-- The two transforms of a row: either they agree, or both are infinite all along. -/
theorem row (X G : ℕ → EReal) : (∀ n < 2048, hR X G n = uK X G n * rc X) ∨ (∀ n < 2048, Inf (hR X G n) ∧ Inf (uK X G n * rc X)) := by
  rcases nrm_cases X with h0 | ⟨⟨r, hr, hr'⟩, hX⟩
  · left
    intro n _
    simp only [hR, rc, h0, mul_zero, zero_mul, wht_zero]
  · have hrc : rc X = ((r * (11863283 / 2 ^ 29) : ℝ) : EReal) := by rw [rc, hr', cc_val, EReal.coe_mul]
    by_cases hI : ∃ k < 2048, Inf (X k * G k)
    · right
      obtain ⟨k, hk, hI⟩ := hI
      intro n hn
      constructor
      · rw [hR, cc_val]
        refine inf_mul (Inf.wht hk ?_ n hn) (by norm_num)
        show Inf (X k * nrm X * G k)
        rw [mul_right_comm, hr']; exact inf_mul hI hr.ne'
      · rw [hrc]
        refine inf_mul (Inf.across hk ?_ n hn) (by positivity)
        intro m hm he
        refine Inf.add_left (Inf.add_left (Inf.sum (i := k % 256) (Finset.mem_range.2 (by omega)) ?_) _) _
        rw [show m / 256 * 256 + k % 256 = k by omega, mul_left_comm, mul_comm]
        exact inf_mul hI (sgn_ne _ _ _)
    · left
      push Not at hI
      choose! p hp using fun k hk => not_inf (hI k hk)
      intro n hn
      have hu : uK X G n = ((wht p n : ℝ) : EReal) := by
        rw [uK, across_congr (tile_real hX hp) n hn, across_coe, across_stages]
      have hh : wht (fun k => X k * nrm X * G k) n = ((r * wht p n : ℝ) : EReal) := by
        rw [wht_congr (w := fun k => ((r * p k : ℝ) : EReal)) (fun k hk => ?_) n hn, wht_coe, wht_smul]
        rw [mul_right_comm, hp k hk, hr', mul_comm, EReal.coe_mul]
      rw [hR, hh, hu, hrc, cc_val, ← EReal.coe_mul, ← EReal.coe_mul]
      congr 1; ring

/-! ## The quantiser -/

/-- The absolute value. -/
def mag (x : EReal) : EReal := max x (-x)

/-- The largest magnitude of a row. -/
def amax (v : ℕ → EReal) : EReal := (Finset.range 2048).sup fun n => mag (v n)

/-- A row's quantisation step, from its largest magnitude. -/
def scaleOf (a : EReal) : EReal := if a = 0 then Ideal.ofBits .f32 0x3F800000#32 else Ideal.div a seven

/-- The code of a number of steps. -/
def code (v : EReal) : BitVec 8 := Ideal.fptosi 8 (min seven (max mseven (Ideal.liftRound Ideal.roundHalfEven v)))

theorem one_val : Ideal.ofBits .f32 0x3F800000#32 = ((1 : ℝ) : EReal) := by
  simp [Ideal.ofBits, Ideal.ieee]; norm_num [← EReal.coe_mul]

theorem mag_nonneg (x : EReal) : 0 ≤ mag x := by
  rcases le_total 0 x with h | h
  · exact le_max_of_le_left h
  · exact le_max_of_le_right (by simpa using EReal.neg_le_neg_iff.2 h)

theorem mag_inf {x : EReal} (h : Inf x) : mag x = ⊤ := by
  rcases h with rfl | rfl <;> simp [mag]

theorem mag_mul_pos (x : EReal) {r : ℝ} (hr : 0 < r) : mag (x * r) = mag x * r := by
  have h0 : (0 : EReal) ≤ (r : EReal) := EReal.coe_nonneg.2 hr.le
  have hm : Monotone fun y : EReal => y * r := fun a b h => mul_le_mul_of_nonneg_right h h0
  unfold mag
  rw [← EReal.neg_mul]
  exact (hm.map_max (a := x) (b := -x)).symm

theorem sup_mul_pos (v : ℕ → EReal) {r : ℝ} (hr : 0 < r) : amax (fun n => v n * r) = amax v * r := by
  have h0 : (0 : EReal) ≤ (r : EReal) := EReal.coe_nonneg.2 hr.le
  have hm : Monotone fun y : EReal => y * r := fun a b h => mul_le_mul_of_nonneg_right h h0
  unfold amax
  simp only [mag_mul_pos _ hr]
  exact (Finset.comp_sup_eq_sup_comp (s := Finset.range 2048) (f := fun n => mag (v n)) (fun y : EReal => y * (r : EReal)) (fun a b => hm.map_sup a b) (EReal.bot_mul_coe_of_pos hr)).symm

theorem amax_congr {v w : ℕ → EReal} (h : ∀ n < 2048, mag (v n) = mag (w n)) : amax v = amax w :=
  Finset.sup_congr rfl fun n hn => h n (Finset.mem_range.1 hn)

theorem amax_zero : amax (fun _ => 0) = 0 := by
  unfold amax
  simp only [show mag 0 = 0 by simp [mag]]
  exact Finset.sup_const ⟨0, by simp⟩ _

/-- The largest magnitude can be scaled after it is taken. -/
theorem amax_mul_rc (X : ℕ → EReal) (v : ℕ → EReal) : amax v * rc X = amax fun n => v n * rc X := by
  rcases rc_cases X with h | ⟨r, hr, h⟩
  · simp only [h, mul_zero, amax_zero]
  · rw [h, sup_mul_pos v hr]

theorem amax_eq (X G : ℕ → EReal) : amax (uK X G) * rc X = amax (hR X G) := by
  rw [amax_mul_rc]
  refine amax_congr fun n hn => ?_
  rcases row X G with h | h
  · rw [h n hn]
  · rw [mag_inf (h n hn).1, mag_inf (h n hn).2]

theorem amax_nonneg (v : ℕ → EReal) : 0 ≤ amax v :=
  (mag_nonneg (v 0)).trans (Finset.le_sup (f := fun n => mag (v n)) (by simp))

theorem scaleOf_top : scaleOf ⊤ = ⊤ := by
  rw [scaleOf, if_neg (by simp), seven_val, Ideal.div_coe (by norm_num), EReal.top_mul_coe_of_pos (by norm_num)]

theorem scaleOf_pos {a : EReal} (h : 0 ≤ a) : 0 < scaleOf a := by
  unfold scaleOf
  split
  · rw [one_val]; exact EReal.coe_pos.2 one_pos
  · rename_i h0
    rw [seven_val, Ideal.div_coe (by norm_num)]
    exact EReal.mul_pos (lt_of_le_of_ne h (Ne.symm h0)) (EReal.coe_pos.2 (by norm_num))

/-- The row's step. -/
def scale (X G : ℕ → EReal) : EReal := scaleOf (amax (hR X G))

/-- The row's codes. -/
def codes (X G : ℕ → EReal) (n : ℕ) : BitVec 8 := code (Ideal.div (hR X G n) (scale X G))

theorem scale_eq (X G : ℕ → EReal) : scaleOf (amax (uK X G) * rc X) = scale X G := by rw [amax_eq]; rfl

theorem codes_eq (X G : ℕ → EReal) (n : ℕ) (hn : n < 2048) : code (uK X G n * Ideal.div (rc X) (scale X G)) = codes X G n := by
  have hs : scale X G ≠ 0 := (scaleOf_pos (amax_nonneg _)).ne'
  unfold codes
  congr 1
  rw [Ideal.div, Ideal.div, if_neg hs, if_neg hs, ← mul_assoc]
  rcases row X G with h | h
  · rw [h n hn]
  · have : scale X G = ⊤ := by
      unfold scale
      rw [show amax (hR X G) = ⊤ from top_le_iff.1 ((mag_inf (h n hn).1).symm.le.trans (Finset.le_sup (f := fun n => mag (hR X G n)) (by simpa using hn)))]
      exact scaleOf_top
    rw [this, EReal.inv_top, mul_zero, mul_zero]

theorem code_cases (v : EReal) : ∃ z : ℤ, -7 ≤ z ∧ z ≤ 7 ∧ code v = BitVec.ofInt 8 z := by
  unfold code
  rw [seven_val, mseven_val]
  have key : ∀ z : ℤ, -7 ≤ z → z ≤ 7 → Ideal.fptosi 8 ((z : ℝ) : EReal) = BitVec.ofInt 8 z := fun z h1 h2 => by
    show BitVec.ofInt 8 (max _ (min _ (if 0 ≤ (z : ℝ) then ⌊(z : ℝ)⌋ else ⌈(z : ℝ)⌉))) = _
    rw [Int.floor_intCast, Int.ceil_intCast, ite_self]
    congr 1
    norm_num
    omega
  induction v with
  | bot => exact ⟨-7, by norm_num, by norm_num, by
    rw [← key (-7) (by norm_num) (by norm_num)]
    congr 1
    show min ((7 : ℝ) : EReal) (max ((-7 : ℝ) : EReal) ⊥) = _
    rw [max_bot_right, min_eq_right (EReal.coe_le_coe_iff.2 (by norm_num))]
    norm_num⟩
  | top => exact ⟨7, by norm_num, by norm_num, by
    rw [← key 7 (by norm_num) (by norm_num)]
    congr 1⟩
  | coe r =>
    refine ⟨min 7 (max (-7) (Ideal.roundHalfEven r)), by omega, by omega, ?_⟩
    rw [← key _ (by omega) (by omega)]
    congr 1
    show min ((7 : ℝ) : EReal) (max ((-7 : ℝ) : EReal) ((Ideal.roundHalfEven r : ℝ) : EReal)) = _
    rw [Int.cast_min, Int.cast_max, EReal.coe_strictMono.monotone.map_min, EReal.coe_strictMono.monotone.map_max]
    norm_num

/-- A code read as a number is within the quantiser's range. -/
theorem code_toInt (v : EReal) : -7 ≤ (code v).toInt ∧ (code v).toInt ≤ 7 := by
  obtain ⟨z, h1, h2, h⟩ := code_cases v
  rw [h, BitVec.toInt_ofInt]
  have : z.bmod (2 ^ 8) = z := by
    apply Int.bmod_eq_of_le <;> omega
  rw [this]; exact ⟨h1, h2⟩

end Cert.Row

end
-- ==== Proof.ProjMath.lean ====
/- The ternary product of a row of codes: two columns packed in one product come apart again by rounding. -/
module

public import proofs.«01_k».proof.Proof.RowMath

@[expose] public section

noncomputable section

namespace Cert.Proj

open Idealize.ShloMosaic Cert.Row

/-- The 2-bit field that row `n` of the unpacked weights is: bytes come 512 to a field. -/
def fld (w : ℕ → ℕ) (n : ℕ) : ℕ := w (n % 512) / 4 ^ (n / 512) % 4

/-- The product of the codes with the ternary weights, a field less one. -/
def acc (c : ℕ → ℤ) (w : ℕ → ℕ) : ℤ := ∑ n ∈ Finset.range 2048, c n * ((fld w n : ℤ) - 1)

/-- What an output entry is: the product times the row's step times the weights' scale. -/
def out (c : ℕ → ℤ) (w : ℕ → ℕ) (s ws : EReal) : EReal := ((acc c w : ℝ) : EReal) * s * ws

def one16 : EReal := Ideal.ofBits .bf16 0x3F80#16
def r128 : EReal := Ideal.ofBits .bf16 0x3C00#16
def b255 : EReal := Ideal.ofBits .bf16 0x437F#16
def kap : EReal := Ideal.ofBits .f32 0x38008081#32
def c128 : EReal := Ideal.ofBits .f32 0x43000000#32
def c32640 : EReal := Ideal.ofBits .f32 0x46FF0000#32

theorem one16_val : one16 = ((1 : ℝ) : EReal) := by simp [one16, Ideal.ofBits, Ideal.ieee]; norm_num [← EReal.coe_mul]
theorem r128_val : r128 = ((1 / 128 : ℝ) : EReal) := by simp [r128, Ideal.ofBits, Ideal.ieee]; norm_num [← EReal.coe_mul]
theorem b255_val : b255 = ((255 : ℝ) : EReal) := by simp [b255, Ideal.ofBits, Ideal.ieee]
theorem kap_val : kap = ((8421505 / 2 ^ 38 : ℝ) : EReal) := by simp [kap, Ideal.ofBits, Ideal.ieee]; norm_num [← EReal.coe_mul]
theorem c128_val : c128 = ((128 : ℝ) : EReal) := by simp [c128, Ideal.ofBits, Ideal.ieee]; norm_num [← EReal.coe_mul]
theorem c32640_val : c32640 = ((32640 : ℝ) : EReal) := by simp [c32640, Ideal.ofBits, Ideal.ieee]; norm_num [← EReal.coe_mul]

/-- A ternary weight over the extended reals. -/
def tern (w : ℕ → ℕ) (n : ℕ) : EReal := (((fld w n : ℤ) : ℝ) : EReal) - one16

theorem tern_val (w : ℕ → ℕ) (n : ℕ) : tern w n = ((((fld w n : ℤ) - 1 : ℤ) : ℝ) : EReal) := by
  rw [tern, one16_val, ← EReal.coe_sub]; push_cast; rfl

theorem sum_tern (c : ℕ → ℤ) (w : ℕ → ℕ) : ∑ n ∈ Finset.range 2048, (((c n : ℝ) : EReal) * tern w n) = ((acc c w : ℝ) : EReal) := by
  rw [acc]
  push_cast
  rw [coe_sum]
  refine Finset.sum_congr rfl fun n _ => ?_
  rw [tern_val, ← EReal.coe_mul]; push_cast; rfl

/-- A column of the packed table: one column's weight and a multiple of another's. -/
theorem sum_pack (c : ℕ → ℤ) (wa wb : ℕ → ℕ) {k : EReal} {κ : ℝ} (hk : k = κ) :
    ∑ n ∈ Finset.range 2048, (((c n : ℝ) : EReal) * (tern wb n + tern wa n * k)) = (((acc c wb : ℝ) + (acc c wa : ℝ) * κ : ℝ) : EReal) := by
  have e : ((acc c wb : ℝ) + (acc c wa : ℝ) * κ) = ∑ n ∈ Finset.range 2048, ((c n : ℝ) * (((fld wb n : ℤ) - 1 : ℤ) + ((fld wa n : ℤ) - 1 : ℤ) * κ)) := by
    unfold acc
    push_cast
    rw [Finset.sum_mul, ← Finset.sum_add_distrib]
    exact Finset.sum_congr rfl fun n _ => by ring
  rw [e, coe_sum]
  refine Finset.sum_congr rfl fun n _ => ?_
  rw [tern_val, tern_val, hk, ← EReal.coe_mul, ← EReal.coe_add, ← EReal.coe_mul]

theorem acc_bound {c : ℕ → ℤ} {w : ℕ → ℕ} (hc : ∀ n < 2048, -7 ≤ c n ∧ c n ≤ 7) (hw : ∀ n < 2048, fld w n ≠ 3) : |acc c w| ≤ 14336 := by
  unfold acc
  refine (Finset.abs_sum_le_sum_abs _ _).trans ?_
  refine (Finset.sum_le_sum (g := fun _ => (7 : ℤ)) fun n hn => ?_).trans (by simp)
  have hn := Finset.mem_range.1 hn
  have h1 := hc n hn
  have h2 := hw n hn
  have h3 : fld w n < 4 := Nat.mod_lt _ (by norm_num)
  have h4 : |c n| ≤ 7 := abs_le.2 h1
  rw [abs_mul]
  have h5 : |(fld w n : ℤ) - 1| ≤ 1 := abs_le.2 ⟨by omega, by omega⟩
  nlinarith [abs_nonneg (c n), abs_nonneg ((fld w n : ℤ) - 1)]

theorem round_near (z : ℤ) (r : ℝ) (h1 : (z : ℝ) - 1 / 2 < r) (h2 : r < z + 1 / 2) : Ideal.roundHalfEven r = z := by
  unfold Ideal.roundHalfEven
  simp only
  rcases lt_or_ge r z with h | h
  · have hf : ⌊r⌋ = z - 1 := Int.floor_eq_iff.2 ⟨by push_cast; linarith, by push_cast; linarith⟩
    rw [hf, if_neg (by push_cast; linarith), if_pos (by push_cast; linarith)]; ring
  · have hf : ⌊r⌋ = z := Int.floor_eq_iff.2 ⟨h, by linarith⟩
    rw [hf, if_pos (by linarith)]

/-- The rounding that takes the two packed products apart. -/
def mid (t1 t2 : EReal) : EReal := Ideal.liftRound Ideal.roundHalfEven (t1 - t2 * kap)

variable {A B C : ℤ} {t1 t2 : EReal}

theorem mid_eq (hA : |A| ≤ 14336) (hC : |C| ≤ 14336) (h1 : t1 = (((B : ℝ) + (A : ℝ) * (1 / 128) : ℝ) : EReal))
    (h2 : t2 = (((C : ℝ) + (A : ℝ) * 255 : ℝ) : EReal)) : mid t1 t2 = ((B : ℝ) : EReal) := by
  have hA1 : (-14336 : ℝ) ≤ A := by exact_mod_cast (abs_le.1 hA).1
  have hA2 : (A : ℝ) ≤ 14336 := by exact_mod_cast (abs_le.1 hA).2
  have hC1 : (-14336 : ℝ) ≤ C := by exact_mod_cast (abs_le.1 hC).1
  have hC2 : (C : ℝ) ≤ 14336 := by exact_mod_cast (abs_le.1 hC).2
  rw [mid, h1, h2, kap_val, ← EReal.coe_mul, ← EReal.coe_sub]
  show ((Ideal.roundHalfEven _ : ℝ) : EReal) = _
  rw [round_near B _ (by norm_num; linarith) (by norm_num; linarith)]

theorem out0_eq (hA : |A| ≤ 14336) (hC : |C| ≤ 14336) (h1 : t1 = (((B : ℝ) + (A : ℝ) * (1 / 128) : ℝ) : EReal))
    (h2 : t2 = (((C : ℝ) + (A : ℝ) * 255 : ℝ) : EReal)) (s ws : EReal) :
    (t1 - mid t1 t2) * ((s * ws) * c128) = ((A : ℝ) : EReal) * s * ws := by
  rw [mid_eq hA hC h1 h2, h1, ← EReal.coe_sub, c128_val, mul_comm (s * ws), ← mul_assoc, ← EReal.coe_mul, mul_assoc]
  congr 2; ring

theorem out1_eq (hA : |A| ≤ 14336) (hC : |C| ≤ 14336) (h1 : t1 = (((B : ℝ) + (A : ℝ) * (1 / 128) : ℝ) : EReal))
    (h2 : t2 = (((C : ℝ) + (A : ℝ) * 255 : ℝ) : EReal)) (s ws : EReal) :
    mid t1 t2 * (s * ws) = ((B : ℝ) : EReal) * s * ws := by
  rw [mid_eq hA hC h1 h2, mul_assoc]

theorem out2_eq (hA : |A| ≤ 14336) (hC : |C| ≤ 14336) (h1 : t1 = (((B : ℝ) + (A : ℝ) * (1 / 128) : ℝ) : EReal))
    (h2 : t2 = (((C : ℝ) + (A : ℝ) * 255 : ℝ) : EReal)) (s ws : EReal) :
    (t2 - (t1 - mid t1 t2) * c32640) * (s * ws) = ((C : ℝ) : EReal) * s * ws := by
  rw [mid_eq hA hC h1 h2, h1, h2, ← EReal.coe_sub, c32640_val, ← EReal.coe_mul, ← EReal.coe_sub, mul_assoc]
  congr 2; ring

/-- The sum by fields. -/
theorem sum_fields (f : ℕ → EReal) : ∑ n ∈ Finset.range 2048, f n
    = ((∑ k ∈ Finset.range 512, f (512 * 0 + k) + ∑ k ∈ Finset.range 512, f (512 * 1 + k)) + ∑ k ∈ Finset.range 512, f (512 * 2 + k)) + ∑ k ∈ Finset.range 512, f (512 * 3 + k) := by
  rw [show 2048 = 512 + 512 + 512 + 512 from rfl, Finset.sum_range_add, Finset.sum_range_add, Finset.sum_range_add]
  simp

end Cert.Proj

end
-- ==== Proof.Read.lean ====
/- The blocks' values over the extended reals, entry by entry. -/
module

public import proofs.«01_k».proof.Proof.Body
public import proofs.«01_k».proof.Proof.ProjMath
public import Idealize.ShloMosaic.Lib.Pointwise

@[expose] public section

noncomputable section

namespace Cert.KernelIdeal.Body

open Idealize.ShloMosaic Idealize.ShloMosaic.TcCoe Idealize.SL Idealize.SL.Sem
open Shapes1.Facts₀ Shapes2.Facts₀ K0.Facts₀ Facts

/-- The array's entry at `(a, b)` is `v`, if it has such an entry. -/
def At {R C : ℕ} {α : Type} (x : (⟨2, ![R, C]⟩ : Shape).Idx → α) (a b : ℕ) (v : α) : Prop := ∀ (ha : a < R) (hb : b < C), x (ix2 ⟨a, ha⟩ ⟨b, hb⟩) = v

variable {R C n m r c a b : ℕ} {α : Type} {x : (⟨2, ![R, C]⟩ : Shape).Idx → α} {v : α}

theorem At.congr {a' b' : ℕ} {v' : α} (h : At x a b v) (ha : a = a') (hb : b = b') (hv : v = v') : At x a' b' v' := by subst ha hb hv; exact h

theorem At.window {inb : ∀ i, (![r, c] : Fin 2 → ℕ) i + (![n, m] : Fin 2 → ℕ) i ≤ (⟨2, ![R, C]⟩ : Shape).size i} (h : At x (r + a) (c + b) v) :
    At (R := n) (C := m) (VecWindow.window x ![r, c] ![n, m] inb) a b v := fun ha hb => by
  have h1 : r + n ≤ R := inb 0
  have h2 : c + m ≤ C := inb 1
  rw [← h (by omega) (by omega)]
  show x _ = x _
  congr 1
  funext i
  match i with
  | ⟨0, _⟩ => exact Fin.ext (by show r + 1 * a = r + a; omega)
  | ⟨1, _⟩ => exact Fin.ext (by show c + 1 * b = c + b; omega)

theorem At.put_in {w : (⟨2, ![n, m]⟩ : Shape).Idx → α} (ha : r ≤ a ∧ a < r + n) (hb : c ≤ b ∧ b < c + m) (h : At w (a - r) (b - c) v) :
    At (VecWindow.put x ![r, c] ![n, m] w) a b v := fun ha' hb' => by
  rw [← h (by omega) (by omega)]
  unfold VecWindow.put
  rw [dif_pos (by intro i; match i with | ⟨0, _⟩ => exact ha | ⟨1, _⟩ => exact hb)]
  congr 1
  funext i
  match i with
  | ⟨0, _⟩ => rfl
  | ⟨1, _⟩ => rfl

theorem At.put_out {w : (⟨2, ![n, m]⟩ : Shape).Idx → α} (hn : ¬((r ≤ a ∧ a < r + n) ∧ c ≤ b ∧ b < c + m)) (h : At x a b v) :
    At (VecWindow.put x ![r, c] ![n, m] w) a b v := fun ha' hb' => by
  rw [← h ha' hb']
  unfold VecWindow.put
  rw [dif_neg (fun h => hn ⟨h 0, h 1⟩)]

section
open Finset
theorem hadTileV_at (x : Vec Ideal S192x256 .bf16) (h0 h1 h2 : Vec Ideal S1x1x256x256 .bf16) (r : Fin 192) (l : Fin 256) :
    (hadTileV x h0 h1 h2 (ix2 r l) : EReal) = (∑ k : Fin 256, x (ix2 r k) * h0 (ix4 0 0 k l) + ∑ k : Fin 256, x (ix2 r k) * h1 (ix4 0 0 k l) : EReal) + ∑ k : Fin 256, x (ix2 r k) * h2 (ix4 0 0 k l) := by
  pointwise [hadTileV]

theorem rcV_at (q : FVec Ideal S16x128 .f32) (r : Fin 16) :
    (rcV q (ix2 r 0) : EReal) = Ideal.rsqrt ((∑ l : Fin 128, q (ix2 r l)) * Row.rlen + Row.eps) * Row.cc := by
  pointwise [rcV, Row.rlen, Row.eps, Row.cc]

theorem scaleV_at (rc : FVec Ideal S16x1 .f32) (m : FVec Ideal S16x128 .f32) (r : Fin 16) :
    (scaleV rc m (ix2 r 0) : EReal) = Row.scaleOf ((Finset.univ.sup fun l : Fin 128 => (m (ix2 r l) : EReal)) * rc (ix2 r 0)) := by
  pointwise [scaleV, Row.scaleOf, Row.seven]
  rw [show Ideal.ofBits .f32 4286578688#32 = ⊥ by simp [Ideal.ofBits, Ideal.ieee]]
  rfl

theorem scaleB_at (sc : FVec Ideal S16x1 .f32) (r : Fin 16) (l : Fin 128) : scaleB sc (ix2 r l) = sc (ix2 r 0) := by
  pointwise [scaleB]

theorem codesV_at (inv : FVec Ideal S32x1 .f32) (v : Vec Ideal S32x128 .f32) (r : Fin 32) (l : Fin 128) :
    codesV inv v (ix2 r l) = Row.code ((v (ix2 r l) : EReal) * inv (ix2 r 0)) := by
  pointwise [codesV, Row.code, Row.seven, Row.mseven]
  rfl

theorem cbV_at (v : IVec S32x128 8) (r : Fin 32) (l : Fin 128) :
    (cbV (F := Ideal) v (ix2 r l) : EReal) = (((v (ix2 r l)).toInt : ℝ) : EReal) := by
  pointwise [cbV]
  rfl

theorem bcV_at (sc : Vec Ideal S192x1 .f32) (ws : EReal) (r : Fin 192) : (bcV (F := Ideal) sc ws (ix2 r 0) : EReal) = sc (ix2 r 0) * ws := by
  pointwise [bcV]

theorem tabV_at (c : Vec Ideal S192x2048 .bf16) (w : Vec Ideal S2048x256 .bf16) (r : Fin 192) (l : Fin 256) :
    (tabV c w (ix2 r l) : EReal) = ∑ k : Fin 2048, (c (ix2 r k) * w (ix2 k l) : EReal) := by
  pointwise [tabV]

theorem y0V_at (b : FVec Ideal S192x1 .f32) (t1 t2 : FVec Ideal S192x256 .f32) (r : Fin 192) (l : Fin 256) :
    (y0V b t1 t2 (ix2 r l) : EReal) = ((t1 (ix2 r l) : EReal) - Proj.mid (t1 (ix2 r l)) (t2 (ix2 r l))) * ((b (ix2 r 0) : EReal) * Proj.c128) := by
  pointwise [y0V, midV, acV, Proj.mid, Proj.c128, Proj.kap]

theorem y1V_at (b : FVec Ideal S192x1 .f32) (t1 t2 : FVec Ideal S192x256 .f32) (r : Fin 192) (l : Fin 256) :
    (y1V b t1 t2 (ix2 r l) : EReal) = Proj.mid (t1 (ix2 r l)) (t2 (ix2 r l)) * (b (ix2 r 0) : EReal) := by
  pointwise [y1V, midV, Proj.mid, Proj.kap]

theorem y2V_at (b : FVec Ideal S192x1 .f32) (t1 t2 : FVec Ideal S192x256 .f32) (r : Fin 192) (l : Fin 256) :
    (y2V b t1 t2 (ix2 r l) : EReal) = ((t2 (ix2 r l) : EReal) - ((t1 (ix2 r l) : EReal) - Proj.mid (t1 (ix2 r l)) (t2 (ix2 r l))) * Proj.c32640) * (b (ix2 r 0) : EReal) := by
  pointwise [y2V, midV, Proj.mid, Proj.c32640, Proj.kap]

theorem fbV_at (acc : FVec Ideal S384x256 .f32) (sc : Vec Ideal S384x1 .f32) (ws : EReal) (r : Fin 384) (l : Fin 256) :
    (fbV (F := Ideal) acc sc ws (ix2 r l) : EReal) = (acc (ix2 r l) : EReal) * ((sc (ix2 r 0) : EReal) * ws) := by
  pointwise [fbV]

end

end Cert.KernelIdeal.Body

end
-- ==== Proof.Tiles.lean ====
/- The transform's tiles: what the blocks of 256 columns hold after the products with the signed gains. -/
module

public import proofs.«01_k».proof.Proof.Read
public import proofs.«01_k».proof.Proof.RowMath

@[expose] public section

noncomputable section

namespace Cert.KernelIdeal.Body

open Idealize.ShloMosaic Idealize.ShloMosaic.TcCoe Idealize.SL Idealize.SL.Sem
open Shapes1.Facts₀ Shapes2.Facts₀ K0.Facts₀ Facts

/-- What a fold leaves as it was. -/
theorem foldK_keep {σ τ : Type} {N : ℕ} {f : (i : ℕ) → i < N → σ → σ} (g : σ → τ) (h : ∀ i hi s, g (f i hi s) = g s) : ∀ n hn s, g (foldK f n hn s) = g s
  | 0, _, _ => rfl
  | n + 1, hn, s => (h n hn _).trans (foldK_keep g h n _ s)

/-- A property of a fold, step by step. -/
theorem foldK_ind {σ : Type} {N : ℕ} {f : (i : ℕ) → i < N → σ → σ} (p : ℕ → σ → Prop) (h : ∀ i hi s, p i s → p (i + 1) (f i hi s)) :
    ∀ n hn s, p 0 s → p n (foldK f n hn s)
  | 0, _, _, h0 => h0
  | n + 1, hn, s, h0 => h n hn _ (foldK_ind p h n _ s h0)

/-- What stays as the first point's preparation left it. -/
def core (s : St Ideal) := (s.x, s.gain, s.w, s.ws, s.had, s.wp, s.flag)

variable (X : ℕ → ℕ → EReal) (G : ℕ → EReal)

/-- The gains' three terms. -/
def term : ℕ → ℕ → EReal
  | 0 => G
  | 1 => Row.lo G
  | _ => Row.lo (Row.lo G)

/-- The rows are `X`. -/
def XAt (s : St Ideal) : Prop := ∀ a n, At s.x a n (X a n : EReal)

/-- The tables of signed gains are those of the gains `G`. -/
def HadAt (s : St Ideal) : Prop := ∀ (j : Fin 8) (t : Fin 3) (i l : Fin 256), s.had (ix4 j t i l) = ((((Wht.sgn 8 i l : ℤ) : ℝ) : EReal) * term G t (256 * j + i) : EReal)

/-- Row `a` holds its tiles. -/
def TileAt (s : St Ideal) (a : ℕ) : Prop := ∀ n < 2048, At s.u a n (Row.tile (X a) G n : EReal)

variable {X G}

theorem had_window {j t : ℕ} (hj : j < 8) (ht : t < 3) (x : S8x3x256x256.Idx → EReal) (i l : Fin 256) :
    VecWindow.window x ![j, t, 0, 0] S1x1x256x256.size (inb4 hj ht) (ix4 0 0 i l) = x (ix4 ⟨j, hj⟩ ⟨t, ht⟩ i l) := by
  show x _ = x _
  congr 1
  funext a
  match a with
  | ⟨0, _⟩ => exact Fin.ext (by show j + 1 * 0 = j; omega)
  | ⟨1, _⟩ => exact Fin.ext (by show t + 1 * 0 = t; omega)
  | ⟨2, _⟩ => exact Fin.ext (by show 0 + 1 * i.val = i.val; omega)
  | ⟨3, _⟩ => exact Fin.ext (by show 0 + 1 * l.val = l.val; omega)

theorem part_eq {Y H : ℕ → EReal} {n : ℕ} {x : Fin 256 → EReal} {h : Fin 256 → EReal} (hx : ∀ k : Fin 256, x k = Y (n / 256 * 256 + k))
    (hh : ∀ k : Fin 256, h k = (((Wht.sgn 8 k n : ℤ) : ℝ) : EReal) * H (n / 256 * 256 + k)) : ∑ k : Fin 256, x k * h k = Row.part Y H n := by
  unfold Row.part
  rw [← Fin.sum_univ_eq_sum_range (fun i => Y (n / 256 * 256 + i) * ((((Wht.sgn 8 i n : ℤ) : ℝ) : EReal) * H (n / 256 * 256 + i)))]
  exact Finset.sum_congr rfl fun k _ => by rw [hx, hh]

theorem hadTileS_in {r j : ℕ} {hr : r + 192 ≤ 384} {hj : j < 8} {s : St Ideal} (hX : XAt X s) (hH : HadAt G s) {a n : ℕ} (ha : r ≤ a ∧ a < r + 192)
    (hn : 256 * j ≤ n ∧ n < 256 * j + 256) : At (hadTileS r j hr hj s).u a n (Row.tile (X a) G n : EReal) := by
  refine At.put_in ha hn fun h1 h2 => ?_
  rw [hadTileV_at]
  have hnj : n / 256 = j := by omega
  have hs : ∀ k : ℕ, Wht.sgn 8 k (n - 256 * j) = Wht.sgn 8 k n := fun k => by
    conv_rhs => rw [show n = (n - 256 * j) + 2 ^ 8 * j by omega]
    exact (Wht.sgn_add_right 8 k _ j).symm
  have hx : ∀ k : Fin 256, VecWindow.window s.x ![r, 256 * j] S192x256.size (inb2 hr (by omega)) (ix2 ⟨a - r, h1⟩ k) = (X a (n / 256 * 256 + k) : EReal) := fun k =>
    At.window (a := a - r) (b := k.val) ((hX a (n / 256 * 256 + k)).congr (by omega) (by omega) rfl) _ _
  have hh : ∀ (t : Fin 3) (k : Fin 256), VecWindow.window s.had ![j, t.val, 0, 0] S1x1x256x256.size (inb4 hj t.isLt) (ix4 0 0 k ⟨n - 256 * j, h2⟩)
      = ((((Wht.sgn 8 k n : ℤ) : ℝ) : EReal) * term G t (n / 256 * 256 + k) : EReal) := fun t k => by
    refine (had_window hj t.isLt s.had k ⟨n - 256 * j, h2⟩).trans ((hH ⟨j, hj⟩ t k ⟨n - 256 * j, h2⟩).trans ?_)
    show (((Wht.sgn 8 k (n - 256 * j) : ℤ) : ℝ) : EReal) * term G t (256 * j + k) = _
    rw [hs, hnj, Nat.mul_comm]
  unfold Row.tile
  exact congrArg₂ (· + ·) (congrArg₂ (· + ·) (part_eq hx (hh 0)) (part_eq hx (hh 1))) (part_eq hx (hh 2))

theorem hadTileS_out {r j : ℕ} {hr : r + 192 ≤ 384} {hj : j < 8} {s : St Ideal} {a n : ℕ} {v : EReal}
    (hn : ¬((r ≤ a ∧ a < r + 192) ∧ 256 * j ≤ n ∧ n < 256 * j + 256)) (h : At s.u a n v) : At (hadTileS r j hr hj s).u a n v :=
  At.put_out hn h

theorem tilesS_core {r : ℕ} {hr : r + 192 ≤ 384} (s : St Ideal) : core (tilesS r hr s) = core s :=
  foldK_keep (f := fun j hj s => hadTileS r j hr hj s) core (fun _ _ _ => rfl) 8 le_rfl s

theorem tilesS_scales {r : ℕ} {hr : r + 192 ≤ 384} (s : St Ideal) : (tilesS r hr s).scales = s.scales :=
  foldK_keep (f := fun j hj s => hadTileS r j hr hj s) (fun s : St Ideal => s.scales) (fun _ _ _ => rfl) 8 le_rfl s

theorem XAt.core {s s' : St Ideal} (h : core s' = core s) (hX : XAt X s) : XAt X s' := by
  have : s'.x = s.x := congrArg (fun c => c.1) h
  unfold XAt; rw [this]; exact hX

theorem HadAt.core {s s' : St Ideal} (h : core s' = core s) (hX : HadAt G s) : HadAt G s' := by
  have : s'.had = s.had := congrArg (fun c => c.2.2.2.2.1) h
  unfold HadAt; rw [this]; exact hX

theorem tilesS_in {r : ℕ} {hr : r + 192 ≤ 384} {s : St Ideal} (hX : XAt X s) (hH : HadAt G s) {a : ℕ} (ha : r ≤ a ∧ a < r + 192) :
    TileAt X G (tilesS r hr s) a := by
  have := (foldK_ind (f := fun j hj s => hadTileS r j hr hj s) (fun j s => XAt X s ∧ HadAt G s ∧ ∀ n < 256 * j, At s.u a n (Row.tile (X a) G n : EReal)) (fun j hj s h => ⟨h.1, h.2.1, fun n hn => by
    by_cases h1 : n < 256 * j
    · exact hadTileS_out (by omega) (h.2.2 n h1)
    · exact hadTileS_in h.1 h.2.1 ha (by omega)⟩) 8 le_rfl s
    ⟨hX, hH, fun n hn => by omega⟩).2.2
  exact this

theorem tilesS_out {r : ℕ} {hr : r + 192 ≤ 384} {s : St Ideal} {a : ℕ} (ha : ¬(r ≤ a ∧ a < r + 192)) (h : TileAt X G s a) :
    TileAt X G (tilesS r hr s) a :=
  fun n hn => foldK_ind (f := fun j hj s => hadTileS r j hr hj s) (fun _ (s : St Ideal) => At s.u a n (Row.tile (X a) G n : EReal))
    (fun j hj s h => hadTileS_out (v := Row.tile (X a) G n) (by omega) h) 8 le_rfl s (h n hn)

end Cert.KernelIdeal.Body

end
-- ==== Proof.Rows.lean ====
/- Sixteen and thirty-two rows: the row factor, the transform across tiles, the quantisation step and the codes. -/
module

public import proofs.«01_k».proof.Proof.Tiles

@[expose] public section

noncomputable section

namespace Cert.KernelIdeal.Body

open Idealize.ShloMosaic Idealize.ShloMosaic.TcCoe Idealize.SL Idealize.SL.Sem
open Shapes1.Facts₀ Shapes2.Facts₀ K0.Facts₀ Facts

variable {X : ℕ → ℕ → EReal} {G : ℕ → EReal}

/-! ## The row factor -/

theorem sqV_at (x : Vec Ideal S16x128 .bf16) (r : Fin 16) (l : Fin 128) : (sqV x (ix2 r l) : EReal) = (x (ix2 r l) * x (ix2 r l) : EReal) := by
  pointwise [sqV]

theorem sum_blocks (f : ℕ → EReal) (b : ℕ) : ∀ a, ∑ n ∈ Finset.range (b * a), f n = ∑ i ∈ Finset.range a, ∑ l ∈ Finset.range b, f (b * i + l)
  | 0 => by simp
  | a + 1 => by rw [Nat.mul_succ, Finset.sum_range_add, sum_blocks f b a, Finset.sum_range_succ]

theorem sqsumS_at {r : ℕ} {hr : r + 16 ≤ 384} {s : St Ideal} (hX : XAt X s) (p : Fin 16) (l : Fin 128) :
    (sqsumS r hr s (ix2 p l) : EReal) = ∑ i ∈ Finset.range 16, X (r + p) (128 * i + l) * X (r + p) (128 * i + l) := by
  have hx : ∀ i < 16, ∀ inb, VecWindow.window s.x ![r, 128 * i] S16x128.size inb (ix2 p l) = (X (r + p) (128 * i + l) : EReal) := fun i hi inb =>
    At.window (a := p.val) (b := l.val) (hX (r + p) (128 * i + l)) p.isLt l.isLt
  refine foldK_ind (f := fun i (hi : i < 15) a => addf a (sqV (VecWindow.window s.x ![r, 128 * (i + 1)] S16x128.size (inb2 hr (by omega)))))
    (fun i a => (a (ix2 p l) : EReal) = ∑ i ∈ Finset.range (i + 1), X (r + p) (128 * i + l) * X (r + p) (128 * i + l)) (fun i hi a h => ?_) 15 le_rfl _ ?_
  · rw [Finset.sum_range_succ, ← h]
    show (a (ix2 p l) : EReal) + sqV _ (ix2 p l) = _
    rw [sqV_at]
    rw [hx (i + 1) (by omega)]
  · rw [sqV_at]
    rw [hx 0 (by omega) (inb2 hr (by omega))]
    simp

theorem rcS_at {r : ℕ} {hr : r + 16 ≤ 384} {s : St Ideal} (hX : XAt X s) (p : Fin 16) : (rcV (sqsumS r hr s) (ix2 p 0) : EReal) = Row.rc (X (r + p)) := by
  rw [rcV_at]
  unfold Row.rc Row.nrm Row.ssq
  rw [sum_blocks _ 128 16, Finset.sum_comm, ← Fin.sum_univ_eq_sum_range (fun l => ∑ i ∈ Finset.range 16, X (r + p) (128 * i + l) * X (r + p) (128 * i + l))]
  rw [Finset.sum_congr rfl fun l _ => sqsumS_at hX p l]

/-! ## The transform across tiles -/

theorem stage_blocks (k : ℕ) (hk : 0 < k) (v : ℕ → EReal) (j l : ℕ) (hl : l < 256) (hj : j / k % 2 ≠ 0 → k ≤ j) :
    Wht.stage (256 * k) v (256 * j + l) = Wht.stage k (fun j => v (256 * j + l)) j := by
  unfold Wht.stage
  have e : (256 * j + l) / (256 * k) = j / k := by rw [← Nat.div_div_eq_div_mul]; congr 1; omega
  rw [e]
  split
  · rw [show 256 * j + l + 256 * k = 256 * (j + k) + l by ring]
  · rename_i h
    rw [show 256 * j + l - 256 * k = 256 * (j - k) + l by have := hj h; rw [Nat.mul_sub]; have := Nat.mul_le_mul_left 256 this; omega]

theorem le_of_bit {k j : ℕ} (hk : 0 < k) (h : j / k % 2 ≠ 0) : k ≤ j := by
  by_contra hn
  rw [Nat.div_eq_of_lt (by omega)] at h
  exact h rfl

theorem across_blocks (v : ℕ → EReal) (j l : ℕ) (hl : l < 256) :
    Wht.across v (256 * j + l) = Wht.stage 1 (Wht.stage 2 (Wht.stage 4 (fun j => v (256 * j + l)))) j := by
  unfold Wht.across
  rw [show (256 : ℕ) = 256 * 1 from rfl, stage_blocks 1 (by omega) _ _ _ hl (le_of_bit (by omega))]
  congr 1
  funext j
  rw [show (512 : ℕ) = 256 * 2 from rfl, stage_blocks 2 (by omega) _ _ _ hl (le_of_bit (by omega))]
  congr 1
  funext j
  rw [show (1024 : ℕ) = 256 * 4 from rfl, stage_blocks 4 (by omega) _ _ _ hl (le_of_bit (by omega))]

theorem bflyV_at (a : Fin 8 → FVec Ideal S16x128 .f32) (i : S16x128.Idx) (v : ℕ → EReal) (h : ∀ j : Fin 8, (a j i : EReal) = v j) (j : Fin 8) :
    (bflyV a j i : EReal) = Wht.stage 1 (Wht.stage 2 (Wht.stage 4 v)) j := by
  have h0 := h 0; have h1 := h 1; have h2 := h 2; have h3 := h 3; have h4 := h 4; have h5 := h 5; have h6 := h 6; have h7 := h 7
  have ea : ∀ x y : FVec Ideal S16x128 .f32, (addf x y i : EReal) = (x i + y i : EReal) := fun _ _ => rfl
  have es : ∀ x y : FVec Ideal S16x128 .f32, (subf x y i : EReal) = (x i - y i : EReal) := fun _ _ => rfl
  fin_cases j <;> simp [bflyV, Wht.stage, ea, es, h0, h1, h2, h3, h4, h5, h6, h7]

theorem ldUS_at {r l : ℕ} {hr : r + 16 ≤ 384} {hl : l + 128 ≤ 256} {s : St Ideal} {v : ℕ → EReal} (p : Fin 16) (q : Fin 128) (h : ∀ n < 2048, n % 256 = l + q → At s.u (r + p) n (v n))
    (j : Fin 8) : (ldUS r l hr hl s j (ix2 p q) : EReal) = v (256 * j + (l + q)) := by
  have e : ∀ j < 8, ∀ inb, VecWindow.window s.u ![r, 256 * j + l] S16x128.size inb (ix2 p q) = (v (256 * j + (l + q)) : EReal) := fun j hj inb =>
    At.window (a := p.val) (b := q.val) ((h (256 * j + (l + q)) (by omega) (by omega)).congr rfl (by omega) rfl) p.isLt q.isLt
  fin_cases j
  · exact e 0 (by omega) _
  · exact e 1 (by omega) _
  · exact e 2 (by omega) _
  · exact e 3 (by omega) _
  · exact e 4 (by omega) _
  · exact e 5 (by omega) _
  · exact e 6 (by omega) _
  · exact e 7 (by omega) _

theorem putAllS_in {r l : ℕ} {v : Fin 8 → FVec Ideal S16x128 .f32} {s : St Ideal} {w : ℕ → EReal} (p : Fin 16) (q : Fin 128) (hl : l + 128 ≤ 256)
    (h : ∀ j : Fin 8, (v j (ix2 p q) : EReal) = w j) : ∀ j < 8, At (putAllS r l v s).u (r + p) (256 * j + (l + q)) (w j) := by
  refine foldK_ind (f := fun j hj s => putUS r l j (v ⟨j, hj⟩) s) (fun i (s : St Ideal) => ∀ j < i, At s.u (r + p) (256 * j + (l + q)) (w j)) (fun i hi s hs j hj => ?_) 8 le_rfl s (fun j hj => by omega)
  by_cases hji : j = i
  · subst hji
    refine At.put_in (by omega) (by omega) fun h1 h2 => ?_
    rw [shapeCast_self]
    rw [← h ⟨j, hi⟩]
    congr 2 <;> exact Fin.ext (by show _ - _ = _; omega)
  · exact At.put_out (by omega) (hs j (by omega))

theorem putAllS_out {r l : ℕ} {v : Fin 8 → FVec Ideal S16x128 .f32} {s : St Ideal} {a n : ℕ} {x : EReal} (hl : l + 128 ≤ 256)
    (hn : ¬((r ≤ a ∧ a < r + 16) ∧ l ≤ n % 256 ∧ n % 256 < l + 128)) (h : At s.u a n x) : At (putAllS r l v s).u a n x :=
  foldK_ind (f := fun j hj s => putUS r l j (v ⟨j, hj⟩) s) (fun i (s : St Ideal) => At s.u a n x) (fun i hi s hs => At.put_out (by omega) hs) 8 le_rfl s h

/-! ## Sixteen rows -/

/-- Row `a` holds its transform. -/
def FullAt (X : ℕ → ℕ → EReal) (G : ℕ → EReal) (s : St Ideal) (a : ℕ) : Prop := ∀ n < 2048, At s.u a n (Row.uK (X a) G n : EReal)

theorem uK_blocks (Y : ℕ → EReal) (j l : ℕ) (hl : l < 256) : Row.uK Y G (256 * j + l) = Wht.stage 1 (Wht.stage 2 (Wht.stage 4 (fun j => Row.tile Y G (256 * j + l)))) j :=
  across_blocks _ j l hl

section
variable {r : ℕ} {hr : r + 16 ≤ 384} {s : St Ideal} (hT : ∀ a, r ≤ a → a < r + 16 → TileAt X G s a)
include hT

theorem half0 (p : Fin 16) (q : Fin 128) (j : Fin 8) : (bflyV (ldUS r 0 hr (by omega) s) j (ix2 p q) : EReal) = Row.uK (X (r + p)) G (256 * j + (0 + q)) := by
  rw [uK_blocks _ _ _ (by omega)]
  exact bflyV_at _ _ _ (ldUS_at p q fun n hn _ => hT _ (by omega) (by omega) n hn) j

theorem half1 (p : Fin 16) (q : Fin 128) (j : Fin 8) :
    (bflyV (ldUS r 128 hr (by omega) (bfly0S r hr s)) j (ix2 p q) : EReal) = Row.uK (X (r + p)) G (256 * j + (128 + q)) := by
  rw [uK_blocks _ _ _ (by omega)]
  exact bflyV_at _ _ _ (ldUS_at p q fun n hn e => putAllS_out (by omega) (by omega) (hT _ (by omega) (by omega) n hn)) j

theorem bfly1S_full (a : ℕ) (h1 : r ≤ a) (h2 : a < r + 16) : FullAt X G (bfly1S r hr s) a := fun n hn => by
  by_cases h : n % 256 < 128
  · refine putAllS_out (by omega) (by omega) ?_
    exact (putAllS_in (w := fun j => Row.uK (X a) G (256 * j + (0 + n % 256))) ⟨a - r, by omega⟩ ⟨n % 256, h⟩ (by omega)
      (fun j => (half0 hT _ _ j).trans (by show Row.uK (X (r + (a - r))) G _ = _; rw [show r + (a - r) = a by omega])) (n / 256) (by omega)).congr (by show r + (a - r) = a; omega) (by show 256 * (n / 256) + (0 + n % 256) = n; omega)
        (by show Row.uK (X a) G (256 * (n / 256) + (0 + n % 256)) = _; rw [show 256 * (n / 256) + (0 + n % 256) = n by omega])
  · exact (putAllS_in (w := fun j => Row.uK (X a) G (256 * j + (128 + (n % 256 - 128)))) ⟨a - r, by omega⟩ ⟨n % 256 - 128, by omega⟩ (by omega)
      (fun j => (half1 hT _ _ j).trans (by show Row.uK (X (r + (a - r))) G _ = _; rw [show r + (a - r) = a by omega])) (n / 256) (by omega)).congr (by show r + (a - r) = a; omega) (by show 256 * (n / 256) + (128 + (n % 256 - 128)) = n; omega)
        (by show Row.uK (X a) G (256 * (n / 256) + (128 + (n % 256 - 128))) = _; rw [show 256 * (n / 256) + (128 + (n % 256 - 128)) = n by omega])

end

theorem amaxV_le {v w : Fin 8 → FVec Ideal S16x128 .f32} {i : S16x128.Idx} {c : EReal} (hv : ∀ j, Row.mag (v j i : EReal) ≤ c) (hw : ∀ j, Row.mag (w j i : EReal) ≤ c) :
    (amaxV v w i : EReal) ≤ c := by
  have em : ∀ x y : FVec Ideal S16x128 .f32, (maximumf x y i : EReal) = max (x i : EReal) (y i) := fun _ _ => rfl
  have ea : ∀ x : FVec Ideal S16x128 .f32, (absf x i : EReal) = Row.mag (x i : EReal) := fun _ => rfl
  simp only [amaxV, em, ea, max_le_iff]
  exact ⟨⟨⟨⟨⟨⟨⟨⟨⟨⟨⟨⟨⟨⟨⟨hv 0, hv 1⟩, hv 2⟩, hv 3⟩, hv 4⟩, hv 5⟩, hv 6⟩, hv 7⟩, hw 0⟩, hw 1⟩, hw 2⟩, hw 3⟩, hw 4⟩, hw 5⟩, hw 6⟩, hw 7⟩

theorem le_amaxV {v w : Fin 8 → FVec Ideal S16x128 .f32} {i : S16x128.Idx} (j : Fin 8) : Row.mag (v j i : EReal) ≤ (amaxV v w i : EReal) ∧ Row.mag (w j i : EReal) ≤ (amaxV v w i : EReal) := by
  have em : ∀ x y : FVec Ideal S16x128 .f32, (maximumf x y i : EReal) = max (x i : EReal) (y i) := fun _ _ => rfl
  have ea : ∀ x : FVec Ideal S16x128 .f32, (absf x i : EReal) = Row.mag (x i : EReal) := fun _ => rfl
  simp only [amaxV, em, ea]
  fin_cases j <;> simp [le_max_iff]

section
variable {r : ℕ} {hr : r + 16 ≤ 384} {s : St Ideal} (hX : XAt X s) (hT : ∀ a, r ≤ a → a < r + 16 → TileAt X G s a)
include hT

theorem amax_at (p : Fin 16) : (Finset.univ.sup fun l : Fin 128 => (amaxV (bflyV (ldUS r 0 hr (by omega) s)) (bflyV (ldUS r 128 hr (by omega) (bfly0S r hr s))) (ix2 p l) : EReal))
    = Row.amax (Row.uK (X (r + p)) G) := by
  unfold Row.amax
  refine le_antisymm (Finset.sup_le fun l _ => amaxV_le (fun j => ?_) (fun j => ?_)) (Finset.sup_le fun n hn => ?_)
  · rw [half0 hT]
    exact Finset.le_sup (f := fun n => Row.mag (Row.uK (X (r + p)) G n)) (Finset.mem_range.2 (by omega))
  · rw [half1 hT]
    exact Finset.le_sup (f := fun n => Row.mag (Row.uK (X (r + p)) G n)) (Finset.mem_range.2 (by omega))
  · have hn' := Finset.mem_range.1 hn
    by_cases h : n % 256 < 128
    · refine le_trans ?_ (Finset.le_sup (Finset.mem_univ (⟨n % 256, h⟩ : Fin 128)))
      refine le_trans (le_of_eq ?_) (le_amaxV (⟨n / 256, by omega⟩ : Fin 8)).1
      rw [half0 hT]
      show _ = Row.mag (Row.uK _ G (256 * (n / 256) + (0 + n % 256)))
      rw [show 256 * (n / 256) + (0 + n % 256) = n by omega]
    · refine le_trans ?_ (Finset.le_sup (Finset.mem_univ (⟨n % 256 - 128, by omega⟩ : Fin 128)))
      refine le_trans (le_of_eq ?_) (le_amaxV (⟨n / 256, by omega⟩ : Fin 8)).2
      rw [half1 hT]
      show _ = Row.mag (Row.uK _ G (256 * (n / 256) + (128 + (n % 256 - 128))))
      rw [show 256 * (n / 256) + (128 + (n % 256 - 128)) = n by omega]

include hX

theorem scaleS_at (p : Fin 16) : (scaleS r hr s (ix2 p 0) : EReal) = Row.scale (X (r + p)) G := by
  unfold scaleS
  rw [scaleV_at, amax_at hT, rcS_at hX, Row.scale_eq]

theorem invS_at (p : Fin 16) : (invS r hr s (ix2 p 0) : EReal) = Ideal.div (Row.rc (X (r + p))) (Row.scale (X (r + p)) G) := by
  show Ideal.div (rcV (sqsumS r hr s) (ix2 p 0)) (scaleS r hr s (ix2 p 0)) = _
  rw [scaleS_at hX hT, rcS_at hX]

theorem rows16S_rs (a l : ℕ) (h1 : r ≤ a) (h2 : a < r + 16) (hl : l < 128) : At (rows16S r hr s).rs a l (Row.scale (X a) G : EReal) := by
  refine At.put_in ⟨h1, h2⟩ ⟨by omega, by omega⟩ fun h3 h4 => ?_
  rw [scaleB_at, scaleS_at hX hT]
  show Row.scale (X (r + (a - r))) G = _
  rw [show r + (a - r) = a by omega]

end

theorem rows16S_u {r : ℕ} {hr : r + 16 ≤ 384} (s : St Ideal) : (rows16S r hr s).u = (bfly1S r hr s).u := rfl

theorem rows16S_full {r : ℕ} {hr : r + 16 ≤ 384} {s : St Ideal} (hT : ∀ a, r ≤ a → a < r + 16 → TileAt X G s a) (a : ℕ) (h1 : r ≤ a) (h2 : a < r + 16) :
    FullAt X G (rows16S r hr s) a := by
  unfold FullAt
  rw [rows16S_u]
  exact bfly1S_full hT a h1 h2

/-- What sixteen rows' step leaves: all but the transform's rows and the steps' rows, and of these the others. -/
theorem putAllS_keep {τ : Type} (g : St Ideal → τ) (hg : ∀ r l j v s, g (putUS r l j v s) = g s) (r l : ℕ) (v : Fin 8 → FVec Ideal S16x128 .f32) (s : St Ideal) : g (putAllS r l v s) = g s :=
  foldK_keep (f := fun j hj s => putUS r l j (v ⟨j, hj⟩) s) g (fun _ _ _ => hg _ _ _ _ _) 8 le_rfl s

theorem bfly1S_keep {τ : Type} (g : St Ideal → τ) (hg : ∀ r l j v s, g (putUS r l j v s) = g s) (r : ℕ) (hr : r + 16 ≤ 384) (s : St Ideal) : g (bfly1S r hr s) = g s :=
  (putAllS_keep g hg _ _ _ _).trans (putAllS_keep g hg _ _ _ _)

theorem rows16S_u_out {r : ℕ} {hr : r + 16 ≤ 384} {s : St Ideal} {a n : ℕ} {x : EReal} (ha : ¬(r ≤ a ∧ a < r + 16)) (h : At s.u a n x) : At (rows16S r hr s).u a n x := by
  rw [rows16S_u]
  unfold bfly1S
  refine putAllS_out (by omega) (by omega) ?_
  unfold bfly0S
  exact putAllS_out (by omega) (by omega) h

theorem rows16S_rs_out {r : ℕ} {hr : r + 16 ≤ 384} {s : St Ideal} {a n : ℕ} {x : EReal} (ha : ¬(r ≤ a ∧ a < r + 16)) (h : At s.rs a n x) : At (rows16S r hr s).rs a n x :=
  At.put_out (by omega) (by rw [bfly1S_keep (fun s => s.rs) (fun _ _ _ _ _ => rfl)]; exact h)

end Cert.KernelIdeal.Body

end
-- ==== Proof.Quant.lean ====
/- The codes of thirty-two rows, and of 192: rows whose tiles are there become rows whose codes and steps are. -/
module

public import proofs.«01_k».proof.Proof.Rows

@[expose] public section

noncomputable section

namespace Cert.KernelIdeal.Body

open Idealize.ShloMosaic Idealize.ShloMosaic.TcCoe Idealize.SL Idealize.SL.Sem
open Shapes1.Facts₀ Shapes2.Facts₀ K0.Facts₀ Facts

variable {X : ℕ → ℕ → EReal} {G : ℕ → EReal}

/-- What quantising rows leaves as it was. -/
def side (s : St Ideal) := (core s, s.scales, s.y)

/-- Row `a` has its codes, as words and as numbers. -/
def CodesAt (X : ℕ → ℕ → EReal) (G : ℕ → EReal) (s : St Ideal) (a : ℕ) : Prop :=
  ∀ n < 2048, At s.codes a n (Row.codes (X a) G n) ∧ At s.cb a n ((((Row.codes (X a) G n).toInt : ℝ) : EReal))

/-- Row `a` has its step. -/
def StepAt (X : ℕ → ℕ → EReal) (G : ℕ → EReal) (s : St Ideal) (a : ℕ) : Prop := ∀ l < 128, At s.rs a l (Row.scale (X a) G : EReal)

/-- Rows below `b` are quantised, the others have their tiles. -/
def Stage (X : ℕ → ℕ → EReal) (G : ℕ → EReal) (b : ℕ) (s : St Ideal) : Prop :=
  XAt X s ∧ (∀ a < b, CodesAt X G s a ∧ StepAt X G s a) ∧ ∀ a, b ≤ a → a < 384 → TileAt X G s a

theorem inv32_lo (a b : FVec Ideal S16x1 .f32) (p : Fin 32) (h : p.val < 16) : inv32 a b (ix2 p 0) = a (ix2 ⟨p, h⟩ 0) := by
  pointwise [inv32]
  rw [dif_pos h]

theorem inv32_hi (a b : FVec Ideal S16x1 .f32) (p : Fin 32) (h : 16 ≤ p.val) : inv32 a b (ix2 p 0) = b (ix2 ⟨p - 16, by omega⟩ 0) := by
  pointwise [inv32]
  rw [dif_neg (by omega)]

theorem codesChunkS_in {r c : ℕ} {hr : r + 32 ≤ 384} {hc : c < 16} {inv : FVec Ideal S32x1 .f32} {s : St Ideal} {a n : ℕ} (h1 : r ≤ a) (h2 : a < r + 32)
    (hn : 128 * c ≤ n ∧ n < 128 * c + 128) (hi : (inv (ix2 ⟨a - r, by omega⟩ 0) : EReal) = Ideal.div (Row.rc (X a)) (Row.scale (X a) G))
    (hu : At s.u a n (Row.uK (X a) G n : EReal)) : At (codesChunkS r c hr hc inv s).codes a n (Row.codes (X a) G n)
      ∧ At (codesChunkS r c hr hc inv s).cb a n ((((Row.codes (X a) G n).toInt : ℝ) : EReal)) := by
  have hw : ∀ (h3 : a - r < 32) (h4 : n - 128 * c < 128), codesV inv (VecWindow.window s.u ![r, 128 * c] S32x128.size (inb2 hr (by omega))) (ix2 ⟨a - r, h3⟩ ⟨n - 128 * c, h4⟩)
      = Row.codes (X a) G n := fun h3 h4 => by
    rw [codesV_at, hi]
    have e := At.window (n := 32) (m := 128) (inb := inb2 hr (by omega)) (a := a - r) (b := n - 128 * c) (hu.congr (a' := r + (a - r)) (b' := 128 * c + (n - 128 * c)) (by omega) (by omega) rfl) h3 h4
    rw [← Row.codes_eq _ _ _ (by omega)]
    exact congrArg (fun z => Row.code (z * Ideal.div (Row.rc (X a)) (Row.scale (X a) G))) e
  refine ⟨At.put_in ⟨h1, h2⟩ hn hw, At.put_in ⟨h1, h2⟩ hn fun h3 h4 => ?_⟩
  rw [cbV_at, hw]

theorem codesAllS_keep {τ : Type} (g : St Ideal → τ) (hg : ∀ r c hr hc inv s, g (codesChunkS r c hr hc inv s) = g s) (r : ℕ) (hr : r + 32 ≤ 384) (inv : FVec Ideal S32x1 .f32) (s : St Ideal) :
    g (codesAllS r hr inv s) = g s :=
  foldK_keep (f := fun c hc s => codesChunkS r c hr hc inv s) g (fun _ _ _ => hg _ _ _ _ _ _) 16 le_rfl s

theorem codesAllS_in {r : ℕ} {hr : r + 32 ≤ 384} {inv : FVec Ideal S32x1 .f32} {s : St Ideal} {a : ℕ} (h1 : r ≤ a) (h2 : a < r + 32)
    (hi : (inv (ix2 ⟨a - r, by omega⟩ 0) : EReal) = Ideal.div (Row.rc (X a)) (Row.scale (X a) G)) (hu : FullAt X G s a) : CodesAt X G (codesAllS r hr inv s) a := by
  have := (foldK_ind (f := fun c hc s => codesChunkS r c hr hc inv s) (fun i (s : St Ideal) => FullAt X G s a ∧ ∀ n < 128 * i, At s.codes a n (Row.codes (X a) G n) ∧ At s.cb a n ((((Row.codes (X a) G n).toInt : ℝ) : EReal)))
    (fun i hi' s h => ⟨h.1, fun n hn => by
      by_cases hni : n < 128 * i
      · exact ⟨At.put_out (by omega) (h.2 n hni).1, At.put_out (by omega) (h.2 n hni).2⟩
      · exact codesChunkS_in h1 h2 (by omega) hi (h.1 n (by omega))⟩) 16 le_rfl s ⟨hu, fun n hn => by omega⟩).2
  exact this

theorem codesAllS_out {r : ℕ} {hr : r + 32 ≤ 384} {inv : FVec Ideal S32x1 .f32} {s : St Ideal} {a : ℕ} (ha : ¬(r ≤ a ∧ a < r + 32)) (h : CodesAt X G s a) :
    CodesAt X G (codesAllS r hr inv s) a := fun n hn =>
  foldK_ind (f := fun c hc s => codesChunkS r c hr hc inv s) (fun i (s : St Ideal) => At s.codes a n (Row.codes (X a) G n) ∧ At s.cb a n ((((Row.codes (X a) G n).toInt : ℝ) : EReal)))
    (fun i hi' s h => ⟨At.put_out (by omega) h.1, At.put_out (by omega) h.2⟩) 16 le_rfl s (h n hn)

theorem rows16S_keep {τ : Type} (g : St Ideal → τ) (hg : ∀ r l j v s, g (putUS r l j v s) = g s) (hg' : ∀ (s : St Ideal) x, g { s with rs := x } = g s) (r : ℕ) (hr : r + 16 ≤ 384) (s : St Ideal) :
    g (rows16S r hr s) = g s := (hg' _ _).trans (bfly1S_keep g hg r hr s)

theorem rows32S_side (r : ℕ) (hr : r + 32 ≤ 384) (s : St Ideal) : side (rows32S r hr s) = side s :=
  (codesAllS_keep side (fun _ _ _ _ _ _ => rfl) _ _ _ _).trans
    ((rows16S_keep side (fun _ _ _ _ _ => rfl) (fun _ _ => rfl) _ _ _).trans (rows16S_keep side (fun _ _ _ _ _ => rfl) (fun _ _ => rfl) _ _ _))

theorem rows16S_x (r : ℕ) (hr : r + 16 ≤ 384) (s : St Ideal) : (rows16S r hr s).x = s.x := rows16S_keep (fun s => s.x) (fun _ _ _ _ _ => rfl) (fun _ _ => rfl) r hr s

theorem CodesAt.of {s s' : St Ideal} (h1 : s'.codes = s.codes) (h2 : s'.cb = s.cb) {a : ℕ} (h : CodesAt X G s a) : CodesAt X G s' a := by
  unfold CodesAt; rw [h1, h2]; exact h

theorem StepAt.of {s s' : St Ideal} (h1 : s'.rs = s.rs) {a : ℕ} (h : StepAt X G s a) : StepAt X G s' a := by
  unfold StepAt; rw [h1]; exact h

theorem TileAt.of {s s' : St Ideal} (h1 : s'.u = s.u) {a : ℕ} (h : TileAt X G s a) : TileAt X G s' a := by
  unfold TileAt; rw [h1]; exact h

theorem FullAt.of {s s' : St Ideal} (h1 : s'.u = s.u) {a : ℕ} (h : FullAt X G s a) : FullAt X G s' a := by
  unfold FullAt; rw [h1]; exact h

theorem XAt.of {s s' : St Ideal} (h1 : s'.x = s.x) (h : XAt X s) : XAt X s' := by
  unfold XAt; rw [h1]; exact h

theorem rows32S_stage {r : ℕ} {hr : r + 32 ≤ 384} {s : St Ideal} (h : Stage X G r s) : Stage X G (r + 32) (rows32S r hr s) := by
  obtain ⟨hX, hD, hT⟩ := h
  have hX1 : XAt X (rows16S r (by omega) s) := hX.of (rows16S_x _ _ _)
  have hX2 : XAt X (rows16S (r + 16) (by omega) (rows16S r (by omega) s)) := hX1.of (rows16S_x _ _ _)
  have hTa : ∀ a, r ≤ a → a < r + 16 → TileAt X G s a := fun a h1 h2 => hT a h1 (by omega)
  have hT1 : ∀ a, r + 16 ≤ a → a < 384 → TileAt X G (rows16S r (by omega) s) a := fun a h1 h2 n hn => rows16S_u_out (by omega) (hT a (by omega) h2 n hn)
  have hTb : ∀ a, r + 16 ≤ a → a < r + 16 + 16 → TileAt X G (rows16S r (by omega) s) a := fun a h1 h2 => hT1 a h1 (by omega)
  have hF1 : ∀ a, r ≤ a → a < r + 16 → FullAt X G (rows16S r (by omega) s) a := fun a h1 h2 => rows16S_full hTa a h1 h2
  have hF2 : ∀ a, r ≤ a → a < r + 32 → FullAt X G (rows16S (r + 16) (by omega) (rows16S r (by omega) s)) a := fun a h1 h2 => by
    by_cases h3 : a < r + 16
    · exact fun n hn => rows16S_u_out (by omega) (hF1 a h1 h3 n hn)
    · exact rows16S_full hTb a (by omega) (by omega)
  have hI : ∀ a (h1 : r ≤ a) (h2 : a < r + 32), (inv32 (invS r (by omega) s) (invS (r + 16) (by omega) (rows16S r (by omega) s)) (ix2 ⟨a - r, by omega⟩ 0) : EReal)
      = Ideal.div (Row.rc (X a)) (Row.scale (X a) G) := fun a h1 h2 => by
    by_cases h3 : a - r < 16
    · rw [inv32_lo _ _ _ h3, invS_at hX hTa]
      show Ideal.div (Row.rc (X (r + (a - r)))) (Row.scale (X (r + (a - r))) G) = _
      rw [show r + (a - r) = a by omega]
    · rw [inv32_hi _ _ _ (by show 16 ≤ a - r; omega), invS_at hX1 hTb]
      show Ideal.div (Row.rc (X (r + 16 + (a - r - 16)))) (Row.scale (X (r + 16 + (a - r - 16))) G) = _
      rw [show r + 16 + (a - r - 16) = a by omega]
  have ku : (rows32S r hr s).u = (rows16S (r + 16) (by omega) (rows16S r (by omega) s)).u := codesAllS_keep (fun s => s.u) (fun _ _ _ _ _ _ => rfl) _ _ _ _
  have ks : (rows32S r hr s).rs = (rows16S (r + 16) (by omega) (rows16S r (by omega) s)).rs := codesAllS_keep (fun s => s.rs) (fun _ _ _ _ _ _ => rfl) _ _ _ _
  have kx : (rows32S r hr s).x = (rows16S (r + 16) (by omega) (rows16S r (by omega) s)).x := codesAllS_keep (fun s => s.x) (fun _ _ _ _ _ _ => rfl) _ _ _ _
  refine ⟨hX2.of kx, fun a ha => ⟨?_, StepAt.of ks ?_⟩, fun a h1 h2 => TileAt.of ku ?_⟩
  · unfold rows32S
    by_cases h1 : r ≤ a
    · exact codesAllS_in h1 ha (hI a h1 ha) (hF2 a h1 ha)
    · refine codesAllS_out (by omega) ?_
      have kc : ∀ q hq (s : St Ideal), (rows16S q hq s).codes = s.codes := fun q hq s => rows16S_keep (fun s => s.codes) (fun _ _ _ _ _ => rfl) (fun _ _ => rfl) q hq s
      have kb : ∀ q hq (s : St Ideal), (rows16S q hq s).cb = s.cb := fun q hq s => rows16S_keep (fun s => s.cb) (fun _ _ _ _ _ => rfl) (fun _ _ => rfl) q hq s
      exact CodesAt.of (kc _ _ _) (kb _ _ _) (CodesAt.of (kc _ _ _) (kb _ _ _) (hD a (by omega)).1)
  · intro l hl
    by_cases h1 : r + 16 ≤ a
    · exact rows16S_rs hX1 hTb a l h1 (by omega) hl
    · refine rows16S_rs_out (by omega) ?_
      by_cases h3 : r ≤ a
      · exact rows16S_rs hX hTa a l h3 (by omega) hl
      · exact rows16S_rs_out (by omega) ((hD a (by omega)).2 l hl)
  · exact fun n hn => rows16S_u_out (by omega) (hT1 a (by omega) h2 n hn)

theorem quantS_stage {r : ℕ} {hr : r + 192 ≤ 384} {s : St Ideal} (h : Stage X G r s) : Stage X G (r + 192) (quantS r hr s) :=
  rows32S_stage (r := r + 160) <| rows32S_stage (r := r + 128) <| rows32S_stage (r := r + 96) <| rows32S_stage (r := r + 64) <| rows32S_stage (r := r + 32) <| rows32S_stage h

theorem quantS_side (r : ℕ) (hr : r + 192 ≤ 384) (s : St Ideal) : side (quantS r hr s) = side s := by
  unfold quantS
  rw [rows32S_side, rows32S_side, rows32S_side, rows32S_side, rows32S_side, rows32S_side]

end Cert.KernelIdeal.Body

end
-- ==== Proof.ReadBits.lean ====
/- The blocks' values that come from words' bits. -/
module

public import proofs.«01_k».proof.Proof.Read
public import Idealize.ShloMosaic.Lib.BitcastFour

@[expose] public section

noncomputable section

namespace Cert.KernelIdeal.Body

open Idealize.ShloMosaic Idealize.ShloMosaic.TcCoe Idealize.SL Idealize.SL.Sem
open Shapes1.Facts₀ Shapes2.Facts₀ K0.Facts₀ Facts

open Finset

theorem ofNat_eq {n m : ℕ} (hn : n < 4096) (hm : m < 4096) : (BitVec.ofNat 32 n = BitVec.ofNat 32 m) ↔ n = m := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem select_eq {n m : ℕ} (hn : n < 4096) (hm : m < 4096) (a b : EReal) :
    Scalar.select (IntOp.cmpi .eq (BitVec.ofNat 32 n) (BitVec.ofNat 32 m)) a b = if n = m then a else b := by
  unfold Scalar.select IntOp.cmpi
  by_cases h : n = m
  · subst h; simp
  · have h' : ¬ (BitVec.ofNat 32 n = BitVec.ofNat 32 m) := fun e => h ((ofNat_eq hn hm).mp e)
    rw [if_neg h, show (BitVec.ofNat 32 n == BitVec.ofNat 32 m) = false from beq_false_of_ne h']
    exact if_neg (by simp)

theorem rowV_at (t : ℕ) (ht : t < 5) (v : Vec Ideal S128x128 .f32) (o : Vec Ideal S5x128 .f32) (r : Fin 5) (l : Fin 128) :
    (rowV (BitVec.ofNat 32 t) v o (ix2 r l) : EReal) = if r.val = t then v (ix2 l l) else o (ix2 r l) := by
  pointwise [rowV, diagV, diagM]
  rw [select_eq (by omega) (by omega)]
  congr 1
  rw [Finset.sum_eq_single l]
  · rw [select_eq (by omega) (by omega), if_pos rfl]
  · intro b _ hb
    rw [select_eq (by omega) (by omega), if_neg (fun e => hb (Fin.ext e))]
  · intro h; exact absurd (Finset.mem_univ l) h

theorem byte_field (w x : BitVec 8) (f : ℕ) (hf : f < 4) (h : ∀ q < 8, x.getLsbD q = (decide (q < 2) && w.getLsbD (2 * f + q))) :
    (x.toInt : ℤ) = ((w.toNat / 4 ^ f % 4 : ℕ) : ℤ) := by
  have hx : x = (w >>> (2 * f)) &&& 3#8 := by
    apply BitVec.eq_of_getLsbD_eq
    intro q hq
    rw [h q hq, BitVec.getLsbD_and, BitVec.getLsbD_ushiftRight]
    have : (3#8 : BitVec 8).getLsbD q = decide (q < 2) := by
      revert q; decide
    rw [this, Bool.and_comm]
  subst hx
  revert w
  match f, hf with
  | 0, _ => decide +kernel
  | 1, _ => decide +kernel
  | 2, _ => decide +kernel
  | 3, _ => decide +kernel

theorem mask_bit : ∀ q < 32, (50529027#32 : BitVec 32).getLsbD q = decide (q % 8 < 2) := by decide

/-- A word's byte: bit `q` of result row `k` is bit `8 (k % 4) + q` of source row `k / 4`. -/
theorem bitcast_32_8_bit {R r n : Nat} (x : (⟨2, ![R, n]⟩ : Shape).Idx → BitVec 32)
    (h : (⟨2, ![R, n]⟩ : Shape).Bitcasts 32 ⟨2, ![r, n]⟩ 8) (a : Fin r) (l : Fin n) (q : Nat) (hq : q < 8) (p : Fin R) (hp : p.val = a.val / 4) :
    (bitcast ⟨2, ![r, n]⟩ 8 x h (ix2 a l)).getLsbD q = (x (ix2 p l)).getLsbD (8 * (a.val % 4) + q) := by
  rw [bitcast_getLsbD x h _ q hq (by decide)]
  have e0 : (⟨2, ![r, n]⟩ : Shape).row (ix2 a l) = a.val := rfl
  have eq : ((⟨2, ![r, n]⟩ : Shape).row (ix2 a l) * 8 + q) % 32 = 8 * (a.val % 4) + q := by rw [e0]; omega
  rw [eq]
  congr 2
  funext c
  match c with
  | ⟨0, _⟩ => exact Fin.ext ((h.srcIdx_row _ _ _ ⟨0, Nat.zero_lt_two⟩ rfl).trans (by show (_ * 8 + q) / 32 = p.val; rw [hp, e0]; omega))
  | ⟨1, _⟩ => exact Fin.ext (h.srcIdx_other _ _ _ ⟨1, Nat.one_lt_two⟩ (by show ¬ 1 + 2 = 2; omega))

theorem bitcast_8_32_bit {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R) (hp : p.val = 4 * a.val + q / 8) :
    (bitcast ⟨2, ![r, n]⟩ 32 x h (ix2 a l)).getLsbD q = (x (ix2 p l)).getLsbD (q % 8) :=
  bitcast_8_32_getLsbD_ix2 x h a l q hq p hp

theorem shrui_bit (x : BitVec 32) (n q : ℕ) (hn : n < 32) : (IntOp.shrui .vector x (BitVec.ofNat 32 n)).getLsbD q = x.getLsbD (n + q) := by
  unfold IntOp.shrui
  have e : (BitVec.ofNat 32 n).toNat = n := by rw [BitVec.toNat_ofNat]; exact Nat.mod_eq_of_lt (by omega)
  rw [e, if_pos hn, BitVec.ushiftRight_eq', e, BitVec.getLsbD_ushiftRight]

theorem decV_bits (f : ℕ) (hf : f < 4) (w : Vec Ideal S512x256 .i8) (k : Fin 512) (l : Fin 256) (q : ℕ) (hq : q < 8) :
    (bitcast S512x256 8 (andi (shrui (bitcast S128x256 32 w bitcasts_S512x256_w8_S128x256_w32) (broadcast S128x256 (BitVec.ofNat 32 (2 * f))))
      (broadcast S128x256 50529027#32)) bitcasts_S128x256_w32_S512x256_w8 (ix2 k l)).getLsbD q = (decide (q < 2) && (w (ix2 k l)).getLsbD (2 * f + q)) := by
  have hk := k.isLt
  rw [bitcast_32_8_bit (p := ⟨k.val / 4, by omega⟩) (hq := hq) (hp := rfl)]
  show (IntOp.shrui .vector (bitcast S128x256 32 w bitcasts_S512x256_w8_S128x256_w32 (ix2 ⟨k.val / 4, _⟩ l)) (BitVec.ofNat 32 (2 * f)) &&& 50529027#32).getLsbD _ = _
  rw [BitVec.getLsbD_and, shrui_bit _ _ _ (by omega), mask_bit _ (by omega), show (8 * (k.val % 4) + q) % 8 = q by omega, Bool.and_comm]
  by_cases h2 : q < 2
  · rw [bitcast_8_32_bit (p := k) (hq := by omega) (hp := by show k.val = 4 * (k.val / 4) + _; omega), show (2 * f + (8 * (k.val % 4) + q)) % 8 = 2 * f + q by omega]
  · simp [h2]

theorem decV_at (f : ℕ) (hf : f < 4) (w : Vec Ideal S512x256 .i8) (k : Fin 512) (l : Fin 256) :
    (decV (F := Ideal) f w (ix2 k l) : EReal) = (((((w (ix2 k l)).toNat / 4 ^ f % 4 : ℕ) : ℤ) : ℝ) : EReal) - Proj.one16 := by
  rw [← byte_field _ _ f hf (fun q hq => decV_bits f hf w k l q hq)]
  pointwise [decV, Proj.one16]
  rfl

theorem sgn8 (i l : ℕ) : Wht.sgn 8 i l = ∏ b ∈ range 8, (if (i &&& l).testBit b then (-1 : ℤ) else 1) := by
  unfold Wht.sgn
  refine Finset.prod_congr rfl fun b _ => ?_
  have h : (i &&& l).testBit b = true ↔ (i / 2 ^ b % 2 = 1 ∧ l / 2 ^ b % 2 = 1) := by
    rw [Nat.testBit_and, Bool.and_eq_true, Nat.testBit_eq_decide_div_mod_eq, Nat.testBit_eq_decide_div_mod_eq, decide_eq_true_eq, decide_eq_true_eq]
  simp only [h]

def par (a : BitVec 32) : BitVec 32 :=
  let b := a ^^^ (a.sshiftRight 4)
  let c := b ^^^ (b.sshiftRight 2)
  let e := c ^^^ (c.sshiftRight 1)
  1#32 - 2#32 * (e &&& 1#32)

theorem par_eq : ∀ a : Fin 256, (par (BitVec.ofNat 32 a.val)).toInt = ∏ b ∈ range 8, (if a.val.testBit b then (-1 : ℤ) else 1) := by decide +kernel

theorem signM_at (i l : Fin 256) : (signM (F := Ideal) (ix2 i l) : EReal) = (((Wht.sgn 8 i l : ℤ) : ℝ) : EReal) := by
  have hil : i.val &&& l.val < 256 := Nat.and_lt_two_pow (n := 8) _ l.isLt
  rw [sgn8, ← par_eq ⟨_, hil⟩]
  have ha : BitVec.ofNat 32 i.val &&& BitVec.ofNat 32 l.val = BitVec.ofNat 32 (i.val &&& l.val) := by
    rw [← BitVec.ofNat_and]
  rw [show BitVec.ofNat 32 (⟨i.val &&& l.val, hil⟩ : Fin 256).val = BitVec.ofNat 32 i.val &&& BitVec.ofNat 32 l.val from ha.symm]
  pointwise [signM]
  rfl

theorem hadV_at (j : ℕ) (hj : j < 8) (g : FVec Ideal S8x256 .f32) (i l : Fin 256) :
    (hadV j hj g (ix4 0 0 i l) : EReal) = (((Wht.sgn 8 i l : ℤ) : ℝ) : EReal) * g (ix2 ⟨j, hj⟩ i) := by
  rw [← signM_at]
  pointwise [hadV]

theorem three_bits : ∀ (w : BitVec 8) (f : Fin 4), w.toNat / 4 ^ f.val % 4 = 3 → w.getLsbD (2 * f.val) = true ∧ w.getLsbD (2 * f.val + 1) = true := by decide +kernel

theorem fold_one {ι : Type} [Fintype ι] (f : ι → EReal) (hf : ∀ x, f x = 0 ∨ f x = 1) (x0 : ι) (h1 : f x0 = 1) : Finset.univ.sup f = 1 :=
  le_antisymm (Finset.sup_le fun x _ => by rcases hf x with h | h <;> rw [h]; exact zero_le_one) (h1 ▸ Finset.le_sup (Finset.mem_univ x0))

theorem fptosi_one : Ideal.fptosi 32 (1 : EReal) = 1#32 := by
  show BitVec.ofInt 32 (max (-(2 ^ 31 : ℕ)) (min ((2 ^ 31 : ℕ) - 1) (if 0 ≤ (1 : ℝ) then ⌊(1 : ℝ)⌋ else ⌈(1 : ℝ)⌉))) = 1#32
  rw [if_pos zero_le_one, Int.floor_one]
  decide

/-- What is put of a word in the maximum. -/
def hit (a : BitVec 32) : EReal :=
  FloatOps.sitofp (F := Ideal) .f32 (BitVec.setWidth 32 (IntOp.cmpi .ne (IntOp.andi (IntOp.andi a (IntOp.shrui .vector a 1#32)) 1431655765#32) 0#32))

theorem hit_cases (a : BitVec 32) : hit a = 0 ∨ hit a = 1 := by
  unfold hit
  rcases (show ∀ b : BitVec 1, b = 0#1 ∨ b = 1#1 by decide) (IntOp.cmpi .ne (IntOp.andi (IntOp.andi a (IntOp.shrui .vector a 1#32)) 1431655765#32) 0#32) with h | h
  · rw [h]; left; show (((0 : ℤ) : ℝ) : EReal) = 0; simp
  · rw [h]; right; show (((1 : ℤ) : ℝ) : EReal) = 1; simp

theorem mask5 : ∀ q < 32, (1431655765#32 : BitVec 32).getLsbD q = decide (q % 2 = 0) := by decide

theorem hit_one (a : BitVec 32) (q : ℕ) (hq : q < 31) (h2 : q % 2 = 0) (h0 : a.getLsbD q = true) (h1 : a.getLsbD (q + 1) = true) : hit a = 1 := by
  have hb : (IntOp.andi (IntOp.andi a (IntOp.shrui .vector a 1#32)) 1431655765#32).getLsbD q = true := by
    show ((a &&& IntOp.shrui .vector a (BitVec.ofNat 32 1)) &&& 1431655765#32).getLsbD q = true
    rw [BitVec.getLsbD_and, BitVec.getLsbD_and, shrui_bit _ _ _ (by omega), mask5 _ (by omega), h0, Nat.add_comm, h1]
    simp [h2]
  have hn : IntOp.andi (IntOp.andi a (IntOp.shrui .vector a 1#32)) 1431655765#32 ≠ 0#32 := by
    intro e; rw [e] at hb; simp at hb
  unfold hit
  rw [show IntOp.cmpi .ne (IntOp.andi (IntOp.andi a (IntOp.shrui .vector a 1#32)) 1431655765#32) 0#32 = 1#1 by
    unfold IntOp.cmpi
    show BitVec.ofBool (_ != _) = 1#1
    rw [bne_iff_ne.mpr hn]; rfl]
  show (((1 : ℤ) : ℝ) : EReal) = 1
  simp

theorem flagV_at (w : Vec Ideal S512x1536 .i8) (h : flagV (F := Ideal) w = 0#32) (k : Fin 512) (l : Fin 1536) (f : ℕ) (hf : f < 4) :
    (w (ix2 k l)).toNat / 4 ^ f % 4 ≠ 3 := by
  intro h3
  obtain ⟨b0, b1⟩ := three_bits _ ⟨f, hf⟩ h3
  have hk := k.isLt
  have hw : hit (bitcast S128x1536 32 w bitcasts_S512x1536_w8_S128x1536_w32 (ix2 ⟨k.val / 4, by omega⟩ l)) = 1 := by
    refine hit_one _ (8 * (k.val % 4) + 2 * f) (by omega) (by omega) ?_ ?_
    · rw [bitcast_8_32_bit (p := k) (hq := by omega) (hp := by show k.val = 4 * (k.val / 4) + _; omega), show (8 * (k.val % 4) + 2 * f) % 8 = 2 * f by omega]
      exact b0
    · rw [bitcast_8_32_bit (p := k) (hq := by omega) (hp := by show k.val = 4 * (k.val / 4) + _; omega), show (8 * (k.val % 4) + 2 * f + 1) % 8 = 2 * f + 1 by omega]
      exact b1
  revert h
  pointwise [flagV]
  intro h
  rw [show Ideal.ofBits .f32 4286578688#32 = ⊥ by simp [Ideal.ofBits, Ideal.ieee]] at h
  have := fold_one (fun x : Fin 128 × Fin 1536 => hit (bitcast S128x1536 32 w bitcasts_S512x1536_w8_S128x1536_w32 (ix2 x.1 x.2))) (fun x => hit_cases _) (⟨k.val / 4, by omega⟩, l) hw
  have h' : Ideal.fptosi 32 (Finset.univ.sup (fun x : Fin 128 × Fin 1536 => hit (bitcast S128x1536 32 w bitcasts_S512x1536_w8_S128x1536_w32 (ix2 x.1 x.2)))) = 0#32 := h
  rw [this, fptosi_one] at h'
  exact absurd h' (by decide)

end Cert.KernelIdeal.Body

end
-- ==== Proof.Project.lean ====
/- The projection: what the result's rows hold, by the packed tables when no field is three and by the four fields' products
   in any case, and the table of steps. -/
module

public import proofs.«01_k».proof.Proof.Quant
public import proofs.«01_k».proof.Proof.ReadBits

@[expose] public section

noncomputable section

namespace Cert.KernelIdeal.Body

open Idealize.ShloMosaic Idealize.ShloMosaic.TcCoe Idealize.SL Idealize.SL.Sem
open Shapes1.Facts₀ Shapes2.Facts₀ K0.Facts₀ Facts

variable (X : ℕ → ℕ → EReal) (G : ℕ → EReal) (W : ℕ → ℕ → BitVec 8) (ws : EReal)

/-- Column `o` of the packed weights. -/
def col (o k : ℕ) : ℕ := (W k o).toNat

/-- Row `a`'s codes, as integers. -/
def ints (a n : ℕ) : ℤ := (Row.codes (X a) G n).toInt

/-- Entry `(a, o)` of the result. -/
def outV (a o : ℕ) : EReal := Proj.out (ints X G a) (col W o) (Row.scale (X a) G) ws

/-- No packed field is three. -/
def Clean : Prop := ∀ k < 512, ∀ o < 1536, ∀ f < 4, (W k o).toNat / 4 ^ f % 4 ≠ 3

/-- The packed weights are `W`. -/
def WAt (s : St Ideal) : Prop := ∀ k < 512, ∀ o < 1536, At s.w k o (W k o)

/-- The packed tables are those of `W`. -/
def WpAt (s : St Ideal) : Prop := ∀ n < 2048, ∀ c < 512,
  At s.wp n c (Proj.tern (col W (512 + c)) n + Proj.tern (col W c) n * Proj.r128 : EReal) ∧ At s.wp n (512 + c) (Proj.tern (col W (1024 + c)) n + Proj.tern (col W c) n * Proj.b255 : EReal)

variable {X G W ws}

theorem WpAt.of {s s' : St Ideal} (h1 : s'.wp = s.wp) (h : WpAt W s) : WpAt W s' := by
  unfold WpAt; rw [h1]; exact h

theorem WAt.of {s s' : St Ideal} (h1 : s'.w = s.w) (h : WAt W s) : WAt W s' := by
  unfold WAt; rw [h1]; exact h

theorem Clean.acc (h : Clean W) (a o : ℕ) (ho : o < 1536) : |Proj.acc (ints X G a) (col W o)| ≤ 14336 :=
  Proj.acc_bound (fun n _ => Row.code_toInt _) fun n hn => h _ (Nat.mod_lt _ (by omega)) o ho _ (by omega)

/-! ## By the packed tables -/

section
variable {r c a : ℕ} {hr : r + 192 ≤ 384} {hc : c < 2} {cb : Vec Ideal S192x2048 .bf16} {b : FVec Ideal S192x1 .f32} {s : St Ideal}
  (hW : WpAt W s) (p : Fin 192) (hcb : ∀ k : Fin 2048, (cb (ix2 p k) : EReal) = (((ints X G a k : ℝ)) : EReal))
include hW hcb

theorem tab1S_at (l : Fin 256) : (tab1S r c hc cb s (ix2 p l) : EReal)
    = (((Proj.acc (ints X G a) (col W (512 + (256 * c + l))) : ℝ) + (Proj.acc (ints X G a) (col W (256 * c + l)) : ℝ) * (1 / 128) : ℝ) : EReal) := by
  rw [← Proj.sum_pack (ints X G a) (col W (256 * c + l)) (col W (512 + (256 * c + l))) Proj.r128_val]
  unfold tab1S
  rw [tabV_at, ← Fin.sum_univ_eq_sum_range (fun n => (((ints X G a n : ℝ)) : EReal) * (Proj.tern (col W (512 + (256 * c + l))) n + Proj.tern (col W (256 * c + l)) n * Proj.r128))]
  refine Finset.sum_congr rfl fun k _ => congrArg₂ (· * ·) (hcb k) ?_
  exact At.window (a := k.val) (b := l.val) ((hW k k.isLt (256 * c + l) (by omega)).1.congr (by omega) rfl rfl) k.isLt l.isLt

theorem tab2S_at (l : Fin 256) : (tab2S r c hc cb s (ix2 p l) : EReal)
    = (((Proj.acc (ints X G a) (col W (1024 + (256 * c + l))) : ℝ) + (Proj.acc (ints X G a) (col W (256 * c + l)) : ℝ) * 255 : ℝ) : EReal) := by
  rw [← Proj.sum_pack (ints X G a) (col W (256 * c + l)) (col W (1024 + (256 * c + l))) Proj.b255_val]
  unfold tab2S
  rw [tabV_at, ← Fin.sum_univ_eq_sum_range (fun n => (((ints X G a n : ℝ)) : EReal) * (Proj.tern (col W (1024 + (256 * c + l))) n + Proj.tern (col W (256 * c + l)) n * Proj.b255))]
  refine Finset.sum_congr rfl fun k _ => congrArg₂ (· * ·) (hcb k) ?_
  exact At.window (a := k.val) (b := l.val) ((hW k k.isLt (256 * c + l) (by omega)).2.congr (by omega) (by omega) rfl) k.isLt l.isLt

end

theorem projTileS_in {r c a o : ℕ} {hc : c < 2} {cb : Vec Ideal S192x2048 .bf16} {b : FVec Ideal S192x1 .f32} {s : St Ideal} (hC : Clean W)
    (hW : WpAt W s) (h1 : r ≤ a) (h2 : a < r + 192) (ho : o < 1536) (hoc : 256 * c ≤ o % 512 ∧ o % 512 < 256 * c + 256)
    (hcb : ∀ k : Fin 2048, (cb (ix2 ⟨a - r, by omega⟩ k) : EReal) = (((ints X G a k : ℝ)) : EReal)) (hb : (b (ix2 ⟨a - r, by omega⟩ 0) : EReal) = Row.scale (X a) G * ws) :
    At (projTileS r c hc cb b s).y a o (outV X G W ws a o) := by
  have t1 := tab1S_at (r := r) (hc := hc) hW ⟨a - r, by omega⟩ hcb ⟨o % 512 - 256 * c, by omega⟩
  have t2 := tab2S_at (r := r) (hc := hc) hW ⟨a - r, by omega⟩ hcb ⟨o % 512 - 256 * c, by omega⟩
  have e : 256 * c + (o % 512 - 256 * c) = o % 512 := by omega
  simp only [e] at t1 t2
  have hA := hC.acc (X := X) (G := G) a (o % 512) (by omega)
  have hD := hC.acc (X := X) (G := G) a (1024 + o % 512) (by omega)
  unfold projTileS
  rcases (show o / 512 = 0 ∨ o / 512 = 1 ∨ o / 512 = 2 by omega) with h | h | h
  · refine At.put_out (by omega) (At.put_out (by omega) (At.put_in ⟨h1, h2⟩ (by omega) fun h3 h4 => ?_))
    rw [y0V_at, hb]
    simp only [show o - 256 * c = o % 512 - 256 * c by omega]
    exact (Proj.out0_eq hA hD t1 t2 _ _).trans (by unfold outV Proj.out; rw [show o % 512 = o by omega])
  · refine At.put_out (by omega) (At.put_in ⟨h1, h2⟩ (by omega) fun h3 h4 => ?_)
    rw [y1V_at, hb]
    simp only [show o - (512 + 256 * c) = o % 512 - 256 * c by omega]
    exact (Proj.out1_eq hA hD t1 t2 _ _).trans (by unfold outV Proj.out; rw [show 512 + o % 512 = o by omega])
  · refine At.put_in ⟨h1, h2⟩ (by omega) fun h3 h4 => ?_
    rw [y2V_at, hb]
    simp only [show o - (1024 + 256 * c) = o % 512 - 256 * c by omega]
    exact (Proj.out2_eq hA hD t1 t2 _ _).trans (by unfold outV Proj.out; rw [show 1024 + o % 512 = o by omega])

theorem projTileS_out {r c a o : ℕ} {hc : c < 2} {cb : Vec Ideal S192x2048 .bf16} {b : FVec Ideal S192x1 .f32} {s : St Ideal} {v : EReal}
    (h : ¬((r ≤ a ∧ a < r + 192) ∧ (256 * c ≤ o % 512 ∧ o % 512 < 256 * c + 256))) (ho : o < 1536) (hy : At s.y a o v) : At (projTileS r c hc cb b s).y a o v := by
  unfold projTileS
  exact At.put_out (by omega) (At.put_out (by omega) (At.put_out (by omega) hy))

theorem projS_in {r a o : ℕ} {hr : r + 192 ≤ 384} {s : St Ideal} (hC : Clean W) (hW : WpAt W s) (hws : (word s.ws : EReal) = ws)
    (h1 : r ≤ a) (h2 : a < r + 192) (ho : o < 1536) (hD : CodesAt X G s a ∧ StepAt X G s a) : At (projS r hr s).y a o (outV X G W ws a o) := by
  have hcb : ∀ k : Fin 2048, (VecWindow.window s.cb ![r, 0] S192x2048.size (inb2 hr (by decide)) (ix2 ⟨a - r, by omega⟩ k) : EReal) = (((ints X G a k : ℝ)) : EReal) := fun k =>
    At.window (a := a - r) (b := k.val) ((hD.1 k k.isLt).2.congr (by omega) (by omega) rfl) _ _
  have hb : (bcV (VecWindow.window s.rs ![r, 0] S192x1.size (inb2 hr (by decide))) (word s.ws) (ix2 ⟨a - r, by omega⟩ 0) : EReal) = Row.scale (X a) G * ws := by
    rw [bcV_at, hws]
    exact congrArg (· * ws) (At.window (a := a - r) (b := 0) ((hD.2 0 (by omega)).congr (by omega) rfl rfl) (by omega) (by omega))
  unfold projS
  by_cases h : o % 512 < 256
  · exact projTileS_out (by omega) ho (projTileS_in hC hW h1 h2 ho (by omega) hcb hb)
  · exact projTileS_in hC (hW.of rfl) h1 h2 ho (by omega) hcb hb

theorem projS_out {r a o : ℕ} {hr : r + 192 ≤ 384} {s : St Ideal} {v : EReal} (h : ¬(r ≤ a ∧ a < r + 192)) (ho : o < 1536) (hy : At s.y a o v) : At (projS r hr s).y a o v := by
  unfold projS
  exact projTileS_out (by omega) ho (projTileS_out (by omega) ho hy)

/-- What projecting leaves as it was. -/
def rest (s : St Ideal) := (core s, s.scales, s.u, s.codes, s.cb, s.rs)

theorem projTileS_rest (r c : ℕ) (hc : c < 2) (cb : Vec Ideal S192x2048 .bf16) (b : FVec Ideal S192x1 .f32) (s : St Ideal) : rest (projTileS r c hc cb b s) = rest s := rfl

theorem projS_rest (r : ℕ) (hr : r + 192 ≤ 384) (s : St Ideal) : rest (projS r hr s) = rest s := by
  unfold projS
  exact (projTileS_rest _ _ _ _ _ _).trans (projTileS_rest _ _ _ _ _ _)

theorem Stage.rest {b : ℕ} {s s' : St Ideal} (h : rest s' = rest s) (hs : Stage X G b s) : Stage X G b s' := by
  have hx : s'.x = s.x := congrArg (fun c => c.1.1) h
  have hu : s'.u = s.u := congrArg (fun c => c.2.2.1) h
  have hc : s'.codes = s.codes := congrArg (fun c => c.2.2.2.1) h
  have hb : s'.cb = s.cb := congrArg (fun c => c.2.2.2.2.1) h
  have hr : s'.rs = s.rs := congrArg (fun c => c.2.2.2.2.2) h
  exact ⟨hs.1.of hx, fun a ha => ⟨(hs.2.1 a ha).1.of hc hb, (hs.2.1 a ha).2.of hr⟩, fun a h1 h2 => (hs.2.2 a h1 h2).of hu⟩

/-! ## By the fields' products -/

theorem fbTermS_at {f c a : ℕ} {hf : f < 4} {hc : c < 6} {s : St Ideal} (hW : WAt W s) (ha : a < 384) (hD : CodesAt X G s a) (l : Fin 256) :
    (fbTermS f c hf hc s (ix2 ⟨a, ha⟩ l) : EReal) = ∑ k ∈ Finset.range 512, (((ints X G a (512 * f + k) : ℝ) : EReal) * Proj.tern (col W (256 * c + l)) (512 * f + k)) := by
  have e : (fbTermS f c hf hc s (ix2 ⟨a, ha⟩ l) : EReal) = ∑ k : Fin 512, (VecWindow.window s.cb ![0, 512 * f] S384x512.size (inb2 (by decide) (by omega)) (ix2 ⟨a, ha⟩ k)
      * decV f (VecWindow.window s.w ![0, 256 * c] S512x256.size (inb2 (by decide) (by omega))) (ix2 k l) : EReal) := by
    unfold fbTermS
    generalize VecWindow.window s.cb ![0, 512 * f] S384x512.size (inb2 (by decide) (by omega)) = x
    generalize (decV f (VecWindow.window s.w ![0, 256 * c] S512x256.size (inb2 (by decide) (by omega))) : FVec Ideal S512x256 .bf16) = y
    pointwise
  rw [e, ← Fin.sum_univ_eq_sum_range (fun k => ((ints X G a (512 * f + k) : ℝ) : EReal) * Proj.tern (col W (256 * c + l)) (512 * f + k))]
  refine Finset.sum_congr rfl fun k _ => congrArg₂ (· * ·) ?_ ?_
  · exact At.window (a := a) (b := k.val) ((hD (512 * f + k) (by omega)).2.congr (by omega) rfl rfl) ha k.isLt
  · rw [decV_at f hf]
    have hw := At.window (n := 512) (m := 256) (inb := inb2 (by decide) (by omega)) (a := k.val) (b := l.val) ((hW k k.isLt (256 * c + l) (by omega)).congr (a' := 0 + k.val) (by omega) rfl rfl) k.isLt l.isLt
    have e2 : (512 * f + k.val) % 512 = k.val := by omega
    have e3 : (512 * f + k.val) / 512 = f := by omega
    unfold Proj.tern Proj.fld col
    rw [e2, e3]
    exact congrArg (fun z : BitVec 8 => ((((z.toNat / 4 ^ f % 4 : ℕ) : ℤ) : ℝ) : EReal) - Proj.one16) hw

theorem fbTileS_in {c a o : ℕ} {hc : c < 6} {s : St Ideal} (hW : WAt W s) (hws : (word s.ws : EReal) = ws) (ha : a < 384) (ho : 256 * c ≤ o ∧ o < 256 * c + 256)
    (hD : CodesAt X G s a ∧ StepAt X G s a) : At (fbTileS c hc s).y a o (outV X G W ws a o) := by
  refine At.put_in ⟨by omega, by omega⟩ ho fun h3 h4 => ?_
  have hb : (VecWindow.window s.rs ![0, 0] S384x1.size (inb2 (by decide) (by decide)) (ix2 ⟨a, ha⟩ 0) : EReal) = Row.scale (X a) G :=
    At.window (a := a) (b := 0) ((hD.2 0 (by omega)).congr (by omega) rfl rfl) ha (by omega)
  have hf := fun f hf => fbTermS_at (f := f) (hf := hf) (hc := hc) hW ha hD.1 ⟨o - 256 * c, h4⟩
  simp only [show a - 0 = a from rfl]
  rw [fbV_at, hws, hb]
  have key : (addf (addf (addf (fbTermS 0 c (by decide) hc s) (fbTermS 1 c (by decide) hc s)) (fbTermS 2 c (by decide) hc s)) (fbTermS 3 c (by decide) hc s) (ix2 ⟨a, ha⟩ ⟨o - 256 * c, h4⟩) : EReal)
      = ((Proj.acc (ints X G a) (col W o) : ℝ) : EReal) := by
    show ((fbTermS 0 c (by decide) hc s (ix2 ⟨a, ha⟩ ⟨o - 256 * c, h4⟩) + fbTermS 1 c (by decide) hc s (ix2 ⟨a, ha⟩ ⟨o - 256 * c, h4⟩) : EReal)
      + fbTermS 2 c (by decide) hc s (ix2 ⟨a, ha⟩ ⟨o - 256 * c, h4⟩) : EReal) + fbTermS 3 c (by decide) hc s (ix2 ⟨a, ha⟩ ⟨o - 256 * c, h4⟩) = _
    rw [hf 0 (by decide), hf 1 (by decide), hf 2 (by decide), hf 3 (by decide), ← Proj.sum_tern, Proj.sum_fields]
    simp only [show 256 * c + (o - 256 * c) = o by omega]
  rw [key]
  unfold outV Proj.out
  rw [mul_assoc]

theorem fbTileS_out {c a o : ℕ} {hc : c < 6} {s : St Ideal} {v : EReal} (h : ¬(256 * c ≤ o ∧ o < 256 * c + 256)) (hy : At s.y a o v) : At (fbTileS c hc s).y a o v :=
  At.put_out (by omega) hy

theorem fbTileS_rest (c : ℕ) (hc : c < 6) (s : St Ideal) : rest (fbTileS c hc s) = rest s := rfl

theorem plainS_rest (s : St Ideal) : rest (plainS s) = rest s := by
  unfold plainS
  rw [fbTileS_rest, fbTileS_rest, fbTileS_rest, fbTileS_rest, fbTileS_rest, fbTileS_rest]

/-- What the fields' products need of the state. -/
def Ready (X : ℕ → ℕ → EReal) (G : ℕ → EReal) (W : ℕ → ℕ → BitVec 8) (ws : EReal) (s : St Ideal) : Prop :=
  WAt W s ∧ (word s.ws : EReal) = ws ∧ ∀ a < 384, CodesAt X G s a ∧ StepAt X G s a

theorem Ready.rest {s s' : St Ideal} (h : Body.rest s' = Body.rest s) (hs : Ready X G W ws s) : Ready X G W ws s' := by
  have hw : s'.w = s.w := congrArg (fun c => c.1.2.2.1) h
  have hws : s'.ws = s.ws := congrArg (fun c => c.1.2.2.2.1) h
  have hc : s'.codes = s.codes := congrArg (fun c => c.2.2.2.1) h
  have hb : s'.cb = s.cb := congrArg (fun c => c.2.2.2.2.1) h
  have hr : s'.rs = s.rs := congrArg (fun c => c.2.2.2.2.2) h
  exact ⟨hs.1.of hw, by rw [hws]; exact hs.2.1, fun a ha => ⟨(hs.2.2 a ha).1.of hc hb, (hs.2.2 a ha).2.of hr⟩⟩

theorem fbTileS_upto {c a : ℕ} {hc : c < 6} {s : St Ideal} (hR : Ready X G W ws s) (ha : a < 384) (h : ∀ o < 256 * c, At s.y a o (outV X G W ws a o)) :
    Ready X G W ws (fbTileS c hc s) ∧ ∀ o < 256 * (c + 1), At (fbTileS c hc s).y a o (outV X G W ws a o) :=
  ⟨hR.rest (fbTileS_rest c hc s), fun o ho => by
    by_cases h1 : o < 256 * c
    · exact fbTileS_out (by omega) (h o h1)
    · exact fbTileS_in hR.1 hR.2.1 ha (by omega) (hR.2.2 a ha)⟩

theorem plainS_in {s : St Ideal} (hR : Ready X G W ws s) {a o : ℕ} (ha : a < 384) (ho : o < 1536) : At (plainS s).y a o (outV X G W ws a o) := by
  have h0 := fbTileS_upto (c := 0) (hc := by decide) hR ha (fun o ho => by omega)
  have h1 := fbTileS_upto (c := 1) (hc := by decide) h0.1 ha h0.2
  have h2 := fbTileS_upto (c := 2) (hc := by decide) h1.1 ha h1.2
  have h3 := fbTileS_upto (c := 3) (hc := by decide) h2.1 ha h2.2
  have h4 := fbTileS_upto (c := 4) (hc := by decide) h3.1 ha h3.2
  have h5 := fbTileS_upto (c := 5) (hc := by decide) h4.1 ha h4.2
  exact h5.2 o ho

/-! ## The table of steps -/

theorem scaleTileS_in {t c a : ℕ} {hc : c < 3} {s : St Ideal} (ht : t < 5) (hD : ∀ a < 384, StepAt X G s a) {t' : ℕ} (ht' : t' < 5) {v : EReal}
    (hv : t' ≠ t → At s.scales t' a v) (ha : 128 * c ≤ a ∧ a < 128 * c + 128) :
    At (scaleTileS (BitVec.ofNat 32 t) c hc s).scales t' a (if t' = t then Row.scale (X a) G else v) := by
  refine At.put_in ⟨by omega, by omega⟩ ha fun h1 h2 => ?_
  rw [rowV_at t ht]
  by_cases h : t' = t
  · rw [if_pos (show t' - 0 = t from h), if_pos h]
    exact At.window (a := a - 128 * c) (b := a - 128 * c) ((hD a (by omega) (a - 128 * c) (by omega)).congr (by omega) (by omega) rfl) _ _
  · rw [if_neg (show ¬(t' - 0 = t) from h), if_neg h]
    exact At.window (a := t' - 0) (b := a - 128 * c) ((hv h).congr (by omega) (by omega) rfl) _ _

theorem scaleTileS_out {t : BitVec 32} {c t' a : ℕ} {hc : c < 3} {s : St Ideal} {v : EReal} (ha : ¬(128 * c ≤ a ∧ a < 128 * c + 128)) (h : At s.scales t' a v) :
    At (scaleTileS t c hc s).scales t' a v := At.put_out (by omega) h

/-- What the table of steps' writing leaves as it was. -/
def rest' (s : St Ideal) := (core s, s.y, s.u, s.codes, s.cb, s.rs)

theorem scaleTileS_rest (t : BitVec 32) (c : ℕ) (hc : c < 3) (s : St Ideal) : rest' (scaleTileS t c hc s) = rest' s := rfl

theorem scalesS_rest (t : BitVec 32) (s : St Ideal) : rest' (scalesS t s) = rest' s := by
  unfold scalesS
  rw [scaleTileS_rest, scaleTileS_rest, scaleTileS_rest]

theorem scalesS_in {t a : ℕ} {s : St Ideal} (ht : t < 5) (hD : ∀ a < 384, StepAt X G s a) {t' : ℕ} (ht' : t' < 5) {v : EReal}
    (hv : t' ≠ t → At s.scales t' a v) (ha : a < 384) : At (scalesS (BitVec.ofNat 32 t) s).scales t' a (if t' = t then Row.scale (X a) G else v) := by
  have hs : ∀ c (hc : c < 3) (s : St Ideal), (∀ a < 384, StepAt X G s a) → ∀ a < 384, StepAt X G (scaleTileS (BitVec.ofNat 32 t) c hc s) a := fun c hc s h a ha => (h a ha).of rfl
  unfold scalesS
  rcases (show a / 128 = 0 ∨ a / 128 = 1 ∨ a / 128 = 2 by omega) with h | h | h
  · exact scaleTileS_out (by omega) (scaleTileS_out (by omega) (scaleTileS_in ht hD ht' hv (by omega)))
  · exact scaleTileS_out (by omega) (scaleTileS_in ht (hs _ _ _ hD) ht' (fun e => scaleTileS_out (by omega) (hv e)) (by omega))
  · exact scaleTileS_in ht (hs _ _ _ (hs _ _ _ hD)) ht' (fun e => scaleTileS_out (by omega) (scaleTileS_out (by omega) (hv e))) (by omega)

end Cert.KernelIdeal.Body

end
-- ==== Proof.Prep.lean ====
/- The first point's preparation: the tables of signed gains, the packed tables, and the word that says whether a packed
   field may be three. -/
module

public import proofs.«01_k».proof.Proof.Project

@[expose] public section

noncomputable section

namespace Cert.KernelIdeal.Body

open Idealize.ShloMosaic Idealize.ShloMosaic.TcCoe Idealize.SL Idealize.SL.Sem
open Shapes1.Facts₀ Shapes2.Facts₀ K0.Facts₀ Facts

variable {X : ℕ → ℕ → EReal} {G : ℕ → EReal} {W : ℕ → ℕ → BitVec 8} {ws : EReal}

/-- The gains are `G`. -/
def GainAt (G : ℕ → EReal) (s : St Ideal) : Prop := ∀ j i, At s.gain j i (G (256 * j + i) : EReal)

/-! ## The signed gains -/

theorem had_put (x : S8x3x256x256.Idx → EReal) (w : S1x1x256x256.Idx → EReal) (j t : ℕ) (j' : Fin 8) (t' : Fin 3) (i l : Fin 256) :
    VecWindow.put x ![j, t, 0, 0] S1x1x256x256.size w (ix4 j' t' i l) = if j'.val = j ∧ t'.val = t then w (ix4 0 0 i l) else x (ix4 j' t' i l) := by
  unfold VecWindow.put
  by_cases h : j'.val = j ∧ t'.val = t
  · rw [if_pos h, dif_pos (by
      intro a
      match a with
      | ⟨0, _⟩ => exact ⟨by show j ≤ j'.val; omega, by show j'.val < j + 1; omega⟩
      | ⟨1, _⟩ => exact ⟨by show t ≤ t'.val; omega, by show t'.val < t + 1; omega⟩
      | ⟨2, _⟩ => exact ⟨by show 0 ≤ i.val; omega, by show i.val < 0 + 256; omega⟩
      | ⟨3, _⟩ => exact ⟨by show 0 ≤ l.val; omega, by show l.val < 0 + 256; omega⟩)]
    congr 1
    funext a
    match a with
    | ⟨0, _⟩ => exact Fin.ext (by show j'.val - j = 0; omega)
    | ⟨1, _⟩ => exact Fin.ext (by show t'.val - t = 0; omega)
    | ⟨2, _⟩ => exact Fin.ext (by show i.val - 0 = i.val; omega)
    | ⟨3, _⟩ => exact Fin.ext (by show l.val - 0 = l.val; omega)
  · rw [if_neg h, dif_neg]
    intro hh
    have h0 : j ≤ j'.val ∧ j'.val < j + 1 := hh (0 : Fin 4)
    have h1 : t ≤ t'.val ∧ t'.val < t + 1 := hh (1 : Fin 4)
    exact h ⟨by omega, by omega⟩

theorem hadPutsS_at {t : ℕ} {g : FVec Ideal S8x256 .f32} {s : St Ideal} (j' : Fin 8) (t' : Fin 3) (i l : Fin 256) :
    (hadPutsS t g s).had (ix4 j' t' i l) = (if t'.val = t then ((((Wht.sgn 8 i l : ℤ) : ℝ) : EReal) * g (ix2 j' i) : EReal) else s.had (ix4 j' t' i l) : EReal) := by
  have := foldK_ind (f := fun j hj s => hadPutS t j hj g s) (fun k (q : St Ideal) => (q.had (ix4 j' t' i l) : EReal)
      = if j'.val < k ∧ t'.val = t then ((((Wht.sgn 8 i l : ℤ) : ℝ) : EReal) * g (ix2 j' i) : EReal) else (s.had (ix4 j' t' i l) : EReal))
    (fun k hk q h => by
      refine (had_put q.had (hadV k hk g) k t j' t' i l).trans ?_
      by_cases h1 : j'.val = k ∧ t'.val = t
      · rw [if_pos h1, if_pos ⟨by omega, h1.2⟩, hadV_at]
        obtain ⟨rfl, -⟩ := h1
        rfl
      · rw [if_neg h1, h]
        by_cases h2 : j'.val < k ∧ t'.val = t
        · rw [if_pos h2, if_pos ⟨by omega, h2.2⟩]
        · rw [if_neg h2, if_neg (by omega)]) 8 le_rfl s (by rw [if_neg (by omega)])
  refine Eq.trans this ?_
  by_cases h : t'.val = t
  · rw [if_pos ⟨j'.isLt, h⟩, if_pos h]
  · rw [if_neg (by omega), if_neg h]

theorem gainS_at {s : St Ideal} (h : GainAt G s) (j : Fin 8) (i : Fin 256) : (gainS s (ix2 j i) : EReal) = G (256 * j + i) := by
  refine (congrFun (shapeCast_self _ _) (ix2 j i)).trans ?_
  exact At.window (a := j.val) (b := i.val) ((h j i).congr (by omega) (by omega) rfl) j.isLt i.isLt

theorem hiV_eq (g : FVec Ideal S8x256 .f32) : hiV g = g := rfl

theorem loV_at (g : FVec Ideal S8x256 .f32) (i : S8x256.Idx) : (loV g i : EReal) = (g i - g i : EReal) := rfl

theorem hadPutsS_keep {τ : Type} (k : St Ideal → τ) (hk : ∀ t j hj g s, k (hadPutS t j hj g s) = k s) (t : ℕ) (g : FVec Ideal S8x256 .f32) (s : St Ideal) : k (hadPutsS t g s) = k s :=
  foldK_keep (f := fun j hj s => hadPutS t j hj g s) k (fun _ _ _ => hk _ _ _ _ _) 8 le_rfl s

theorem prepHadS_had {s : St Ideal} (h : GainAt G s) : HadAt G (prepHadS s) := fun j t i l => by
  unfold prepHadS
  rw [hadPutsS_at, hadPutsS_at, hadPutsS_at]
  have hg := gainS_at h j i
  match t with
  | 0 =>
    rw [if_neg (by decide), if_neg (by decide), if_pos (by decide), hiV_eq, hg]
    rfl
  | 1 =>
    rw [if_neg (by decide), if_pos (by decide), hiV_eq, loV_at, hg]
    rfl
  | 2 =>
    rw [if_pos (by decide), hiV_eq, loV_at, loV_at, hg]
    rfl

/-- The body's arguments. -/
def ins (s : St Ideal) := (s.x, s.gain, s.w, s.ws)

theorem prepHadS_ins (s : St Ideal) : ins (prepHadS s) = ins s := by
  unfold prepHadS
  rw [hadPutsS_keep ins (fun _ _ _ _ _ => rfl), hadPutsS_keep ins (fun _ _ _ _ _ => rfl), hadPutsS_keep ins (fun _ _ _ _ _ => rfl)]
  rfl

/-! ## The packed tables -/

theorem pack1V_at (f : ℕ) (a b : Vec Ideal S512x256 .i8) (i : S512x256.Idx) : (pack1V f a b i : EReal) = (decV f b i + decV f a i * Proj.r128 : EReal) := rfl

theorem pack2V_at (f : ℕ) (a b : Vec Ideal S512x256 .i8) (i : S512x256.Idx) : (pack2V f a b i : EReal) = (decV f b i + decV f a i * Proj.b255 : EReal) := rfl

theorem decV_tern {f o0 n o : ℕ} (hf : f < 4) (ho0 : o0 + 256 ≤ 1536) {s : St Ideal} (hW : WAt W s) (hn : 512 * f ≤ n ∧ n < 512 * f + 512) (ho : o0 ≤ o ∧ o < o0 + 256) :
    (decV f (VecWindow.window s.w ![0, o0] S512x256.size (inb2 (by decide) ho0)) (ix2 ⟨n - 512 * f, by omega⟩ ⟨o - o0, by omega⟩) : EReal) = Proj.tern (col W o) n := by
  rw [decV_at f hf]
  have hw := At.window (n := 512) (m := 256) (inb := inb2 (by decide) ho0) (a := n - 512 * f) (b := o - o0) ((hW (n - 512 * f) (by omega) o (by omega)).congr (a' := 0 + (n - 512 * f)) (by omega) (b' := o0 + (o - o0)) (by omega) rfl)
    (by omega) (by omega)
  unfold Proj.tern Proj.fld col
  rw [show n % 512 = n - 512 * f by omega, show n / 512 = f by omega]
  exact congrArg (fun z : BitVec 8 => ((((z.toNat / 4 ^ f % 4 : ℕ) : ℤ) : ℝ) : EReal) - Proj.one16) hw

/-- The entries of the packed tables at `(n, c)`. -/
def PackAt (W : ℕ → ℕ → BitVec 8) (s : St Ideal) (n c : ℕ) : Prop :=
  At s.wp n c (Proj.tern (col W (512 + c)) n + Proj.tern (col W c) n * Proj.r128 : EReal) ∧ At s.wp n (512 + c) (Proj.tern (col W (1024 + c)) n + Proj.tern (col W c) n * Proj.b255 : EReal)

theorem packTileS_in {f c n c' : ℕ} {hf : f < 4} {hc : c < 2} {s : St Ideal} (hW : WAt W s) (hn : 512 * f ≤ n ∧ n < 512 * f + 512) (hc' : 256 * c ≤ c' ∧ c' < 256 * c + 256) :
    PackAt W (packTileS f c hf hc s) n c' := by
  unfold packTileS PackAt
  refine ⟨At.put_out (by omega) (At.put_in hn hc' fun h1 h2 => ?_), At.put_in hn (by omega) fun h1 h2 => ?_⟩
  · rw [shapeCast_self, pack1V_at]
    have e1 := decV_tern (o0 := 512 + 256 * c) (o := 512 + c') hf (by omega) hW hn (by omega)
    simp only [show 512 + c' - (512 + 256 * c) = c' - 256 * c by omega] at e1
    rw [decV_tern (o0 := 256 * c) (o := c') hf (by omega) hW hn hc']
    exact congrArg (· + _) e1
  · rw [shapeCast_self, pack2V_at]
    have e1 := decV_tern (o0 := 1024 + 256 * c) (o := 1024 + c') hf (by omega) hW hn (by omega)
    have e2 := decV_tern (o0 := 256 * c) (o := c') hf (by omega) hW hn hc'
    simp only [show 1024 + c' - (1024 + 256 * c) = c' - 256 * c by omega] at e1
    simp only [show 512 + c' - (512 + 256 * c) = c' - 256 * c by omega]
    exact congrArg₂ (fun a b => a + b * Proj.b255) e1 e2

theorem packTileS_out {f c n c' : ℕ} {hf : f < 4} {hc : c < 2} {s : St Ideal} (h : ¬((512 * f ≤ n ∧ n < 512 * f + 512) ∧ 256 * c ≤ c' ∧ c' < 256 * c + 256)) (hc' : c' < 512) (hp : PackAt W s n c') :
    PackAt W (packTileS f c hf hc s) n c' := by
  unfold packTileS PackAt
  exact ⟨At.put_out (by omega) (At.put_out (by omega) hp.1), At.put_out (by omega) (At.put_out (by omega) hp.2)⟩

/-- The first `k` tiles of the packed tables are there. -/
def PackUpto (W : ℕ → ℕ → BitVec 8) (k : ℕ) (s : St Ideal) : Prop := WAt W s ∧ ∀ n < 2048, ∀ c < 512, 2 * (n / 512) + c / 256 < k → PackAt W s n c

theorem packTileS_upto {f c : ℕ} {hf : f < 4} {hc : c < 2} {s : St Ideal} (h : PackUpto W (2 * f + c) s) : PackUpto W (2 * f + c + 1) (packTileS f c hf hc s) :=
  ⟨h.1.of rfl, fun n hn c' hc' hk => by
    by_cases h1 : 2 * (n / 512) + c' / 256 < 2 * f + c
    · exact packTileS_out (by omega) hc' (h.2 n hn c' hc' h1)
    · exact packTileS_in h.1 (by omega) (by omega)⟩

theorem packS_wp {s : St Ideal} (h : WAt W s) : WpAt W (packS s) := by
  have h0 : PackUpto W 0 s := ⟨h, fun n _ c _ hk => by omega⟩
  have h8 := packTileS_upto (f := 3) (c := 1) (hf := by decide) (hc := by decide) <| packTileS_upto (f := 3) (c := 0) (hf := by decide) (hc := by decide) <|
    packTileS_upto (f := 2) (c := 1) (hf := by decide) (hc := by decide) <| packTileS_upto (f := 2) (c := 0) (hf := by decide) (hc := by decide) <|
    packTileS_upto (f := 1) (c := 1) (hf := by decide) (hc := by decide) <| packTileS_upto (f := 1) (c := 0) (hf := by decide) (hc := by decide) <|
    packTileS_upto (f := 0) (c := 1) (hf := by decide) (hc := by decide) <| packTileS_upto (f := 0) (c := 0) (hf := by decide) (hc := by decide) h0
  exact fun n hn c hc => h8.2 n hn c hc (by omega)

theorem packTileS_ins (f c : ℕ) (hf : f < 4) (hc : c < 2) (s : St Ideal) : ins (packTileS f c hf hc s) = ins s := rfl

theorem packTileS_had (f c : ℕ) (hf : f < 4) (hc : c < 2) (s : St Ideal) : (packTileS f c hf hc s).had = s.had := rfl

theorem packS_ins (s : St Ideal) : ins (packS s) = ins s := by
  unfold packS
  rw [packTileS_ins, packTileS_ins, packTileS_ins, packTileS_ins, packTileS_ins, packTileS_ins, packTileS_ins, packTileS_ins]

theorem packS_had (s : St Ideal) : (packS s).had = s.had := by
  unfold packS
  rw [packTileS_had, packTileS_had, packTileS_had, packTileS_had, packTileS_had, packTileS_had, packTileS_had, packTileS_had]

/-! ## The flag -/

theorem not_plain {n : BitVec 32} (h : ¬ isPlain n) : n = 0#32 := by
  by_contra hn
  apply h
  unfold isPlain
  have e : Scalar.cmpi .ne n 0#32 = 1#1 := by
    show BitVec.ofBool (n != 0#32) = 1#1
    rw [bne_iff_ne.mpr hn]; rfl
  rw [e]
  decide

theorem word_put (x : S1.Idx → BitVec 32) (v : BitVec 32) : word (F := Ideal) (e := .i32) (VecWindow.put x ![0] S1.size (fun _ => v)) = v := by
  show VecWindow.put x ![0] S1.size (fun _ => v) _ = v
  unfold VecWindow.put
  rw [dif_pos]
  intro a
  match a with
  | ⟨0, _⟩ => exact ⟨Nat.zero_le _, by show (_ : ℕ) < 0 + 1; exact Fin.isLt _⟩

/-- Unless the flag is set, no packed field is three. -/
def FlagAt (W : ℕ → ℕ → BitVec 8) (s : St Ideal) : Prop := ¬ isPlain (word s.flag) → Clean W

theorem prepFlagS_flag {s : St Ideal} (hW : WAt W s) : FlagAt W (prepFlagS s) := fun hp k hk o ho f hf => by
  have h0 := not_plain hp
  unfold prepFlagS at h0
  have h1 : flagV (VecWindow.window s.w ![0, 0] S512x1536.size (inb2 (by decide) (by decide))) = 0#32 := (word_put _ _).symm.trans h0
  have hw := At.window (n := 512) (m := 1536) (inb := inb2 (by decide) (by decide)) (a := k) (b := o) ((hW k hk o ho).congr (a' := 0 + k) (by omega) (b' := 0 + o) (by omega) rfl) hk ho
  have := flagV_at _ h1 ⟨k, hk⟩ ⟨o, ho⟩ f hf
  rw [hw] at this
  exact this

theorem prepFlagS_ins (s : St Ideal) : ins (prepFlagS s) = ins s := rfl

theorem prepFlagS_had (s : St Ideal) : (prepFlagS s).had = s.had := rfl

theorem prepFlagS_wp (s : St Ideal) : (prepFlagS s).wp = s.wp := rfl

/-! ## All of it -/

/-- What the preparation leaves, and every point after. -/
def Tabs (G : ℕ → EReal) (W : ℕ → ℕ → BitVec 8) (s : St Ideal) : Prop := HadAt G s ∧ WpAt W s ∧ FlagAt W s

/-- The state's arguments. -/
def Ins (X : ℕ → ℕ → EReal) (G : ℕ → EReal) (W : ℕ → ℕ → BitVec 8) (ws : EReal) (s : St Ideal) : Prop := XAt X s ∧ GainAt G s ∧ WAt W s ∧ (word s.ws : EReal) = ws

theorem Ins.of {s s' : St Ideal} (h : ins s' = ins s) (hs : Ins X G W ws s) : Ins X G W ws s' := by
  have h1 : s'.x = s.x := congrArg (fun c => c.1) h
  have h2 : s'.gain = s.gain := congrArg (fun c => c.2.1) h
  have h3 : s'.w = s.w := congrArg (fun c => c.2.2.1) h
  have h4 : s'.ws = s.ws := congrArg (fun c => c.2.2.2) h
  exact ⟨hs.1.of h1, by unfold GainAt; rw [h2]; exact hs.2.1, hs.2.2.1.of h3, by rw [h4]; exact hs.2.2.2⟩

theorem HadAt.of {s s' : St Ideal} (h1 : s'.had = s.had) (h : HadAt G s) : HadAt G s' := by
  unfold HadAt; rw [h1]; exact h

theorem prepS_ins (s : St Ideal) : ins (prepS s) = ins s := by
  unfold prepS
  rw [prepFlagS_ins, packS_ins, prepHadS_ins]

theorem prepS_tabs {s : St Ideal} (h : Ins X G W ws s) : Tabs G W (prepS s) := by
  have h1 : Ins X G W ws (prepHadS s) := h.of (prepHadS_ins s)
  have h2 : Ins X G W ws (packS (prepHadS s)) := h1.of (packS_ins _)
  unfold prepS
  refine ⟨HadAt.of (prepFlagS_had _) (HadAt.of (packS_had _) (prepHadS_had h.2.1)), WpAt.of (prepFlagS_wp _) (packS_wp h1.2.2.1), prepFlagS_flag h2.2.2.1⟩

end Cert.KernelIdeal.Body

end
-- ==== Proof.Point.lean ====
/- One grid point over the extended reals: the rows' results, codes and steps it leaves. -/
module

public import proofs.«01_k».proof.Proof.Prep

@[expose] public section

noncomputable section

namespace Cert.KernelIdeal.Body

open Idealize.ShloMosaic Idealize.ShloMosaic.TcCoe Idealize.SL Idealize.SL.Sem
open Shapes1.Facts₀ Shapes2.Facts₀ K0.Facts₀ Facts

variable {X : ℕ → ℕ → EReal} {G : ℕ → EReal} {W : ℕ → ℕ → BitVec 8} {ws : EReal}

/-- What point `t` leaves: results, codes, and its row of the table of steps, the others as they were. -/
def Left (X : ℕ → ℕ → EReal) (G : ℕ → EReal) (W : ℕ → ℕ → BitVec 8) (ws : EReal) (t : ℕ) (s s' : St Ideal) : Prop :=
  (∀ a < 384, ∀ o < 1536, At s'.y a o (outV X G W ws a o)) ∧ (∀ a < 384, ∀ n < 2048, At s'.codes a n (Row.codes (X a) G n))
    ∧ ∀ t' < 5, ∀ a < 384, ∀ v : EReal, (t' ≠ t → At s.scales t' a v) → At s'.scales t' a (if t' = t then Row.scale (X a) G else v)

theorem core_ins {s s' : St Ideal} (h : core s' = core s) : ins s' = ins s := by
  have h1 : s'.x = s.x := congrArg (fun c => c.1) h
  have h2 : s'.gain = s.gain := congrArg (fun c => c.2.1) h
  have h3 : s'.w = s.w := congrArg (fun c => c.2.2.1) h
  have h4 : s'.ws = s.ws := congrArg (fun c => c.2.2.2.1) h
  unfold ins; rw [h1, h2, h3, h4]

theorem Tabs.of {s s' : St Ideal} (h : core s' = core s) (hT : Tabs G W s) : Tabs G W s' := by
  have h1 : s'.had = s.had := congrArg (fun c => c.2.2.2.2.1) h
  have h2 : s'.wp = s.wp := congrArg (fun c => c.2.2.2.2.2.1) h
  have h3 : s'.flag = s.flag := congrArg (fun c => c.2.2.2.2.2.2) h
  exact ⟨hT.1.of h1, hT.2.1.of h2, by unfold FlagAt; rw [h3]; exact hT.2.2⟩

theorem core_of_side {s s' : St Ideal} (h : side s' = side s) : core s' = core s := congrArg (fun c => c.1) h
theorem scales_of_side {s s' : St Ideal} (h : side s' = side s) : s'.scales = s.scales := congrArg (fun c => c.2.1) h
theorem y_of_side {s s' : St Ideal} (h : side s' = side s) : s'.y = s.y := congrArg (fun c => c.2.2) h
theorem core_of_rest {s s' : St Ideal} (h : rest s' = rest s) : core s' = core s := congrArg (fun c => c.1) h
theorem scales_of_rest {s s' : St Ideal} (h : rest s' = rest s) : s'.scales = s.scales := congrArg (fun c => c.2.1) h
theorem codes_of_rest {s s' : St Ideal} (h : rest s' = rest s) : s'.codes = s.codes := congrArg (fun c => c.2.2.2.1) h
theorem core_of_rest' {s s' : St Ideal} (h : rest' s' = rest' s) : core s' = core s := congrArg (fun c => c.1) h
theorem y_of_rest' {s s' : St Ideal} (h : rest' s' = rest' s) : s'.y = s.y := congrArg (fun c => c.2.1) h

theorem Stage.rest' {b : ℕ} {s s' : St Ideal} (h : Body.rest' s' = Body.rest' s) (hs : Stage X G b s) : Stage X G b s' := by
  have hx : s'.x = s.x := congrArg (fun c => c.1.1) h
  have hu : s'.u = s.u := congrArg (fun c => c.2.2.1) h
  have hc : s'.codes = s.codes := congrArg (fun c => c.2.2.2.1) h
  have hb : s'.cb = s.cb := congrArg (fun c => c.2.2.2.2.1) h
  have hr : s'.rs = s.rs := congrArg (fun c => c.2.2.2.2.2) h
  exact ⟨hs.1.of hx, fun a ha => ⟨(hs.2.1 a ha).1.of hc hb, (hs.2.1 a ha).2.of hr⟩, fun a h1 h2 => (hs.2.2 a h1 h2).of hu⟩

/-- Up to the table of steps. -/
theorem mainS_left {t : ℕ} (ht : t < 5) {s : St Ideal} (hI : Ins X G W ws s) (hT : Tabs G W s) :
    core (mainS (BitVec.ofNat 32 t) s) = core s ∧ Stage X G 384 (mainS (BitVec.ofNat 32 t) s)
      ∧ (Clean W → ∀ a < 384, ∀ o < 1536, At (mainS (BitVec.ofNat 32 t) s).y a o (outV X G W ws a o))
      ∧ ∀ t' < 5, ∀ a < 384, ∀ v : EReal, (t' ≠ t → At s.scales t' a v) → At (mainS (BitVec.ofNat 32 t) s).scales t' a (if t' = t then Row.scale (X a) G else v) := by
  unfold mainS
  obtain ⟨s1, e1⟩ : ∃ q, q = tilesS 0 (by decide) s := ⟨_, rfl⟩
  obtain ⟨s2, e2⟩ : ∃ q, q = tilesS 192 (by decide) s1 := ⟨_, rfl⟩
  obtain ⟨s3, e3⟩ : ∃ q, q = quantS 0 (by decide) s2 := ⟨_, rfl⟩
  obtain ⟨s4, e4⟩ : ∃ q, q = projS 0 (by decide) s3 := ⟨_, rfl⟩
  obtain ⟨s5, e5⟩ : ∃ q, q = quantS 192 (by decide) s4 := ⟨_, rfl⟩
  obtain ⟨s6, e6⟩ : ∃ q, q = projS 192 (by decide) s5 := ⟨_, rfl⟩
  obtain ⟨s7, e7⟩ : ∃ q, q = scalesS (BitVec.ofNat 32 t) s6 := ⟨_, rfl⟩
  rw [← e1, ← e2, ← e3, ← e4, ← e5, ← e6, ← e7]
  have c1 : core s1 = core s := by rw [e1]; exact tilesS_core s
  have c2 : core s2 = core s := (by rw [e2]; exact tilesS_core s1 : core s2 = core s1).trans c1
  have d3 : side s3 = side s2 := by rw [e3]; exact quantS_side _ _ _
  have c3 : core s3 = core s := (core_of_side d3).trans c2
  have d4 : rest s4 = rest s3 := by rw [e4]; exact projS_rest _ _ _
  have c4 : core s4 = core s := (core_of_rest d4).trans c3
  have d5 : side s5 = side s4 := by rw [e5]; exact quantS_side _ _ _
  have c5 : core s5 = core s := (core_of_side d5).trans c4
  have d6 : rest s6 = rest s5 := by rw [e6]; exact projS_rest _ _ _
  have c6 : core s6 = core s := (core_of_rest d6).trans c5
  have d7 : rest' s7 = rest' s6 := by rw [e7]; exact scalesS_rest _ _
  have c7 : core s7 = core s := (core_of_rest' d7).trans c6
  have i1 := hI.of (core_ins c1)
  have i2 := hI.of (core_ins c2)
  have S2 : Stage X G 0 s2 := by
    refine ⟨i2.1, fun a ha => by omega, fun a _ ha => ?_⟩
    rw [e2]
    by_cases h : a < 192
    · exact tilesS_out (by omega) (by rw [e1]; exact tilesS_in hI.1 hT.1 (by omega))
    · exact tilesS_in i1.1 (hT.of c1).1 (by omega)
  have S3 : Stage X G 192 s3 := by rw [e3]; exact quantS_stage (r := 0) S2
  have S4 : Stage X G 192 s4 := S3.rest d4
  have S5 : Stage X G 384 s5 := by rw [e5]; exact quantS_stage (r := 192) S4
  have S6 : Stage X G 384 s6 := S5.rest d6
  have S7 : Stage X G 384 s7 := S6.rest' d7
  refine ⟨c7, S7, fun hC a ha o ho => ?_, fun t' ht' a ha v hv => ?_⟩
  · rw [y_of_rest' d7, e6]
    by_cases h : a < 192
    · refine projS_out (by omega) ho ?_
      rw [y_of_side d5, e4]
      exact projS_in hC (hT.of c3).2.1 (hI.of (core_ins c3)).2.2.2 (by omega) (by omega) ho (S3.2.1 a (by omega))
    · exact projS_in hC (hT.of c5).2.1 (hI.of (core_ins c5)).2.2.2 (by omega) (by omega) ho (S5.2.1 a (by omega))
  · rw [e7]
    have hs : s6.scales = s.scales := by
      rw [scales_of_rest d6, scales_of_side d5, scales_of_rest d4, scales_of_side d3, e2, tilesS_scales, e1, tilesS_scales]
    exact scalesS_in ht (fun a ha => (S6.2.1 a ha).2) ht' (fun e => by rw [hs]; exact hv e) ha

/-- One point, the preparation done. -/
theorem restS_left {t : ℕ} (ht : t < 5) {s : St Ideal} (hI : Ins X G W ws s) (hT : Tabs G W s) :
    core (restS (BitVec.ofNat 32 t) s) = core s ∧ Left X G W ws t s (restS (BitVec.ofNat 32 t) s) := by
  unfold restS
  obtain ⟨c, S, hy, hs⟩ := mainS_left ht hI hT
  revert c S hy hs
  generalize mainS (BitVec.ofNat 32 t) s = q
  intro c S hy hs
  have hC : ∀ a < 384, ∀ n < 2048, At q.codes a n (Row.codes (X a) G n) := fun a ha n hn => ((S.2.1 a ha).1 n hn).1
  unfold endS
  split
  · have d := plainS_rest q
    have iq := hI.of (core_ins c)
    refine ⟨(core_of_rest d).trans c, fun a ha o ho => plainS_in ⟨iq.2.2.1, iq.2.2.2, S.2.1⟩ ha ho, fun a ha n hn => ?_, fun t' ht' a ha v hv => ?_⟩
    · rw [codes_of_rest d]; exact hC a ha n hn
    · rw [scales_of_rest d]; exact hs t' ht' a ha v hv
  · rename_i h
    exact ⟨c, fun a ha o ho => hy ((hT.of c).2.2 h) a ha o ho, hC, hs⟩

theorem first_iff (i : grid0.Coords) (hi : (i 0).val < 5) : isFirst i ↔ (i 0).val = 0 := by
  unfold isFirst
  generalize (i 0).val = n at hi ⊢
  interval_cases n <;> decide

theorem packTileS_scales (f c : ℕ) (hf : f < 4) (hc : c < 2) (s : St Ideal) : (packTileS f c hf hc s).scales = s.scales := rfl

theorem prepFlagS_scales (s : St Ideal) : (prepFlagS s).scales = s.scales := rfl

theorem zeroV_at (i : S5x384.Idx) : (zeroV (F := Ideal) i : EReal) = 0 := by
  show Ideal.ofBits .f32 0x00000000#32 = 0
  simp [Ideal.ofBits, Ideal.ieee]

theorem packS_scales (s : St Ideal) : (packS s).scales = s.scales := by
  unfold packS
  rw [packTileS_scales, packTileS_scales, packTileS_scales, packTileS_scales, packTileS_scales, packTileS_scales, packTileS_scales, packTileS_scales]

theorem prepHadS_scales (s : St Ideal) : (prepHadS s).scales = VecWindow.put s.scales ![0, 0] S5x384.size (zeroV (F := Ideal)) := by
  unfold prepHadS
  rw [hadPutsS_keep St.scales (fun _ _ _ _ _ => rfl), hadPutsS_keep St.scales (fun _ _ _ _ _ => rfl), hadPutsS_keep St.scales (fun _ _ _ _ _ => rfl)]

/-- The first point clears the table of steps. -/
theorem prepS_scales (s : St Ideal) : ∀ t' < 5, ∀ a < 384, At (prepS s).scales t' a (0 : EReal) := fun t' ht' a ha => by
  unfold prepS
  rw [prepFlagS_scales, packS_scales, prepHadS_scales]
  exact At.put_in (by omega) (by omega) fun _ _ => zeroV_at _

/-- One point. -/
theorem bodyS_left (i : grid0.Coords) (hi : (i 0).val < 5) {s : St Ideal} (hI : Ins X G W ws s) (hT : (i 0).val ≠ 0 → Tabs G W s) :
    Ins X G W ws (bodyS i s) ∧ ins (bodyS i s) = ins s ∧ Tabs G W (bodyS i s)
      ∧ (∀ a < 384, ∀ o < 1536, At (bodyS i s).y a o (outV X G W ws a o)) ∧ (∀ a < 384, ∀ n < 2048, At (bodyS i s).codes a n (Row.codes (X a) G n))
      ∧ (∀ a < 384, At (bodyS i s).scales (i 0).val a (Row.scale (X a) G : EReal))
      ∧ ((i 0).val ≠ 0 → ∀ t' < 5, t' ≠ (i 0).val → ∀ a < 384, ∀ v : EReal, At s.scales t' a v → At (bodyS i s).scales t' a v)
      ∧ ((i 0).val = 0 → ∀ t' < 5, t' ≠ 0 → ∀ a < 384, At (bodyS i s).scales t' a (0 : EReal)) := by
  unfold bodyS
  obtain ⟨q, e⟩ : ∃ q, q = (open scoped Classical in if isFirst i then prepS s else s) := ⟨_, rfl⟩
  rw [show (open scoped Classical in if isFirst i then prepS s else s) = q from e.symm]
  have hq : ins q = ins s ∧ Tabs G W q ∧ ((i 0).val ≠ 0 → q = s) ∧ ((i 0).val = 0 → q = prepS s) := by
    by_cases h : isFirst i
    · rw [if_pos h] at e
      rw [e]
      exact ⟨prepS_ins s, prepS_tabs hI, fun h0 => absurd ((first_iff i hi).1 h) h0, fun _ => rfl⟩
    · rw [if_neg h] at e
      rw [e]
      exact ⟨rfl, hT fun h0 => h ((first_iff i hi).2 h0), fun _ => rfl, fun h0 => absurd ((first_iff i hi).2 h0) h⟩
  have iq : Ins X G W ws q := hI.of hq.1
  obtain ⟨c, hy, hC, hs⟩ := restS_left hi iq hq.2.1
  refine ⟨iq.of (core_ins c), (core_ins c).trans hq.1, hq.2.1.of c, hy, hC, fun a ha => ?_, fun h0 t' ht' hne a ha v hv => ?_, fun h0 t' ht' hne a ha => ?_⟩
  · have := hs (i 0).val hi a ha 0 (fun h => absurd rfl h)
    rwa [if_pos rfl] at this
  · have := hs t' ht' a ha v (fun _ => by rw [hq.2.2.1 h0]; exact hv)
    rwa [if_neg hne] at this
  · have := hs t' ht' a ha 0 (fun _ => by rw [hq.2.2.2 h0]; exact prepS_scales s t' ht' a ha)
    rwa [if_neg (by omega)] at this

end Cert.KernelIdeal.Body

end
-- ==== Proof.Target.lean ====
/- The three results as functions of the arguments. -/
module

public import proofs.«01_k».proof.Proof.RowMath
public import proofs.«01_k».proof.Proof.ProjMath
public import Idealize.ShloMosaic.Lib.Pointwise

@[expose] public section

noncomputable section

namespace Cert.Target

open Idealize.ShloMosaic

abbrev AX : Type := (⟨3, ![5, 384, 2048]⟩ : Shape).Idx → EReal
abbrev AG : Type := (⟨1, ![2048]⟩ : Shape).Idx → EReal
abbrev AW : Type := (⟨2, ![512, 1536]⟩ : Shape).Idx → BitVec 8
abbrev AS : Type := (⟨1, ![1]⟩ : Shape).Idx → EReal

/-- Row `a` of batch `t`. -/
def row (x : AX) (t a n : ℕ) : EReal := if h : t < 5 ∧ a < 384 ∧ n < 2048 then x (ix3 ⟨t, h.1⟩ ⟨a, h.2.1⟩ ⟨n, h.2.2⟩) else 0

/-- The gains. -/
def gain (g : AG) (k : ℕ) : EReal := if h : k < 2048 then g (ix1 ⟨k, h⟩) else 0

/-- The packed weights. -/
def wt (w : AW) (k o : ℕ) : BitVec 8 := if h : k < 512 ∧ o < 1536 then w (ix2 ⟨k, h.1⟩ ⟨o, h.2⟩) else 0

/-- The weights' step. -/
def wstep (s : AS) : EReal := s (ix1 0)

/-- The result at row `a` of batch `t` and column `o`. -/
def yAt (x : AX) (g : AG) (w : AW) (s : AS) (t a o : ℕ) : EReal :=
  Proj.out (fun n => (Row.codes (row x t a) (gain g) n).toInt) (fun k => (wt w k o).toNat) (Row.scale (row x t a) (gain g)) (wstep s)

def y (x : AX) (g : AG) (w : AW) (s : AS) : (⟨2, ![1920, 1536]⟩ : Shape).Idx → EReal := fun i => yAt x g w s ((i 0).val / 384) ((i 0).val % 384) (i 1).val

def codes (x : AX) (g : AG) : (⟨2, ![1920, 2048]⟩ : Shape).Idx → BitVec 8 := fun i => Row.codes (row x ((i 0).val / 384) ((i 0).val % 384)) (gain g) (i 1).val

def scales (x : AX) (g : AG) : (⟨2, ![5, 384]⟩ : Shape).Idx → EReal := fun i => Row.scale (row x (i 0).val (i 1).val) (gain g)

end Cert.Target

end
-- ==== Proof.Entry.lean ====
/- What each grid point finds in its windows, as functions of the arguments. -/
module

public import proofs.«01_k».proof.Proof.Point
public import proofs.«01_k».proof.Proof.Target
public import proofs.«01_k».proof.Proof.Launch
public import Idealize.ShloMosaic.Lib.Pipeline.ValueKit
public import Idealize.ShloMosaic.Lib.Claim
public import Idealize.ShloMosaic.Lib.StableHlo.ReadAt

@[expose] public section

noncomputable section

namespace Cert.KernelIdeal.Body

open Cert.KernelIdeal.Gen
open Idealize.ShloMosaic Idealize.ShloMosaic.TcCoe Idealize.SL Idealize.SL.Sem

variable (m : (ℓ : Loc nD τ sig) → Buf (Elt Ideal) ℓ)

/-- The four arguments. -/
abbrev argX (c : Dev nD) : Target.AX := m ((c.tc : Thread nD τ).loc main_arg0)
abbrev argG (c : Dev nD) : Target.AG := m ((c.tc : Thread nD τ).loc main_arg1)
abbrev argW (c : Dev nD) : Target.AW := m ((c.tc : Thread nD τ).loc main_arg2)
abbrev argS (c : Dev nD) : Target.AS := m ((c.tc : Thread nD τ).loc main_arg3)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem coord : ∀ t : Fin cfg0.N, (grid0.coords t 0).val = t.val := (by decide +kernel : ∀ t : Fin grid0.N, (grid0.coords t 0).val = t.val)

theorem V_x (c : Dev nD) (r : Fin 1920) (n : Fin 2048) : (V m c main_v0 (ix2 r n) : EReal) = Target.row (argX m c) (r.val / 384) (r.val % 384) n := by
  unfold Target.row
  rw [dif_pos ⟨by omega, by omega, n.isLt⟩]
  unfold V
  after_reads_at

theorem V_gain (c : Dev nD) (j : Fin 8) (i : Fin 256) : (V m c main_v1 (ix2 j i) : EReal) = Target.gain (argG m c) (256 * j + i) := by
  unfold Target.gain
  rw [dif_pos (by omega)]
  unfold V
  after_reads_at
  exact congrArg (argG m c) (congrArg ix1 (Fin.ext (by show j.val * 256 + i.val = 256 * j.val + i.val; omega)))

theorem iblk_x (c : Dev nD) (t : Fin cfg0.N) (a : Fin 384) (n : Fin 2048) : (iblk m c 0 t (ix2 a n) : EReal) = Target.row (argX m c) t a n := by
  have ht : t.val < 5 := t.isLt
  have h := V_x m c ⟨384 * t.val + a.val, by omega⟩ n
  simp only [show (384 * t.val + a.val) / 384 = t.val by omega, show (384 * t.val + a.val) % 384 = a.val by omega] at h
  rw [← h]
  blk_ext [iblk, idx0 t]

theorem iblk_gain (c : Dev nD) (t : Fin cfg0.N) (j : Fin 8) (i : Fin 256) : (iblk m c 1 t (ix2 j i) : EReal) = Target.gain (argG m c) (256 * j + i) := by
  rw [← V_gain]
  blk_ext [iblk, idx1 t]

theorem iblk_w (c : Dev nD) (t : Fin cfg0.N) (k : Fin 512) (o : Fin 1536) : (iblk m c 2 t (ix2 k o) : BitVec 8) = Target.wt (argW m c) k o := by
  unfold Target.wt
  rw [dif_pos ⟨k.isLt, o.isLt⟩, show argW m c = V m c main_arg2 from (V_main_arg2 m c).symm]
  blk_ext [iblk, idx2 t]

theorem iblk_ws (c : Dev nD) (t : Fin cfg0.N) : (word (iblk m c 3 t : S1.Idx → Elt Ideal .f32) : EReal) = Target.wstep (argS m c) := by
  unfold Target.wstep word
  rw [show argS m c = V m c main_arg3 from (V_main_arg3 m c).symm]
  exact congrArg (V m c main_arg3) (funext fun a => by match a with | ⟨0, _⟩ => exact Subsingleton.elim (α := Fin 1) _ _)

end Cert.KernelIdeal.Body

end
-- ==== Proof.Value.lean ====
/- The kernel's run over the extended reals: its three results as functions of the arguments. -/
module

public import proofs.«01_k».proof.Proof.Entry

@[expose] public section

noncomputable section

namespace Cert.KernelIdeal.Value

open Cert.KernelIdeal.Gen
open Cert.KernelIdeal.Body hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev argR (c : Dev nD) : ℕ → ℕ → ℕ → EReal := Target.row (argX m c)
abbrev argK (c : Dev nD) : ℕ → EReal := Target.gain (argG m c)
abbrev argQ (c : Dev nD) : ℕ → ℕ → BitVec 8 := Target.wt (argW m c)
abbrev argZ (c : Dev nD) : EReal := Target.wstep (argS m c)

/-- The results of point `t`. -/
def yBlk (c : Dev nD) (t : ℕ) : S384x1536.Idx → Elt Ideal .bf16 := fun i => (Target.yAt (argX m c) (argG m c) (argW m c) (argS m c) t (i 0).val (i 1).val : EReal)

/-- The codes of point `t`. -/
def cBlk (c : Dev nD) (t : ℕ) : S384x2048.Idx → Elt Ideal .i8 := fun i => (Row.codes (argR m c t (i 0).val) (argK m c) (i 1).val : BitVec 8)

/-- The table of steps after point `t`: its rows up to `t`. -/
def sBlk (c : Dev nD) (t : ℕ) : S5x384.Idx → Elt Ideal .f32 := fun i =>
  ((if (i 0).val ≤ t then Row.scale (argR m c (i 0).val (i 1).val) (argK m c) else 0 : EReal))

theorem ext2 {R C : ℕ} {α : Type} {x y : (⟨2, ![R, C]⟩ : Shape).Idx → α} (h : ∀ (a : Fin R) (b : Fin C), x (ix2 a b) = y (ix2 a b)) : x = y :=
  funext fun i => by
    have : i = ix2 (i 0) (i 1) := funext fun a => by match a with | ⟨0, _⟩ => rfl | ⟨1, _⟩ => rfl
    rw [this]; exact h _ _

/-- Whatever a point finds in its results' windows, it leaves these. -/
theorem point_left (c : Dev nD) (t : Fin cfg0.N) {s : St Ideal} (hx : s.x = iblk m c 0 t) (hg : s.gain = iblk m c 1 t) (hw : s.w = iblk m c 2 t) (hz : s.ws = iblk m c 3 t)
    (hs : t.val ≠ 0 → s.scales = sBlk m c (t.val - 1)) (hT : t.val ≠ 0 → Tabs (argK m c) (argQ m c) s) :
    (bodyS (grid0.coords t) s).x = iblk m c 0 t ∧ (bodyS (grid0.coords t) s).gain = iblk m c 1 t ∧ (bodyS (grid0.coords t) s).w = iblk m c 2 t
      ∧ (bodyS (grid0.coords t) s).ws = iblk m c 3 t ∧ (bodyS (grid0.coords t) s).y = yBlk m c t ∧ (bodyS (grid0.coords t) s).codes = cBlk m c t
      ∧ (bodyS (grid0.coords t) s).scales = sBlk m c t ∧ Tabs (argK m c) (argQ m c) (bodyS (grid0.coords t) s) := by
  have ht : t.val < 5 := t.isLt
  have ec := coord t
  have hI : Ins (argR m c t) (argK m c) (argQ m c) (argZ m c) s := by
    refine ⟨fun a n ha hn => ?_, fun j i hj hi => ?_, fun k hk o ho hk' ho' => ?_, ?_⟩
    · rw [hx]; exact iblk_x m c t ⟨a, ha⟩ ⟨n, hn⟩
    · rw [hg]; exact iblk_gain m c t ⟨j, hj⟩ ⟨i, hi⟩
    · rw [hw]; exact iblk_w m c t ⟨k, hk⟩ ⟨o, ho⟩
    · rw [hz]; exact iblk_ws m c t
  obtain ⟨-, hi, hT', hy, hC, hS, hS', h0⟩ := bodyS_left (grid0.coords t) (by rw [ec]; exact ht) hI (fun h => hT (by rwa [ec] at h))
  rw [ec] at hS hS' h0
  clear hT hI
  revert hi hT' hy hC hS hS' h0
  generalize bodyS (grid0.coords t) s = q
  intro hi hT' hy hC hS hS' h0
  refine ⟨(congrArg (fun c => c.1) hi).trans hx, (congrArg (fun c => c.2.1) hi).trans hg, (congrArg (fun c => c.2.2.1) hi).trans hw, (congrArg (fun c => c.2.2.2) hi).trans hz,
    ext2 fun a o => hy a a.isLt o o.isLt a.isLt o.isLt, ext2 fun a n => hC a a.isLt n n.isLt a.isLt n.isLt, ext2 fun b a => ?_, hT'⟩
  show _ = ((if b.val ≤ t.val then Row.scale (argR m c b.val a.val) (argK m c) else 0 : EReal))
  by_cases hb : b.val = t.val
  · rw [if_pos hb.le, hb]
    obtain ⟨b, hb'⟩ := b
    dsimp only at hb
    subst hb
    exact hS a a.isLt hb' a.isLt
  · by_cases ht0 : t.val = 0
    · rw [if_neg (by omega)]
      exact h0 ht0 b b.isLt (by omega) a a.isLt b.isLt a.isLt
    · refine hS' ht0 b b.isLt hb a a.isLt _ (fun h1 h2 => ?_) b.isLt a.isLt
      rw [hs ht0]
      show ((if b.val ≤ t.val - 1 then Row.scale (argR m c b.val a.val) (argK m c) else 0 : EReal)) = _
      by_cases hlt : b.val ≤ t.val
      · rw [if_pos hlt, if_pos (by omega)]
      · rw [if_neg hlt, if_neg (by omega)]

/-! ## The proof data -/

/-- What the points hand on: the scratch buffers, which hold the tables once the first point has run. -/
def inv (c : Dev nD) (t : ℕ) : sProp 𝕄 :=
  iprop((∃ s : St Ideal, ⌜t ≠ 0 → Tabs (argK m c) (argQ m c) s⌝ ∗ Scr c s) ∗ ∃ r, prngReg c r)

def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk m c t
    | ⟨5, _⟩ => cBlk m c t
    | ⟨6, _⟩ => sBlk m c t
  Φ t := inv m c t
  q _ := fullShare
  owed _ := 0

theorem A_eqV (c : Dev nD) (w : Fin cfg0.W) : (datsV m 0 c).A w = V m c (Pipeline.arrRef spec0 w) := by dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = yBlk m c t := by dsimp only [datsV]
theorem afterV_5 (c : Dev nD) (t : Fin cfg0.N) : (datsV m 0 c).after 5 t = cBlk m c t := by dsimp only [datsV]
theorem afterV_6 (c : Dev nD) (t : Fin cfg0.N) : (datsV m 0 c).after 6 t = sBlk m c t := by dsimp only [datsV]

theorem beforeV_0 (c : Dev nD) (t : Fin cfg0.N) (d) : (datsV m 0 c).before 0 t d = iblk m c 0 t := before0_0_of m (datsV m 0 c) (A_eqV m c 0) (afterV_0 m c) t d
theorem beforeV_1 (c : Dev nD) (t : Fin cfg0.N) (d) : (datsV m 0 c).before 1 t d = iblk m c 1 t := before0_1_of m (datsV m 0 c) (A_eqV m c 1) (afterV_1 m c) t d
theorem beforeV_2 (c : Dev nD) (t : Fin cfg0.N) (d) : (datsV m 0 c).before 2 t d = iblk m c 2 t := before0_2_of m (datsV m 0 c) (A_eqV m c 2) (afterV_2 m c) t d
theorem beforeV_3 (c : Dev nD) (t : Fin cfg0.N) (d) : (datsV m 0 c).before 3 t d = iblk m c 3 t := before0_3_of m (datsV m 0 c) (A_eqV m c 3) (afterV_3 m c) t d

theorem beforeV_6 (c : Dev nD) (t : Fin cfg0.N) (d) (ht : t.val ≠ 0) : (datsV m 0 c).before 6 t d = sBlk m c (t.val - 1) := by
  rw [(datsV m 0 c).before_out_kept 6 rfl t ht (by
    rw [Bool.eq_false_iff]
    intro h
    have := (flush0_6 _).mp h
    have h5 : t.val < 5 := t.isLt
    dsimp only at this
    omega) (fun _ => rfl) (fun _ _ => rfl) d, afterV_6]

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d)) ∗ (∃ d, owns (c : Thread nD τ) (st0_1 t) fullShare ((datsV m 0 c).before 1 t d))
    ∗ (∃ d, owns (c : Thread nD τ) (st0_2 t) fullShare ((datsV m 0 c).before 2 t d)) ∗ (∃ d, owns (c : Thread nD τ) (st0_3 t) fullShare ((datsV m 0 c).before 3 t d))
    ∗ (∃ d, owns (c : Thread nD τ) (st0_4 t) fullShare ((datsV m 0 c).before 4 t d)) ∗ (∃ d, owns (c : Thread nD τ) (st0_5 t) fullShare ((datsV m 0 c).before 5 t d))
    ∗ (∃ d, owns (c : Thread nD τ) (st0_6 t) fullShare ((datsV m 0 c).before 6 t d)))

def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t) ∗ owns (c : Thread nD τ) (st0_1 t) fullShare ((datsV m 0 c).after 1 t)
    ∗ owns (c : Thread nD τ) (st0_2 t) fullShare ((datsV m 0 c).after 2 t) ∗ owns (c : Thread nD τ) (st0_3 t) fullShare ((datsV m 0 c).after 3 t)
    ∗ owns (c : Thread nD τ) (st0_4 t) fullShare ((datsV m 0 c).after 4 t) ∗ owns (c : Thread nD τ) (st0_5 t) fullShare ((datsV m 0 c).after 5 t)
    ∗ owns (c : Thread nD τ) (st0_6 t) fullShare ((datsV m 0 c).after 6 t))

/-- What a state is after point `t`. -/
def LeftAt (c : Dev nD) (t : Fin cfg0.N) (s : St Ideal) : Prop :=
  s.x = iblk m c 0 t ∧ s.gain = iblk m c 1 t ∧ s.w = iblk m c 2 t ∧ s.ws = iblk m c 3 t ∧ s.y = yBlk m c t ∧ s.codes = cBlk m c t ∧ s.scales = sBlk m c t
    ∧ Tabs (argK m c) (argQ m c) s

theorem tabs_scr {G : ℕ → EReal} {W : ℕ → ℕ → BitVec 8} {s s' : St Ideal} (h1 : s'.had = s.had) (h2 : s'.wp = s.wp) (h3 : s'.flag = s.flag) (hT : Tabs G W s) : Tabs G W s' :=
  ⟨hT.1.of h1, hT.2.1.of h2, by unfold FlagAt; rw [h3]; exact hT.2.2⟩

theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV
  simp only [beforeV_0, beforeV_1, beforeV_2, beforeV_3]
  rw [show (datsV m 0 c).Φ t.castSucc = inv m c t.val from rfl, show (datsV m 0 c).Φ t.succ = inv m c (t.val + 1) from rfl,
    show (datsV m 0 c).owesAt () t.succ = (datsV m 0 c).owesAt () t.castSucc from rfl,
    afterV_0, afterV_1, afterV_2, afterV_3, afterV_4, afterV_5, afterV_6]
  unfold inv
  iintro ⟨⟨⟨%s0, %hT, HS⟩, HP⟩, Ho, ⟨%d0, H0⟩, ⟨%d1, H1⟩, ⟨%d2, H2⟩, ⟨%d3, H3⟩, ⟨%d4, H4⟩, ⟨%d5, H5⟩, ⟨%d6, H6⟩⟩
  iapply (wp_mono (Q := fun _ => iprop(∃ s' : St Ideal, ⌜LeftAt m c t s'⌝ ∗ Wins c t s' ∗ Scr c s' ∗ ((∃ r, prngReg c r) ∗ (datsV m 0 c).owesAt () t.castSucc))) _ _ _ fun _ => by
    unfold Wins
    iintro ⟨%s', %hs, ⟨H0, H1, H2, H3, H4, H5, H6⟩, HS, HP, Ho⟩
    obtain ⟨e0, e1, e2, e3, e4, e5, e6, eT⟩ := hs
    rw [e0, e1, e2, e3, e4, e5, e6]
    isplitl [HS HP]
    · isplitl [HS]
      · iexists s'
        isplitr; · ipureintro; exact fun _ => eT
        iexact HS
      · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6)
  iapply (body_frame (c := c) (Q := LeftAt m c t) (s := ⟨iblk m c 0 t, iblk m c 1 t, iblk m c 2 t, iblk m c 3 t, (datsV m 0 c).before 4 t d4, (datsV m 0 c).before 5 t d5, (datsV m 0 c).before 6 t d6, s0.had, s0.wp, s0.u, s0.cb, s0.rs, s0.flag⟩) t
    (point_left m c t rfl rfl rfl rfl (fun h => beforeV_6 m c t d6 h) fun h => tabs_scr rfl rfl rfl (hT h)))
  unfold Wins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HS]; · iexact HS
  isplitl [HP]; · iexact HP
  iexact Ho

theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

theorem inv_in (c : Dev nD) : Pipeline.ΦA (Val := Elt Ideal) spec0 c ⊢ inv m c 0 := by
  unfold Pipeline.ΦA inv
  rw [scopedRest0_eq]
  iintro ⟨⟨⟨%f0, S0⟩, ⟨%f1, S1⟩, ⟨%f2, S2⟩, ⟨%f3, S3⟩, ⟨%f4, S4⟩, ⟨%f5, S5⟩⟩, HP⟩
  isplitr [HP]
  · iexists (⟨iblk m c 0 ⟨0, by decide⟩, iblk m c 1 ⟨0, by decide⟩, iblk m c 2 ⟨0, by decide⟩, iblk m c 3 ⟨0, by decide⟩, yBlk m c 0, cBlk m c 0, sBlk m c 0, f0, f1, f2, f3, f4, f5⟩ : St Ideal)
    isplitr; · ipureintro; exact fun h => absurd rfl h
    unfold Scr
    isplitl [S0]; · iexact S0
    isplitl [S1]; · iexact S1
    isplitl [S2]; · iexact S2
    isplitl [S3]; · iexact S3
    isplitl [S4]; · iexact S4
    iexact S5
  · iexact HP

theorem inv_out (c : Dev nD) (t : ℕ) : inv m c t ⊢ Pipeline.ΦA (Val := Elt Ideal) spec0 c := by
  unfold Pipeline.ΦA inv Scr
  rw [scopedRest0_eq]
  iintro ⟨⟨%s, %h, S0, S1, S2, S3, S4, S5⟩, HP⟩
  isplitr [HP]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  · iexact HP

-- the run's implicit arguments are found by unification, which must unfold plain definitions in a metavariable's type
set_option backward.isDefEq.respectTransparency.types false in
theorem run_main : θ_run defs (onTc (τ := τ) (main (F := Ideal))) (s₀ m ρ) (Pipeline.FramePost cfgs (datsV m) 0 (V m)) :=
  Pipeline.θ_run_frame_track (Q' := _) cfgs (datsV m) (0 : Fin 1) launch0 defs₀ Variants.none m ρ main
    (hbody := fun c => (body_obligationV m c).loose) (hshare := fun c => (datsV m 0 c).share_full fun _ => rfl)
    (howed := fun _ _ => rfl) (V := V m) (hmain := hmain m Variants.none) (hA := A_eqV m) (hin := inv_in m) (hout := fun c => inv_out m c _)

end Cert.KernelIdeal.Value

end
-- ==== Proof.Final.lean ====
/- What the kernel's three result arrays hold when it has run. -/
module

public import proofs.«01_k».proof.Proof.Value

@[expose] public section

noncomputable section

namespace Cert.KernelIdeal.Value

open Cert.KernelIdeal.Gen
open Cert.KernelIdeal.Body hiding frame
open Idealize.ShloMosaic Idealize.ShloMosaic.TcCoe Idealize.SL Idealize.SL.Sem

variable (m : (ℓ : Loc nD τ sig) → Buf (Elt Ideal) ℓ) (ρ : Dev nD → PrngReg)

theorem y_of {x : Target.AX} {g : Target.AG} {w : Target.AW} {s : Target.AS} {t a o : ℕ} (ha : a < 384) (i : (⟨2, ![1920, 1536]⟩ : Shape).Idx)
    (h0 : (i 0).val = t * 384 + a) (h1 : (i 1).val = o) : Target.y x g w s i = Target.yAt x g w s t a o := by
  unfold Target.y
  rw [h0, h1, show (t * 384 + a) / 384 = t by omega, show (t * 384 + a) % 384 = a by omega]

theorem codes_of {x : Target.AX} {g : Target.AG} {t a n : ℕ} (ha : a < 384) (i : (⟨2, ![1920, 2048]⟩ : Shape).Idx)
    (h0 : (i 0).val = t * 384 + a) (h1 : (i 1).val = n) : Target.codes x g i = Row.codes (Target.row x t a) (Target.gain g) n := by
  unfold Target.codes
  rw [h0, h1, show (t * 384 + a) / 384 = t by omega, show (t * 384 + a) % 384 = a by omega]

/-- The results. -/
theorem final_y (c : Dev nD) : (datsV m 0 c).arrAt 4 cfg0.N = Target.y (argX m c) (argG m c) (argW m c) (argS m c) := by
  refine (datsV m 0 c).arrAt_eq_of_covers 4 _ (by decide +kernel) fun t hf y => ?_
  blk_simp
  rw [afterV_4]
  exact (y_of (t := t.val) (a := (y 0).val) (y 0).isLt _ (by blk_simp [idx4 t]) (by blk_simp [idx4 t])).symm

/-- The codes. -/
theorem final_codes (c : Dev nD) : (datsV m 0 c).arrAt 5 cfg0.N = Target.codes (argX m c) (argG m c) := by
  refine (datsV m 0 c).arrAt_eq_of_covers 5 _ (by decide +kernel) fun t hf y => ?_
  blk_simp
  rw [afterV_5]
  exact (codes_of (t := t.val) (a := (y 0).val) (y 0).isLt _ (by blk_simp [idx5 t]) (by blk_simp [idx5 t])).symm

/-- The steps. -/
theorem final_scales (c : Dev nD) : (datsV m 0 c).arrAt 6 cfg0.N = Target.scales (argX m c) (argG m c) := by
  refine (datsV m 0 c).arrAt_eq_of_after_last 6 ⟨4, by decide⟩ (by decide +kernel) _ fun j => ?_
  blk_simp
  refine (congrFun (afterV_6 m c ⟨4, by decide⟩) _).trans ?_
  exact if_pos (show (j 0).val ≤ 4 from Nat.le_of_lt_succ (j 0).isLt)

/-- The run: the results, codes and steps, the arguments unchanged. -/
theorem run : θ_run defs (onTc (τ := τ) (main (F := Ideal))) ⟨m, fun _ => 0, ρ⟩ (fun r => ∀ c : Dev nD,
      r.2.mem ((c.tc : Thread nD τ).loc main_v2_0) = Target.y (argX m c) (argG m c) (argW m c) (argS m c)
      ∧ r.2.mem ((c.tc : Thread nD τ).loc main_v2_1) = Target.codes (argX m c) (argG m c)
      ∧ r.2.mem ((c.tc : Thread nD τ).loc main_v2_2) = Target.scales (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final_y m c), ((h c).1 5).trans (final_codes m c), ((h c).1 6).trans (final_scales m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((datsV m 0 c).arrAt_in 2 rfl _).trans ((A_eqV m c 2).trans (V_main_arg2 m c))),
      ((h c).1 3).trans (((datsV m 0 c).arrAt_in 3 rfl _).trans ((A_eqV m c 3).trans (V_main_arg3 m c)))⟩) (run_main m ρ)

end Cert.KernelIdeal.Value

end
-- ==== Proof.RefStage.lean ====
/- One stage of the reference's transform: halves of a group added and subtracted, and put back side by side. -/
module

public import proofs.«01_k».proof.Proof.Wht
public import Idealize.ShloMosaic.Lib.Pointwise
public import Idealize.ShloMosaic.Lib.Pipeline.ValueKit

@[expose] public section

noncomputable section

namespace Cert.RefStage

open Idealize.ShloMosaic

abbrev A3 : Shape := ⟨3, ![5, 384, 2048]⟩
abbrev P5 (q m : ℕ) : Shape := ⟨5, ![5, 384, q, 2, m]⟩
abbrev H5 (q m : ℕ) : Shape := ⟨5, ![5, 384, q, 1, m]⟩
abbrev H4 (q m : ℕ) : Shape := ⟨4, ![5, 384, q, m]⟩

/-- Row `a` of batch `t`, zero past its end. -/
def ext (x : A3.Idx → EReal) (t : Fin 5) (a : Fin 384) (n : ℕ) : EReal := if h : n < 2048 then x (ix3 t a ⟨n, h⟩) else 0

theorem ext_val (x : A3.Idx → EReal) (t : Fin 5) (a : Fin 384) (n : Fin 2048) : ext x t a n = x (ix3 t a n) := by
  unfold ext; rw [dif_pos n.isLt]

/-- The layout facts of a stage with `q` groups of two halves of length `m`. -/
structure Facts (q m : ℕ) : Prop where
  split : A3.ShapeCasts (P5 q m)
  fst : (P5 q m).Slices ![0, 0, 0, 0, 0] (H5 q m)
  snd : (P5 q m).Slices ![0, 0, 0, 1, 0] (H5 q m)
  drop : (H5 q m).ShapeCasts (H4 q m)
  add : (H4 q m).BroadcastsInDim (H5 q m) ![0, 1, 2, 4]
  pair : Shape.Concatenates [H5 q m, H5 q m] (P5 q m) 3
  join : (P5 q m).ShapeCasts A3

variable {q m : ℕ}

/-- The halves at offset `off` of every group. -/
def half (x : FVec Ideal A3 .f32) (off : Fin 5 → ℕ) (h1 : A3.ShapeCasts (P5 q m)) (h2 : (P5 q m).Slices off (H5 q m)) (h3 : (H5 q m).ShapeCasts (H4 q m)) :
    FVec Ideal (H4 q m) .f32 :=
  shapeCast (H4 q m) (extractStridedSlice (H5 q m) off (shapeCast (P5 q m) x h1) h2) h3

/-- One stage. -/
def stage (h : Facts q m) (x : FVec Ideal A3 .f32) : FVec Ideal A3 .f32 :=
  shapeCast A3 (concatenate (P5 q m) 3
    [⟨H5 q m, broadcastInDim (H5 q m) ![0, 1, 2, 4] h.add (addf (half x _ h.split h.fst h.drop) (half x _ h.split h.snd h.drop))⟩,
     ⟨H5 q m, broadcastInDim (H5 q m) ![0, 1, 2, 4] h.add (subf (half x _ h.split h.fst h.drop) (half x _ h.split h.snd h.drop))⟩] h.pair) h.join

theorem half_apply (x : FVec Ideal A3 .f32) (b : Fin 2) (h1 : A3.ShapeCasts (P5 q m)) (h2 : (P5 q m).Slices ![0, 0, 0, b.val, 0] (H5 q m))
    (h3 : (H5 q m).ShapeCasts (H4 q m)) (hq : q * 2 * m = 2048) (t : Fin 5) (a : Fin 384) (u : Fin q) (v : Fin m) :
    half x _ h1 h2 h3 (ix4 t a u v) = ext x t a ((u.val * 2 + b.val) * m + v.val) := by
  have hlt : (u.val * 2 + b.val) * m + v.val < 2048 := by
    rw [← hq]
    calc (u.val * 2 + b.val) * m + v.val < (u.val * 2 + b.val + 1) * m := by rw [Nat.add_mul _ 1, one_mul]; omega
      _ ≤ q * 2 * m := Nat.mul_le_mul_right _ (by omega)
  unfold half
  rw [shapeCast_apply _ h3 _ (ix5 t a u 0 v) (by
      rw [Shape.rowMajor_val_five, Shape.rowMajor_val_four]
      show (((t.val * 384 + a.val) * q + u.val) * 1 + 0) * m + v.val = ((t.val * 384 + a.val) * q + u.val) * m + v.val
      rw [mul_one, add_zero]),
    extractStridedSlice_apply _ _ h2 _ (ix5 t a u b v) (by
      intro k
      match k with
      | ⟨0, _⟩ => exact (zero_add _).symm
      | ⟨1, _⟩ => exact (zero_add _).symm
      | ⟨2, _⟩ => exact (zero_add _).symm
      | ⟨3, _⟩ => rfl
      | ⟨4, _⟩ => exact (zero_add _).symm),
    shapeCast_apply _ h1 _ (ix3 t a ⟨_, hlt⟩) (by
      rw [Shape.rowMajor_val_five, Shape.rowMajor_val_three]
      show (t.val * 384 + a.val) * 2048 + ((u.val * 2 + b.val) * m + v.val) = ((((t.val * 384 + a.val) * q + u.val) * 2 + b.val) * m + v.val)
      rw [← hq]; ring)]
  unfold ext; rw [dif_pos hlt]

theorem stage_apply (h : Facts q m) (hq : q * 2 * m = 2048) (x : FVec Ideal A3 .f32) (t : Fin 5) (a : Fin 384) (n : ℕ) (hn : n < 2048) :
    ext (stage h x) t a n = Wht.stage m (ext x t a) n := by
  have hm : 0 < m := Nat.pos_of_ne_zero fun h => by subst h; omega
  have hv : n % m < m := Nat.mod_lt _ hm
  have hu : n / m / 2 < q := by
    rw [Nat.div_div_eq_div_mul, Nat.div_lt_iff_lt_mul (by omega), ← mul_assoc, mul_comm, ← mul_assoc]
    have : 2 * q * m = q * 2 * m := by ring
    nlinarith
  have hb : n / m % 2 < 2 := Nat.mod_lt _ (by omega)
  have hsum : (n / m / 2 * 2 + n / m % 2) * m + n % m = n := by
    rw [show n / m / 2 * 2 + n / m % 2 = n / m by omega, mul_comm]; exact Nat.div_add_mod n m
  have e0 := half_apply x 0 h.split h.fst h.drop hq t a ⟨_, hu⟩ ⟨_, hv⟩
  have e1 := half_apply x 1 h.split h.snd h.drop hq t a ⟨_, hu⟩ ⟨_, hv⟩
  simp only [Fin.val_zero, Fin.val_one, add_zero] at e0 e1
  have hbc : ∀ z : FVec Ideal (H4 q m) .f32, broadcastInDim (H5 q m) ![0, 1, 2, 4] h.add z (ix5 t a ⟨_, hu⟩ 0 ⟨_, hv⟩) = z (ix4 t a ⟨_, hu⟩ ⟨_, hv⟩) := fun z =>
    broadcastInDim_apply _ h.add z _ _ (by
      intro k
      match k with
      | ⟨0, _⟩ => rfl
      | ⟨1, _⟩ => rfl
      | ⟨2, _⟩ =>
        show n / m / 2 = if q = 1 then 0 else n / m / 2
        split_ifs with h1
        · exact Nat.lt_one_iff.1 (Nat.lt_of_lt_of_le hu h1.le)
        · rfl
      | ⟨3, _⟩ =>
        show n % m = if m = 1 then 0 else n % m
        split_ifs <;> omega)
  unfold ext stage
  rw [dif_pos hn, shapeCast_apply _ h.join _ (ix5 t a ⟨_, hu⟩ ⟨_, hb⟩ ⟨_, hv⟩) (by
      rw [Shape.rowMajor_val_five, Shape.rowMajor_val_three]
      show ((((t.val * 384 + a.val) * q + n / m / 2) * 2 + n / m % 2) * m + n % m) = (t.val * 384 + a.val) * 2048 + n
      rw [← hq]; nlinarith)]
  unfold Wht.stage
  by_cases hz : n / m % 2 = 0
  · rw [if_pos hz, concatenate_pair_apply_left 3 _ _ h.pair _ rfl (ix5 t a ⟨_, hu⟩ 0 ⟨_, hv⟩) (by
        intro k
        match k with
        | ⟨0, _⟩ => rfl
        | ⟨1, _⟩ => rfl
        | ⟨2, _⟩ => rfl
        | ⟨3, _⟩ => exact hz.symm
        | ⟨4, _⟩ => rfl), hbc]
    refine (congrArg₂ (· + ·) e0 e1).trans ?_
    rw [hz, add_zero] at hsum
    rw [add_mul _ 1, one_mul, show n / m / 2 * 2 * m + m + n % m = n / m / 2 * 2 * m + n % m + m by omega, hsum]
    rfl
  · have hz1 : n / m % 2 = 1 := by omega
    rw [if_neg hz, concatenate_pair_apply_right 3 _ _ h.pair _ rfl rfl (ix5 t a ⟨_, hu⟩ 0 ⟨_, hv⟩) (by
        intro k hk
        match k with
        | ⟨0, _⟩ => rfl
        | ⟨1, _⟩ => rfl
        | ⟨2, _⟩ => rfl
        | ⟨3, _⟩ => exact absurd rfl hk
        | ⟨4, _⟩ => rfl) (by exact hz1.symm), hbc]
    refine (congrArg₂ (· - ·) e0 e1).trans ?_
    rw [hz1] at hsum
    rw [hsum, show n / m / 2 * 2 * m + n % m = n - m by rw [add_mul, one_mul] at hsum; omega]
    rfl

/-- A stage at distance `2 ^ e` and the stages after it. -/
theorem step (e : ℕ) (he : e ≤ 10) (h : Facts q (2 ^ e)) (hq : q * 2 * 2 ^ e = 2048) {x y : FVec Ideal A3 .f32} (hy : y = stage h x) (t : Fin 5) (a : Fin 384) :
    ∀ n < 2048, Wht.stages e (ext y t a) n = Wht.stages (e + 1) (ext x t a) n := by
  subst hy
  exact Wht.stages_congr e he (stage_apply h hq x t a)

end Cert.RefStage

end
-- ==== Proof.RefHost.lean ====
/- The reference's host operations before its kernel call, read off the arguments. -/
module

public import proofs.«01_k».proof.Proof.RefStage
public import proofs.«01_k».proof.Proof.Target
public import proofs.«01_k».proof.Proof.Gen.ReferenceIdeal.Value
public import Idealize.ShloMosaic.Lib.StableHlo.ReadAt

@[expose] public section

noncomputable section

namespace Cert.ReferenceIdeal.Value

open Cert.ReferenceIdeal.Gen
open Idealize.ShloMosaic Idealize.ShloMosaic.TcCoe Idealize.SL Idealize.SL.Sem

variable (m : (ℓ : Loc nD τ sig) → Buf (Elt Ideal) ℓ)

/-- Operations `k` to `k + n` of the first stretch. -/
abbrev seg (k n : ℕ) : List (HloOp τ sig (Elt Ideal)) := (hostOps0.drop k).take n

/-- The operations after the transform, and those of them after the steps. -/
abbrev last : List (HloOp τ sig (Elt Ideal)) := hostOps0_1 ++ (hostOps0_2 ++ (hostOps0_3 ++ (hostOps0_4 ++ (hostOps0_5 ++ (hostOps0_6 ++ [])))))
abbrev rest : List (HloOp τ sig (Elt Ideal)) := hostOps0.drop 138 ++ last

/-- The buffers after `k` operations. -/
abbrev W (c : Dev nD) (k : ℕ) : Valuation τ sig (Elt Ideal) := StableHlo.after (hostOps0.take k) fun b => m (c, b)

theorem W_add (c : Dev nD) (k n : ℕ) : W m c (k + n) = StableHlo.after (seg k n) (W m c k) := by
  unfold W seg
  rw [List.take_add, StableHlo.after_append]

theorem V_rest (c : Dev nD) (b : Ref sig .tc) : V m c b = StableHlo.after rest (W m c 138) b := by
  unfold W rest
  rw [← StableHlo.after_append, ← List.append_assoc, List.take_append_drop]
  rfl

theorem facts0 : RefStage.Facts 1 1024 := by constructor <;> decide
theorem facts1 : RefStage.Facts 2 512 := by constructor <;> decide
theorem facts2 : RefStage.Facts 4 256 := by constructor <;> decide
theorem facts3 : RefStage.Facts 8 128 := by constructor <;> decide
theorem facts4 : RefStage.Facts 16 64 := by constructor <;> decide
theorem facts5 : RefStage.Facts 32 32 := by constructor <;> decide
theorem facts6 : RefStage.Facts 64 16 := by constructor <;> decide
theorem facts7 : RefStage.Facts 128 8 := by constructor <;> decide
theorem facts8 : RefStage.Facts 256 4 := by constructor <;> decide
theorem facts9 : RefStage.Facts 512 2 := by constructor <;> decide
theorem facts10 : RefStage.Facts 1024 1 := by constructor <;> decide

variable (U : Valuation τ sig (Elt Ideal))

theorem seg0 : StableHlo.after (seg 17 11) U main_v24 = RefStage.stage facts0 (U main_v13) := by
  simp only [seg, hostOps0, List.drop_succ_cons, List.drop_zero, List.take_succ_cons, List.take_zero]
  after_reads_simp
  rfl

theorem seg1 : StableHlo.after (seg 28 11) U main_v35 = RefStage.stage facts1 (U main_v24) := by
  simp only [seg, hostOps0, List.drop_succ_cons, List.drop_zero, List.take_succ_cons, List.take_zero]
  after_reads_simp
  rfl

theorem seg2 : StableHlo.after (seg 39 11) U main_v46 = RefStage.stage facts2 (U main_v35) := by
  simp only [seg, hostOps0, List.drop_succ_cons, List.drop_zero, List.take_succ_cons, List.take_zero]
  after_reads_simp
  rfl

theorem seg3 : StableHlo.after (seg 50 11) U main_v57 = RefStage.stage facts3 (U main_v46) := by
  simp only [seg, hostOps0, List.drop_succ_cons, List.drop_zero, List.take_succ_cons, List.take_zero]
  after_reads_simp
  rfl

theorem seg4 : StableHlo.after (seg 61 11) U main_v68 = RefStage.stage facts4 (U main_v57) := by
  simp only [seg, hostOps0, List.drop_succ_cons, List.drop_zero, List.take_succ_cons, List.take_zero]
  after_reads_simp
  rfl

theorem seg5 : StableHlo.after (seg 72 11) U main_v79 = RefStage.stage facts5 (U main_v68) := by
  simp only [seg, hostOps0, List.drop_succ_cons, List.drop_zero, List.take_succ_cons, List.take_zero]
  after_reads_simp
  rfl

theorem seg6 : StableHlo.after (seg 83 11) U main_v90 = RefStage.stage facts6 (U main_v79) := by
  simp only [seg, hostOps0, List.drop_succ_cons, List.drop_zero, List.take_succ_cons, List.take_zero]
  after_reads_simp
  rfl

theorem seg7 : StableHlo.after (seg 94 11) U main_v101 = RefStage.stage facts7 (U main_v90) := by
  simp only [seg, hostOps0, List.drop_succ_cons, List.drop_zero, List.take_succ_cons, List.take_zero]
  after_reads_simp
  rfl

theorem seg8 : StableHlo.after (seg 105 11) U main_v112 = RefStage.stage facts8 (U main_v101) := by
  simp only [seg, hostOps0, List.drop_succ_cons, List.drop_zero, List.take_succ_cons, List.take_zero]
  after_reads_simp
  rfl

theorem seg9 : StableHlo.after (seg 116 11) U main_v123 = RefStage.stage facts9 (U main_v112) := by
  simp only [seg, hostOps0, List.drop_succ_cons, List.drop_zero, List.take_succ_cons, List.take_zero]
  after_reads_simp
  rfl

theorem seg10 : StableHlo.after (seg 127 11) U main_v134 = RefStage.stage facts10 (U main_v123) := by
  simp only [seg, hostOps0, List.drop_succ_cons, List.drop_zero, List.take_succ_cons, List.take_zero]
  after_reads_simp
  rfl

/-- The first two arguments. -/
abbrev xOf : Target.AX := U main_arg0
abbrev gOf : Target.AG := U main_arg1

theorem row_val (x : Target.AX) (t : Fin 5) (a : Fin 384) (n : Fin 2048) : x (ix3 t a n) = Target.row x t a n := by
  unfold Target.row; rw [dif_pos ⟨t.isLt, a.isLt, n.isLt⟩]

theorem gain_val (g : Target.AG) (n : Fin 2048) : g (ix1 n) = Target.gain g n := by
  unfold Target.gain; rw [dif_pos n.isLt]

theorem div_len (x : EReal) : Ideal.div x Row.len = x * Row.rlen := by
  rw [Row.len_val, Row.rlen_val]
  simp only [Ideal.div]
  rw [if_neg (by norm_num), show ((1 / 2048 : ℝ)) = (2048 : ℝ)⁻¹ by norm_num, EReal.coe_inv]

/-- The transform's input. -/
theorem pre (t : Fin 5) (a : Fin 384) (n : ℕ) (hn : n < 2048) : RefStage.ext (StableHlo.after (seg 0 17) U main_v13) t a n
    = Target.row (xOf U) t a n * Row.nrm (Target.row (xOf U) t a) * Target.gain (gOf U) n := by
  unfold RefStage.ext
  rw [dif_pos hn]
  simp only [seg, hostOps0, List.drop_succ_cons, List.drop_zero, List.take_succ_cons, List.take_zero]
  after_reads_at
  refine congrArg₂ (· * ·) (congrArg₂ (· * ·) (row_val (xOf U) t a ⟨n, hn⟩) ?_) (gain_val (gOf U) ⟨n, hn⟩)
  unfold Row.nrm
  rw [← div_len]
  refine congrArg (fun z => Ideal.rsqrt (Ideal.div z Row.len + Row.eps)) ?_
  unfold Row.ssq
  rw [← Fin.sum_univ_eq_sum_range (fun n => Target.row (xOf U) t a n * Target.row (xOf U) t a n)]
  exact Finset.sum_congr rfl fun k _ => congrArg₂ (· * ·) (row_val (xOf U) t a k) (row_val (xOf U) t a k)

/-- The largest magnitude of a row, times a constant. -/
theorem fold_amax (z : RefStage.A3.Idx → EReal) (t : Fin 5) (a : Fin 384) :
    Finset.fold max (Ideal.ofBits FTy.f32 4286578688#32) (fun x : Fin 2048 => Row.mag (z (ix3 t a x) * Row.cc)) Finset.univ
      = Row.amax fun n => RefStage.ext z t a n * Row.cc := by
  rw [show Ideal.ofBits .f32 4286578688#32 = ⊥ by simp [Ideal.ofBits, Ideal.ieee]]
  unfold Row.amax
  refine le_antisymm (Finset.sup_le (f := fun x : Fin 2048 => Row.mag (z (ix3 t a x) * Row.cc)) fun k _ => ?_) (Finset.sup_le fun n hn => ?_)
  · rw [← RefStage.ext_val z t a k]
    exact Finset.le_sup (f := fun n => Row.mag (RefStage.ext z t a n * Row.cc)) (Finset.mem_range.2 k.isLt)
  · have hn := Finset.mem_range.1 hn
    have := Finset.le_sup (f := fun x : Fin 2048 => Row.mag (z (ix3 t a x) * Row.cc)) (Finset.mem_univ ⟨n, hn⟩)
    rw [← RefStage.ext_val z t a ⟨n, hn⟩] at this
    exact this

/-- A row's step, of the transform's output. -/
def stepOf (z : RefStage.A3.Idx → EReal) (t : Fin 5) (a : Fin 384) : EReal := Row.scaleOf (Row.amax fun n => RefStage.ext z t a n * Row.cc)

theorem last_scale : StableHlo.after last U main_v143 = select (U main_v140) (broadcastInDim S5x384 ![] bcast_S_S5x384 (U main_cst_6)) (U main_v142) := by
  simp only [last, hostOps0_1, hostOps0_2, hostOps0_3, hostOps0_4, hostOps0_5, hostOps0_6, List.cons_append, List.nil_append]
  after_reads_simp
  rfl

/-- The rounded entries, of the rotated rows and the steps. -/
def gridOf (h : FVec Ideal S5x384x2048 .f32) (s : FVec Ideal S5x384 .f32) : FVec Ideal S5x384x2048 .f32 :=
  minimumf (broadcastInDim S5x384x2048 ![] bcast_S_S5x384x2048 (constant S_ .f32 0x40E00000#32))
    (maximumf (broadcastInDim S5x384x2048 ![] bcast_S_S5x384x2048 (constant S_ .f32 0xC0E00000#32))
      (Host.roundeven (Host.divf h (broadcastInDim S5x384x2048 ![0, 1, 2] bcast_S5x384x1_S5x384x2048_0_1_2 (broadcastInDim S5x384x1 ![0, 1] bcast_S5x384_S5x384x1_0_1 s)))))

theorem last_codes : StableHlo.after last U main_v149 = shapeCast S1920x2048 (gridOf (U main_v136) (select (U main_v140) (broadcastInDim S5x384 ![] bcast_S_S5x384 (U main_cst_6)) (U main_v142))) shapeCasts_S5x384x2048_S1920x2048 := by
  simp only [last, hostOps0_1, hostOps0_2, hostOps0_3, hostOps0_4, hostOps0_5, hostOps0_6, List.cons_append, List.nil_append]
  after_reads_simp
  rfl

theorem last_rows : StableHlo.after last U main_v150 = shapeCast S1920x1 (select (U main_v140) (broadcastInDim S5x384 ![] bcast_S_S5x384 (U main_cst_6)) (U main_v142)) shapeCasts_S5x384_S1920x1 := by
  simp only [last, hostOps0_1, hostOps0_2, hostOps0_3, hostOps0_4, hostOps0_5, hostOps0_6, List.cons_append, List.nil_append]
  after_reads_simp
  rfl

/-- The rotated rows, the largest magnitudes of rows, and the steps of largest magnitudes. -/
def hOf (z : FVec Ideal S5x384x2048 .f32) : FVec Ideal S5x384x2048 .f32 := mulf z (broadcastInDim S5x384x2048 ![] bcast_S_S5x384x2048 (constant S_ .f32 0x3CB504F3#32))
def aOf (x : FVec Ideal S5x384x2048 .f32) : FVec Ideal S5x384 .f32 :=
  Host.reduce FloatOps.maximumf x (constant S_ .f32 0xFF800000#32) reducesTo_S5x384x2048_S5x384_d2 h_S_
def dOf (z : FVec Ideal S5x384 .f32) : FVec Ideal S5x384 .f32 :=
  select (cmpf .oeq z (broadcastInDim S5x384 ![] bcast_S_S5x384 (constant S_ .f32 0x00000000#32)))
    (broadcastInDim S5x384 ![] bcast_S_S5x384 (constant S_ .f32 0x3F800000#32))
    (Host.divf z (broadcastInDim S5x384 ![] bcast_S_S5x384 (constant S_ .f32 0x40E00000#32)))

/-- Every row's step, of the transform's output. -/
def sOf (z : FVec Ideal S5x384x2048 .f32) : FVec Ideal S5x384 .f32 := dOf (aOf (Host.absf (hOf z)))

theorem mid_h : StableHlo.after (hostOps0.drop 138) U main_v136 = hOf (U main_v134) := by
  simp only [hostOps0, List.drop_succ_cons, List.drop_zero]
  after_reads_simp
  rfl

theorem mid_s : select (StableHlo.after (hostOps0.drop 138) U main_v140 : IVec S5x384 1) (broadcastInDim S5x384 ![] bcast_S_S5x384 (StableHlo.after (hostOps0.drop 138) U main_cst_6 : FVec Ideal S_ .f32))
    (StableHlo.after (hostOps0.drop 138) U main_v142 : FVec Ideal S5x384 .f32) = sOf (U main_v134) := by
  simp only [hostOps0, List.drop_succ_cons, List.drop_zero]
  after_reads_simp
  rfl

theorem aOf_at (x : FVec Ideal S5x384x2048 .f32) (t : Fin 5) (a : Fin 384) : (aOf x (ix2 t a) : EReal) = Finset.fold max (Ideal.ofBits FTy.f32 4286578688#32) (fun k : Fin 2048 => (x (ix3 t a k) : EReal)) Finset.univ := by
  unfold aOf
  pointwise

theorem dOf_at (z : FVec Ideal S5x384 .f32) (t : Fin 5) (a : Fin 384) : (dOf z (ix2 t a) : EReal) = Row.scaleOf (z (ix2 t a)) := by
  unfold dOf
  pointwise
  unfold Row.scaleOf
  rw [Row.one_val]
  rfl

theorem hOf_at (z : FVec Ideal S5x384x2048 .f32) (t : Fin 5) (a : Fin 384) (k : Fin 2048) : (Host.absf (hOf z) (ix3 t a k) : EReal) = Row.mag (RefStage.ext z t a k * Row.cc) := by
  rw [RefStage.ext_val z t a k]
  rfl

theorem sOf_at (z : FVec Ideal S5x384x2048 .f32) (t : Fin 5) (a : Fin 384) : (sOf z (ix2 t a) : EReal) = stepOf z t a := by
  unfold sOf stepOf
  rw [dOf_at, aOf_at, ← fold_amax]
  refine congrArg Row.scaleOf (Finset.fold_congr fun k _ => ?_)
  rw [hOf_at, RefStage.ext_val z t a k]

theorem gridOf_at (h : FVec Ideal S5x384x2048 .f32) (s : FVec Ideal S5x384 .f32) (r : Fin 1920) (n : Fin 2048) :
    Ideal.fptosi 8 (shapeCast S1920x2048 (gridOf h s) shapeCasts_S5x384x2048_S1920x2048 (ix2 r n) : EReal)
      = Row.code (Ideal.div (h (ix3 ⟨r.val / 384, by omega⟩ ⟨r.val % 384, by omega⟩ n)) (s (ix2 ⟨r.val / 384, by omega⟩ ⟨r.val % 384, by omega⟩))) := by
  unfold gridOf
  pointwise
  rfl

theorem rows_at (s : FVec Ideal S5x384 .f32) (r : Fin 1920) :
    (shapeCast S1920x1 s shapeCasts_S5x384_S1920x1 (ix2 r 0) : EReal) = s (ix2 ⟨r.val / 384, by omega⟩ ⟨r.val % 384, by omega⟩) := by
  pointwise

theorem rest_scale : StableHlo.after rest U main_v143 = sOf (U main_v134) := by
  unfold rest
  rw [StableHlo.after_append, last_scale]
  exact mid_s U

theorem rest_codes : StableHlo.after rest U main_v149 = shapeCast S1920x2048 (gridOf (hOf (U main_v134)) (sOf (U main_v134))) shapeCasts_S5x384x2048_S1920x2048 := by
  unfold rest
  rw [StableHlo.after_append, last_codes, mid_h]
  exact congrArg (fun s => shapeCast S1920x2048 (gridOf (hOf (U main_v134)) s) shapeCasts_S5x384x2048_S1920x2048) (mid_s U)

theorem rest_rows : StableHlo.after rest U main_v150 = shapeCast S1920x1 (sOf (U main_v134)) shapeCasts_S5x384_S1920x1 := by
  unfold rest
  rw [StableHlo.after_append, last_rows]
  exact congrArg (fun s => shapeCast S1920x1 s shapeCasts_S5x384_S1920x1) (mid_s U)

end Cert.ReferenceIdeal.Value

end
-- ==== Proof.RefValue.lean ====
/- The reference's steps and rounded entries, as functions of the arguments. -/
module

public import proofs.«01_k».proof.Proof.RefHost

@[expose] public section

noncomputable section

namespace Cert.ReferenceIdeal.Value

open Cert.ReferenceIdeal.Gen
open Idealize.ShloMosaic Idealize.ShloMosaic.TcCoe Idealize.SL Idealize.SL.Sem

variable (m : (ℓ : Loc nD τ sig) → Buf (Elt Ideal) ℓ)

/-- The four arguments. -/
abbrev argX (c : Dev nD) : Target.AX := m ((c.tc : Thread nD τ).loc main_arg0)
abbrev argG (c : Dev nD) : Target.AG := m ((c.tc : Thread nD τ).loc main_arg1)
abbrev argW (c : Dev nD) : Target.AW := m ((c.tc : Thread nD τ).loc main_arg2)
abbrev argS (c : Dev nD) : Target.AS := m ((c.tc : Thread nD τ).loc main_arg3)

/-- The transform's output, of any buffers that follow the stages. -/
theorem wht_of (W : ℕ → Valuation τ sig (Elt Ideal)) (hW : ∀ k n, W (k + n) = StableHlo.after (seg k n) (W k)) (t : Fin 5) (a : Fin 384) (n : ℕ) (hn : n < 2048) :
    RefStage.ext (W 138 main_v134) t a n
      = Wht.wht (fun k => Target.row (xOf (W 0)) t a k * Row.nrm (Target.row (xOf (W 0)) t a) * Target.gain (gOf (W 0)) k) n := by
  have s0 : W 28 main_v24 = RefStage.stage facts0 (W 17 main_v13) := by rw [show W 28 = _ from hW 17 11]; exact seg0 _
  have s1 : W 39 main_v35 = RefStage.stage facts1 (W 28 main_v24) := by rw [show W 39 = _ from hW 28 11]; exact seg1 _
  have s2 : W 50 main_v46 = RefStage.stage facts2 (W 39 main_v35) := by rw [show W 50 = _ from hW 39 11]; exact seg2 _
  have s3 : W 61 main_v57 = RefStage.stage facts3 (W 50 main_v46) := by rw [show W 61 = _ from hW 50 11]; exact seg3 _
  have s4 : W 72 main_v68 = RefStage.stage facts4 (W 61 main_v57) := by rw [show W 72 = _ from hW 61 11]; exact seg4 _
  have s5 : W 83 main_v79 = RefStage.stage facts5 (W 72 main_v68) := by rw [show W 83 = _ from hW 72 11]; exact seg5 _
  have s6 : W 94 main_v90 = RefStage.stage facts6 (W 83 main_v79) := by rw [show W 94 = _ from hW 83 11]; exact seg6 _
  have s7 : W 105 main_v101 = RefStage.stage facts7 (W 94 main_v90) := by rw [show W 105 = _ from hW 94 11]; exact seg7 _
  have s8 : W 116 main_v112 = RefStage.stage facts8 (W 105 main_v101) := by rw [show W 116 = _ from hW 105 11]; exact seg8 _
  have s9 : W 127 main_v123 = RefStage.stage facts9 (W 116 main_v112) := by rw [show W 127 = _ from hW 116 11]; exact seg9 _
  have s10 : W 138 main_v134 = RefStage.stage facts10 (W 127 main_v123) := by rw [show W 138 = _ from hW 127 11]; exact seg10 _
  have p0 : ∀ k < 2048, RefStage.ext (W 17 main_v13) t a k = Target.row (xOf (W 0)) t a k * Row.nrm (Target.row (xOf (W 0)) t a) * Target.gain (gOf (W 0)) k := by
    rw [show W 17 = _ from hW 0 17]; exact fun k hk => pre (W 0) t a k hk
  generalize W 17 main_v13 = z0 at s0 p0
  generalize W 28 main_v24 = z1 at s0 s1
  generalize W 39 main_v35 = z2 at s1 s2
  generalize W 50 main_v46 = z3 at s2 s3
  generalize W 61 main_v57 = z4 at s3 s4
  generalize W 72 main_v68 = z5 at s4 s5
  generalize W 83 main_v79 = z6 at s5 s6
  generalize W 94 main_v90 = z7 at s6 s7
  generalize W 105 main_v101 = z8 at s7 s8
  generalize W 116 main_v112 = z9 at s8 s9
  generalize W 127 main_v123 = z10 at s9 s10
  generalize W 138 main_v134 = z11 at s10 ⊢
  have h0 := RefStage.step 0 (by omega) facts10 (by norm_num) s10 t a n hn
  have h1 := h0.trans (RefStage.step 1 (by omega) facts9 (by norm_num) s9 t a n hn)
  have h2 := h1.trans (RefStage.step 2 (by omega) facts8 (by norm_num) s8 t a n hn)
  have h3 := h2.trans (RefStage.step 3 (by omega) facts7 (by norm_num) s7 t a n hn)
  have h4 := h3.trans (RefStage.step 4 (by omega) facts6 (by norm_num) s6 t a n hn)
  have h5 := h4.trans (RefStage.step 5 (by omega) facts5 (by norm_num) s5 t a n hn)
  have h6 := h5.trans (RefStage.step 6 (by omega) facts4 (by norm_num) s4 t a n hn)
  have h7 := h6.trans (RefStage.step 7 (by omega) facts3 (by norm_num) s3 t a n hn)
  have h8 := h7.trans (RefStage.step 8 (by omega) facts2 (by norm_num) s2 t a n hn)
  have h9 := h8.trans (RefStage.step 9 (by omega) facts1 (by norm_num) s1 t a n hn)
  have h10 := h9.trans (RefStage.step 10 (by omega) facts0 (by norm_num) s0 t a n hn)
  exact h10.trans (Wht.wht_congr p0 n hn)

/-- The transform's output. -/
theorem W_wht (c : Dev nD) (t : Fin 5) (a : Fin 384) (n : ℕ) (hn : n < 2048) : RefStage.ext (W m c 138 main_v134) t a n
    = Wht.wht (fun k => Target.row (argX m c) t a k * Row.nrm (Target.row (argX m c) t a) * Target.gain (argG m c) k) n :=
  wht_of (W m c) (W_add m c) t a n hn

/-- The rotated row. -/
theorem W_hR (c : Dev nD) (t : Fin 5) (a : Fin 384) (n : ℕ) (hn : n < 2048) :
    RefStage.ext (W m c 138 main_v134) t a n * Row.cc = Row.hR (Target.row (argX m c) t a) (Target.gain (argG m c)) n := by
  rw [W_wht m c t a n hn]; rfl

theorem W_step (c : Dev nD) (t : Fin 5) (a : Fin 384) : stepOf (W m c 138 main_v134) t a = Row.scale (Target.row (argX m c) t a) (Target.gain (argG m c)) := by
  unfold stepOf Row.scale
  exact congrArg Row.scaleOf (Row.amax_congr fun n hn => congrArg Row.mag (W_hR m c t a n hn))

theorem V_scales (c : Dev nD) : V m c main_v143 = Target.scales (argX m c) (argG m c) := by
  rw [V_rest, rest_scale]
  refine funext fun i => ?_
  obtain ⟨t, a, rfl⟩ : ∃ t a, i = ix2 t a := ⟨i 0, i 1, eq_ix2 i⟩
  exact (sOf_at _ t a).trans (W_step m c t a)

theorem V_codes (c : Dev nD) (r : Fin 1920) (n : Fin 2048) :
    Ideal.fptosi 8 (V m c main_v149 (ix2 r n) : EReal) = Target.codes (argX m c) (argG m c) (ix2 r n) := by
  rw [V_rest, rest_codes]
  refine (gridOf_at _ _ r n).trans ?_
  rw [sOf_at, W_step]
  refine congrArg (fun h => Row.code (Ideal.div h _)) ((congrArg (· * Row.cc) (RefStage.ext_val (W m c 138 main_v134) _ _ n).symm).trans (W_hR m c _ _ n n.isLt))

theorem V_rows (c : Dev nD) (r : Fin 1920) : (V m c main_v150 (ix2 r 0) : EReal) = Row.scale (Target.row (argX m c) (r.val / 384) (r.val % 384)) (Target.gain (argG m c)) := by
  rw [V_rest, rest_rows]
  exact ((rows_at _ r).trans (sOf_at _ _ _)).trans (W_step m c _ _)

end Cert.ReferenceIdeal.Value

end
-- ==== Proof.RefBody.lean ====
/- The reference's kernel call: what it leaves in its two result arrays. -/
module

public import proofs.«01_k».proof.Proof.RefValue
public import Idealize.ShloMosaic.Lib.Pipeline.ValueKit
public import Idealize.ShloMosaic.Lib.Claim

@[expose] public section

noncomputable section

namespace Cert.ReferenceIdeal.Value

open Cert.ReferenceIdeal.Gen
open Idealize.ShloMosaic Idealize.ShloMosaic.TcCoe Idealize.SL Idealize.SL.Sem

/-- Field `f` of a byte, less one. -/
theorem field_int (f : ℕ) (hf : f < 4) (b : BitVec 8) :
    (IntOp.subi (IntOp.andi (IntOp.shrui .vector (BitVec.setWidth 32 b) (BitVec.ofNat 32 (2 * f))) 3#32) 1#32).toInt = ((b.toNat / 4 ^ f % 4 : ℕ) : ℤ) - 1 := by
  revert b
  match f, hf with
  | 0, _ => decide +kernel
  | 1, _ => decide +kernel
  | 2, _ => decide +kernel
  | 3, _ => decide +kernel

variable (x : Vec Ideal S1920x2048 .f32) (w : Vec Ideal S512x1536 .i8) (s : Vec Ideal S1920x1 .f32) (ws : Elt Ideal .f32)

theorem pay2_at (r : Fin 1920) (n : Fin 2048) : (k0_pay2 x (ix2 r n) : BitVec 8) = Ideal.fptosi 8 (x (ix2 r n) : EReal) := by
  unfold k0_pay2
  pointwise
  rfl

/-- The codes of field `f` times the field less one. -/
theorem field_sum {c W : ℕ → BitVec 8} (f : ℕ) (hf : f < 4) {v : Fin 512 → BitVec 8} {u : Fin 512 → BitVec 8} (hv : ∀ k, v k = c (512 * f + k)) (hu : ∀ k, u k = W k) :
    ∑ k : Fin 512, (FloatOps.sitofp (F := Ideal) .bf16 (v k) : EReal)
        * (FloatOps.sitofp (F := Ideal) .f32 (IntOp.subi (IntOp.andi (IntOp.shrui .vector (BitVec.setWidth 32 (u k)) (BitVec.ofNat 32 (2 * f))) 3#32) 1#32) : EReal)
      = ∑ k ∈ Finset.range 512, (fun n => ((((c n).toInt : ℝ)) : EReal) * Proj.tern (fun k => (W k).toNat) n) (512 * f + k) := by
  rw [← Fin.sum_univ_eq_sum_range (fun k => (fun n => ((((c n).toInt : ℝ)) : EReal) * Proj.tern (fun k => (W k).toNat) n) (512 * f + k))]
  refine Finset.sum_congr rfl fun k _ => ?_
  have hk := k.isLt
  rw [hv k, hu k]
  refine congrArg₂ (· * ·) rfl ?_
  show (((IntOp.subi (IntOp.andi (IntOp.shrui .vector (BitVec.setWidth 32 (W k)) (BitVec.ofNat 32 (2 * f))) 3#32) 1#32).toInt : ℝ) : EReal) = _
  rw [field_int f hf, Proj.tern_val]
  unfold Proj.fld
  rw [show (512 * f + k.val) % 512 = k.val by omega, show (512 * f + k.val) / 512 = f by omega]

/-- The product's entry, of codes and bytes named. -/
theorem y_at {c W : ℕ → BitVec 8} (r : Fin 1920) (o : Fin 1536) (hc : ∀ n : Fin 2048, (FloatOps.fptosi (F := Ideal) (φ := .f32) 8 (x (ix2 r n)) : BitVec 8) = c n) (hW : ∀ k : Fin 512, w (ix2 k o) = W k) :
    (k0_pay1 (k0_pay2 x) (k0_pay3 x w w) (k0_pay4 (F := Ideal) w) k0_pay5 w s ws (ix2 r o) : EReal)
      = Proj.out (fun n => (c n).toInt) (fun k => (W k).toNat) (s (ix2 r 0)) ws := by
  unfold Proj.out
  rw [← Proj.sum_tern, Proj.sum_fields, ← field_sum 0 (by omega) (fun k => (hc ⟨512 * 0 + k, by omega⟩)) hW, ← field_sum 1 (by omega) (fun k => (hc ⟨512 * 1 + k, by omega⟩)) hW,
    ← field_sum 2 (by omega) (fun k => (hc ⟨512 * 2 + k, by omega⟩)) hW, ← field_sum 3 (by omega) (fun k => (hc ⟨512 * 3 + k, by omega⟩)) hW]
  unfold k0_pay1 k0_pay3 k0_pay4 k0_pay5 k0_pay2
  pointwise

end Cert.ReferenceIdeal.Value

end
-- ==== Proof.RefFinal.lean ====
/- What the reference's three result arrays hold when it has run. -/
module

public import proofs.«01_k».proof.Proof.RefBody
public import Idealize.ShloMosaic.Lib.Pipeline.ValueKit
public import Idealize.ShloMosaic.Lib.Pipeline.ReadBack
public import Idealize.ShloMosaic.Lib.Claim

@[expose] public section

noncomputable section

namespace Cert.ReferenceIdeal.Value

open Cert.ReferenceIdeal.Gen
open Idealize.ShloMosaic Idealize.ShloMosaic.TcCoe Idealize.SL Idealize.SL.Sem

variable (m : (ℓ : Loc nD τ sig) → Buf (Elt Ideal) ℓ)

/-- Each window's block is its whole array. -/
theorem zero0 : ∀ (t : Fin cfg0.N) (a : Fin 2), win0_0.index t a = 0 := (by decide +kernel : ∀ (t : Fin grid0.N) (a : Fin 2), win0_0.index t a = 0)
theorem zero1 : ∀ (t : Fin cfg0.N) (a : Fin 2), win0_1.index t a = 0 := (by decide +kernel : ∀ (t : Fin grid0.N) (a : Fin 2), win0_1.index t a = 0)
theorem zero2 : ∀ (t : Fin cfg0.N) (a : Fin 2), win0_2.index t a = 0 := (by decide +kernel : ∀ (t : Fin grid0.N) (a : Fin 2), win0_2.index t a = 0)
theorem zero3 : ∀ (t : Fin cfg0.N) (a : Fin 1), win0_3.index t a = 0 := (by decide +kernel : ∀ (t : Fin grid0.N) (a : Fin 1), win0_3.index t a = 0)

theorem zero4 : ∀ (t : Fin cfg0.N) (a : Fin 2), win0_4.index t a = 0 := (by decide +kernel : ∀ (t : Fin grid0.N) (a : Fin 2), win0_4.index t a = 0)
theorem zero5 : ∀ (t : Fin cfg0.N) (a : Fin 2), win0_5.index t a = 0 := (by decide +kernel : ∀ (t : Fin grid0.N) (a : Fin 2), win0_5.index t a = 0)

theorem emb4 (t : Fin cfg0.N) (y : (⟨2, ![1920, 1536]⟩ : Shape).Idx) : ((View.whole main_v151_0).slice (win0_4.rect t)).emb y = y :=
  funext fun a => Fin.ext (Pipeline.Window.rect_emb_val_of_index_zero win0_4 t a (zero4 t a) y)

theorem emb5 (t : Fin cfg0.N) (y : (⟨2, ![1920, 2048]⟩ : Shape).Idx) : ((View.whole main_v151_1).slice (win0_5.rect t)).emb y = y :=
  funext fun a => Fin.ext (Pipeline.Window.rect_emb_val_of_index_zero win0_5 t a (zero5 t a) y)

theorem emb0 (t : Fin cfg0.N) (y : (⟨2, ![1920, 2048]⟩ : Shape).Idx) : ((cfg0.win 0).blk t).view.emb y = y :=
  funext fun a => Fin.ext (Pipeline.Window.rect_emb_val_of_index_zero win0_0 t a (zero0 t a) y)

theorem emb1 (t : Fin cfg0.N) (y : (⟨2, ![1920, 1]⟩ : Shape).Idx) : ((cfg0.win 1).blk t).view.emb y = y :=
  funext fun a => Fin.ext (Pipeline.Window.rect_emb_val_of_index_zero win0_1 t a (zero1 t a) y)

theorem emb2 (t : Fin cfg0.N) (y : (⟨2, ![512, 1536]⟩ : Shape).Idx) : ((cfg0.win 2).blk t).view.emb y = y :=
  funext fun a => Fin.ext (Pipeline.Window.rect_emb_val_of_index_zero win0_2 t a (zero2 t a) y)

theorem emb3 (t : Fin cfg0.N) (y : (⟨1, ![1]⟩ : Shape).Idx) : ((cfg0.win 3).blk t).view.emb y = y :=
  funext fun a => Fin.ext (Pipeline.Window.rect_emb_val_of_index_zero win0_3 t a (zero3 t a) y)

theorem iblk_x (c : Dev nD) (t : Fin cfg0.N) (r : Fin 1920) (n : Fin 2048) : (iblk m c 0 t (ix2 r n) : EReal) = V m c main_v149 (ix2 r n) := by
  show ((cfg0.win 0).blk t).view.read (Elt Ideal) (V m c main_v149) (ix2 r n) = _
  generalize V m c main_v149 = A
  exact (eq_of_heq (cast_heq _ _)).trans (congrArg A (emb0 t (ix2 r n)))

theorem iblk_rows (c : Dev nD) (t : Fin cfg0.N) (r : Fin 1920) : (iblk m c 1 t (ix2 r 0) : EReal) = V m c main_v150 (ix2 r 0) := by
  show ((cfg0.win 1).blk t).view.read (Elt Ideal) (V m c main_v150) (ix2 r 0) = _
  generalize V m c main_v150 = A
  exact (eq_of_heq (cast_heq _ _)).trans (congrArg A (emb1 t (ix2 r 0)))

theorem iblk_w (c : Dev nD) (t : Fin cfg0.N) (k : Fin 512) (o : Fin 1536) : (iblk m c 2 t (ix2 k o) : BitVec 8) = Target.wt (argW m c) k o := by
  unfold Target.wt
  rw [dif_pos ⟨k.isLt, o.isLt⟩, show argW m c = V m c main_arg2 from (V_main_arg2 m c).symm]
  show ((cfg0.win 2).blk t).view.read (Elt Ideal) (V m c main_arg2) (ix2 k o) = _
  generalize V m c main_arg2 = A
  exact (eq_of_heq (cast_heq _ _)).trans (congrArg A (emb2 t (ix2 k o)))

theorem iblk_ws (c : Dev nD) (t : Fin cfg0.N) (q : Fin 1) : (iblk m c 3 t (ix1 q) : EReal) = Target.wstep (argS m c) := by
  obtain rfl : q = 0 := Subsingleton.elim q 0
  unfold Target.wstep
  rw [show argS m c = V m c main_arg3 from (V_main_arg3 m c).symm]
  show ((cfg0.win 3).blk t).view.read (Elt Ideal) (V m c main_arg3) (ix1 0) = _
  generalize V m c main_arg3 = A
  exact (eq_of_heq (cast_heq _ _)).trans (congrArg A (emb3 t (ix1 0)))

/-- The codes the reference writes. -/
theorem codes_at (c : Dev nD) (t : Fin cfg0.N) (r : Fin 1920) (n : Fin 2048) :
    (k0_pay2 (iblk m c 0 t : Vec Ideal S1920x2048 .f32) (ix2 r n) : BitVec 8) = Target.codes (argX m c) (argG m c) (ix2 r n) := by
  have h := pay2_at (iblk m c 0 t : Vec Ideal S1920x2048 .f32) r n
  rw [iblk_x, V_codes] at h
  exact h

/-- The product the reference writes. -/
theorem y_entry (c : Dev nD) (t : Fin cfg0.N) (r : Fin 1920) (o : Fin 1536) (X : Vec Ideal S1920x2048 .f32) (B : Vec Ideal S512x1536 .i8) (S : Vec Ideal S1920x1 .f32) (T : Elt Ideal .f32)
    (hX : ∀ n, (X (ix2 r n) : EReal) = V m c main_v149 (ix2 r n)) (hB : ∀ k, (B (ix2 k o) : BitVec 8) = Target.wt (argW m c) k o) (hS : (S (ix2 r 0) : EReal) = V m c main_v150 (ix2 r 0))
    (hT : (T : EReal) = Target.wstep (argS m c)) :
    (k0_pay1 (k0_pay2 X) (k0_pay3 X B B) (k0_pay4 (F := Ideal) B) k0_pay5 B S T (ix2 r o) : EReal) = Target.y (argX m c) (argG m c) (argW m c) (argS m c) (ix2 r o) := by
  have hc : ∀ n : Fin 2048, (FloatOps.fptosi (F := Ideal) (φ := .f32) 8 (X (ix2 r n)) : BitVec 8) = (fun n => Row.codes (Target.row (argX m c) (r.val / 384) (r.val % 384)) (Target.gain (argG m c)) n) n.val := by
    intro n
    have h := V_codes m c r n
    rw [← hX n] at h
    exact h
  refine (y_at X B S T r o hc (W := fun k => Target.wt (argW m c) k o) hB).trans ?_
  rw [hS, V_rows, hT]
  rfl

/-- The codes. -/
theorem final_codes (c : Dev nD) : (dats m 0 c).arrAt 5 cfg0.N = Target.codes (argX m c) (argG m c) := by
  refine (dats m 0 c).arrAt_eq_of_covers 5 _ (by decide +kernel) fun t hf y => ?_
  blk_simp
  rw [after0_5]
  unfold outsAt0
  frame_out
  rw [read_unread_whole]
  refine Eq.trans ?_ (congrArg (Target.codes (argX m c) (argG m c)) (emb5 t y)).symm
  obtain ⟨r, n, rfl⟩ : ∃ r n, y = ix2 r n := ⟨y 0, y 1, eq_ix2 y⟩
  exact codes_at m c t r n

/-- The product. -/
theorem final_y (c : Dev nD) : (dats m 0 c).arrAt 4 cfg0.N = Target.y (argX m c) (argG m c) (argW m c) (argS m c) := by
  refine (dats m 0 c).arrAt_eq_of_covers 4 _ (by decide +kernel) fun t hf y => ?_
  blk_simp
  rw [after0_4]
  unfold outsAt0
  frame_out
  rw [read_unread_whole, read_unread_whole, read_unread_whole, read_unread_whole]
  refine Eq.trans ?_ (congrArg (Target.y (argX m c) (argG m c) (argW m c) (argS m c)) (emb4 t y)).symm
  obtain ⟨r, o, rfl⟩ : ∃ r o, y = ix2 r o := ⟨y 0, y 1, eq_ix2 y⟩
  refine y_entry m c t r o _ _ _ _ (fun n => iblk_x m c t r n) (fun k => iblk_w m c t k o) (iblk_rows m c t r) ?_
  refine (congrArg (iblk m c 3 t) (eq_ix1 _)).trans ?_
  exact iblk_ws m c t _

/-- The run: the product, the codes and the steps, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v151_0) = Target.y (argX m c) (argG m c) (argW m c) (argS m c)
      ∧ r.2.mem ((c.tc : Thread nD τ).loc main_v151_1) = Target.codes (argX m c) (argG m c)
      ∧ r.2.mem ((c.tc : Thread nD τ).loc main_v143) = Target.scales (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(post4 m r h c).trans (final_y m c), (post5 m r h c).trans (final_codes m c),
      ((h c).2 main_v143 (Pipeline.mem_restRefs_of main_v143 (by decide) (by decide))).trans (V_scales m c),
      kept_main_arg0 m r h c, kept_main_arg1 m r h c, kept_main_arg2 m r h c, kept_main_arg3 m r h c⟩) (run_main m ρ)

end Cert.ReferenceIdeal.Value

end
-- ==== Proof.lean ====
/- The claim: every run of the kernel, of the kernel over the extended reals and of the reference ends, with the
   arguments as they were; and over the extended reals the kernel's three results are the reference's, from any
   memories that agree on the arguments. -/
module

public import proofs.«01_k».proof.Defs
public import proofs.«01_k».proof.Proof.AtBits.Launch
public import proofs.«01_k».proof.Proof.Launch
public import proofs.«01_k».proof.Proof.Final
public import proofs.«01_k».proof.Proof.RefFinal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL Idealize.SL.Sem

/-- Both programs run from memories that agree on the arguments, and end with the same three results: the product,
    the codes and the steps of `Target`, at the kernel's arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Target.y (Cert.KernelIdeal.Body.argX m c) (Cert.KernelIdeal.Body.argG m c) (Cert.KernelIdeal.Body.argW m c) (Cert.KernelIdeal.Body.argS m c),
    fun c => Target.codes (Cert.KernelIdeal.Body.argX m c) (Cert.KernelIdeal.Body.argG m c), fun c => Target.scales (Cert.KernelIdeal.Body.argX m c) (Cert.KernelIdeal.Body.argG m c),
    Cert.KernelIdeal.Value.run m g, ?_⟩
  refine (θ_run _ _ _).mono (fun r h c => ?_) (Cert.ReferenceIdeal.Value.run m' g')
  obtain ⟨h0, h1, h2, hk⟩ := h c
  obtain ⟨a0, a1, a2, a3⟩ := hargs c
  have e0 : Cert.ReferenceIdeal.Value.argX m' c = Cert.KernelIdeal.Body.argX m c := a0
  have e1 : Cert.ReferenceIdeal.Value.argG m' c = Cert.KernelIdeal.Body.argG m c := a1
  have e2 : Cert.ReferenceIdeal.Value.argW m' c = Cert.KernelIdeal.Body.argW m c := a2
  have e3 : Cert.ReferenceIdeal.Value.argS m' c = Cert.KernelIdeal.Body.argS m c := a3
  rw [e0, e1, e2, e3] at h0
  rw [e0, e1] at h1 h2
  exact ⟨h0, h1, h2, hk⟩

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Gen.frame m ρ, trivial, algebraic⟩

end Cert.Proof

end
